-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_PreMix (m : (ℓ : Loc Cert.PreMix.nD Cert.PreMix.τ Cert.PreMix.sig) → Buf (Elt Bits) ℓ) : Prop :=
  True

def Pre_PreMixIdeal (m : (ℓ : Loc Cert.PreMixIdeal.nD Cert.PreMixIdeal.τ Cert.PreMixIdeal.sig) → Buf (Elt Ideal) ℓ) : Prop :=
  True

def Pre_PreMixRefIdeal (m : (ℓ : Loc Cert.PreMixRefIdeal.nD Cert.PreMixRefIdeal.τ Cert.PreMixRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_PreMix [hPreMix : Cert.PreMix.Facts] : Prop :=
  ∀ (m : (ℓ : Loc Cert.PreMix.nD Cert.PreMix.τ Cert.PreMix.sig) → Buf (Elt Bits) ℓ) (g : Dev Cert.PreMix.nD → PrngReg), Pre_PreMix m →
    θ_run (Cert.PreMix.defs (F := Bits)) (onTc (τ := Cert.PreMix.τ) (Cert.PreMix.main (F := Bits))) ⟨m, fun _ => 0, g⟩ (fun r => (∀ c : Dev Cert.PreMix.nD,
      r.2.mem ((c.tc : Thread Cert.PreMix.nD Cert.PreMix.τ).loc Cert.PreMix.main_arg0) = m ((c.tc : Thread Cert.PreMix.nD Cert.PreMix.τ).loc Cert.PreMix.main_arg0)
      ∧ r.2.mem ((c.tc : Thread Cert.PreMix.nD Cert.PreMix.τ).loc Cert.PreMix.main_arg1) = m ((c.tc : Thread Cert.PreMix.nD Cert.PreMix.τ).loc Cert.PreMix.main_arg1)
      ∧ r.2.mem ((c.tc : Thread Cert.PreMix.nD Cert.PreMix.τ).loc Cert.PreMix.main_arg2) = m ((c.tc : Thread Cert.PreMix.nD Cert.PreMix.τ).loc Cert.PreMix.main_arg2)
      ∧ r.2.mem ((c.tc : Thread Cert.PreMix.nD Cert.PreMix.τ).loc Cert.PreMix.main_arg3) = m ((c.tc : Thread Cert.PreMix.nD Cert.PreMix.τ).loc Cert.PreMix.main_arg3)
      ∧ r.2.mem ((c.tc : Thread Cert.PreMix.nD Cert.PreMix.τ).loc Cert.PreMix.main_arg4) = m ((c.tc : Thread Cert.PreMix.nD Cert.PreMix.τ).loc Cert.PreMix.main_arg4)
      ∧ r.2.mem ((c.tc : Thread Cert.PreMix.nD Cert.PreMix.τ).loc Cert.PreMix.main_arg5) = m ((c.tc : Thread Cert.PreMix.nD Cert.PreMix.τ).loc Cert.PreMix.main_arg5)
      ∧ r.2.mem ((c.tc : Thread Cert.PreMix.nD Cert.PreMix.τ).loc Cert.PreMix.main_arg6) = m ((c.tc : Thread Cert.PreMix.nD Cert.PreMix.τ).loc Cert.PreMix.main_arg6)
      ∧ r.2.mem ((c.tc : Thread Cert.PreMix.nD Cert.PreMix.τ).loc Cert.PreMix.main_arg7) = m ((c.tc : Thread Cert.PreMix.nD Cert.PreMix.τ).loc Cert.PreMix.main_arg7)
      ∧ r.2.mem ((c.tc : Thread Cert.PreMix.nD Cert.PreMix.τ).loc Cert.PreMix.main_arg8) = m ((c.tc : Thread Cert.PreMix.nD Cert.PreMix.τ).loc Cert.PreMix.main_arg8))
      ∧ r.2.sem = fun _ => 0)

def quiescent_PreMixIdeal [hPreMixIdeal : Cert.PreMixIdeal.Facts] : Prop :=
  ∀ (m : (ℓ : Loc Cert.PreMixIdeal.nD Cert.PreMixIdeal.τ Cert.PreMixIdeal.sig) → Buf (Elt Ideal) ℓ) (g : Dev Cert.PreMixIdeal.nD → PrngReg), Pre_PreMixIdeal m →
    θ_run (Cert.PreMixIdeal.defs (F := Ideal)) (onTc (τ := Cert.PreMixIdeal.τ) (Cert.PreMixIdeal.main (F := Ideal))) ⟨m, fun _ => 0, g⟩ (fun r => (∀ c : Dev Cert.PreMixIdeal.nD,
      r.2.mem ((c.tc : Thread Cert.PreMixIdeal.nD Cert.PreMixIdeal.τ).loc Cert.PreMixIdeal.main_arg0) = m ((c.tc : Thread Cert.PreMixIdeal.nD Cert.PreMixIdeal.τ).loc Cert.PreMixIdeal.main_arg0)
      ∧ r.2.mem ((c.tc : Thread Cert.PreMixIdeal.nD Cert.PreMixIdeal.τ).loc Cert.PreMixIdeal.main_arg1) = m ((c.tc : Thread Cert.PreMixIdeal.nD Cert.PreMixIdeal.τ).loc Cert.PreMixIdeal.main_arg1)
      ∧ r.2.mem ((c.tc : Thread Cert.PreMixIdeal.nD Cert.PreMixIdeal.τ).loc Cert.PreMixIdeal.main_arg2) = m ((c.tc : Thread Cert.PreMixIdeal.nD Cert.PreMixIdeal.τ).loc Cert.PreMixIdeal.main_arg2)
      ∧ r.2.mem ((c.tc : Thread Cert.PreMixIdeal.nD Cert.PreMixIdeal.τ).loc Cert.PreMixIdeal.main_arg3) = m ((c.tc : Thread Cert.PreMixIdeal.nD Cert.PreMixIdeal.τ).loc Cert.PreMixIdeal.main_arg3)
      ∧ r.2.mem ((c.tc : Thread Cert.PreMixIdeal.nD Cert.PreMixIdeal.τ).loc Cert.PreMixIdeal.main_arg4) = m ((c.tc : Thread Cert.PreMixIdeal.nD Cert.PreMixIdeal.τ).loc Cert.PreMixIdeal.main_arg4)
      ∧ r.2.mem ((c.tc : Thread Cert.PreMixIdeal.nD Cert.PreMixIdeal.τ).loc Cert.PreMixIdeal.main_arg5) = m ((c.tc : Thread Cert.PreMixIdeal.nD Cert.PreMixIdeal.τ).loc Cert.PreMixIdeal.main_arg5)
      ∧ r.2.mem ((c.tc : Thread Cert.PreMixIdeal.nD Cert.PreMixIdeal.τ).loc Cert.PreMixIdeal.main_arg6) = m ((c.tc : Thread Cert.PreMixIdeal.nD Cert.PreMixIdeal.τ).loc Cert.PreMixIdeal.main_arg6)
      ∧ r.2.mem ((c.tc : Thread Cert.PreMixIdeal.nD Cert.PreMixIdeal.τ).loc Cert.PreMixIdeal.main_arg7) = m ((c.tc : Thread Cert.PreMixIdeal.nD Cert.PreMixIdeal.τ).loc Cert.PreMixIdeal.main_arg7)
      ∧ r.2.mem ((c.tc : Thread Cert.PreMixIdeal.nD Cert.PreMixIdeal.τ).loc Cert.PreMixIdeal.main_arg8) = m ((c.tc : Thread Cert.PreMixIdeal.nD Cert.PreMixIdeal.τ).loc Cert.PreMixIdeal.main_arg8))
      ∧ r.2.sem = fun _ => 0)

def quiescent_PreMixRefIdeal [hPreMixRefIdeal : Cert.PreMixRefIdeal.Facts] : Prop :=
  ∀ (m : (ℓ : Loc Cert.PreMixRefIdeal.nD Cert.PreMixRefIdeal.τ Cert.PreMixRefIdeal.sig) → Buf (Elt Ideal) ℓ) (g : Dev Cert.PreMixRefIdeal.nD → PrngReg), Pre_PreMixRefIdeal m →
    θ_run (Cert.PreMixRefIdeal.defs (F := Ideal)) (onTc (τ := Cert.PreMixRefIdeal.τ) (Cert.PreMixRefIdeal.main (F := Ideal))) ⟨m, fun _ => 0, g⟩ (fun r => (∀ c : Dev Cert.PreMixRefIdeal.nD,
      r.2.mem ((c.tc : Thread Cert.PreMixRefIdeal.nD Cert.PreMixRefIdeal.τ).loc Cert.PreMixRefIdeal.main_arg0) = m ((c.tc : Thread Cert.PreMixRefIdeal.nD Cert.PreMixRefIdeal.τ).loc Cert.PreMixRefIdeal.main_arg0)
      ∧ r.2.mem ((c.tc : Thread Cert.PreMixRefIdeal.nD Cert.PreMixRefIdeal.τ).loc Cert.PreMixRefIdeal.main_arg1) = m ((c.tc : Thread Cert.PreMixRefIdeal.nD Cert.PreMixRefIdeal.τ).loc Cert.PreMixRefIdeal.main_arg1)
      ∧ r.2.mem ((c.tc : Thread Cert.PreMixRefIdeal.nD Cert.PreMixRefIdeal.τ).loc Cert.PreMixRefIdeal.main_arg2) = m ((c.tc : Thread Cert.PreMixRefIdeal.nD Cert.PreMixRefIdeal.τ).loc Cert.PreMixRefIdeal.main_arg2)
      ∧ r.2.mem ((c.tc : Thread Cert.PreMixRefIdeal.nD Cert.PreMixRefIdeal.τ).loc Cert.PreMixRefIdeal.main_arg3) = m ((c.tc : Thread Cert.PreMixRefIdeal.nD Cert.PreMixRefIdeal.τ).loc Cert.PreMixRefIdeal.main_arg3)
      ∧ r.2.mem ((c.tc : Thread Cert.PreMixRefIdeal.nD Cert.PreMixRefIdeal.τ).loc Cert.PreMixRefIdeal.main_arg4) = m ((c.tc : Thread Cert.PreMixRefIdeal.nD Cert.PreMixRefIdeal.τ).loc Cert.PreMixRefIdeal.main_arg4)
      ∧ r.2.mem ((c.tc : Thread Cert.PreMixRefIdeal.nD Cert.PreMixRefIdeal.τ).loc Cert.PreMixRefIdeal.main_arg5) = m ((c.tc : Thread Cert.PreMixRefIdeal.nD Cert.PreMixRefIdeal.τ).loc Cert.PreMixRefIdeal.main_arg5)
      ∧ r.2.mem ((c.tc : Thread Cert.PreMixRefIdeal.nD Cert.PreMixRefIdeal.τ).loc Cert.PreMixRefIdeal.main_arg6) = m ((c.tc : Thread Cert.PreMixRefIdeal.nD Cert.PreMixRefIdeal.τ).loc Cert.PreMixRefIdeal.main_arg6)
      ∧ r.2.mem ((c.tc : Thread Cert.PreMixRefIdeal.nD Cert.PreMixRefIdeal.τ).loc Cert.PreMixRefIdeal.main_arg7) = m ((c.tc : Thread Cert.PreMixRefIdeal.nD Cert.PreMixRefIdeal.τ).loc Cert.PreMixRefIdeal.main_arg7)
      ∧ r.2.mem ((c.tc : Thread Cert.PreMixRefIdeal.nD Cert.PreMixRefIdeal.τ).loc Cert.PreMixRefIdeal.main_arg8) = m ((c.tc : Thread Cert.PreMixRefIdeal.nD Cert.PreMixRefIdeal.τ).loc Cert.PreMixRefIdeal.main_arg8))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale_log2e" .f32 0x3E16C740#32 (((3424635 / 33554432) * (Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v3)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v3) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v18) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v15)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v15) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v44) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v3)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v3) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v22) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v3_0)) (v1 : (c : Dev Cert.OutProjIdeal.nD) → Buf (Elt Ideal) ((c.tc : Thread Cert.OutProjIdeal.nD Cert.OutProjIdeal.τ).loc Cert.OutProjIdeal.main_v3_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3_0) = v0 c
          ∧ r.2.mem ((c.tc : Thread Cert.OutProjIdeal.nD Cert.OutProjIdeal.τ).loc Cert.OutProjIdeal.main_v3_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v15) = v0 c
          ∧ r.2.mem ((c.tc : Thread Cert.OutProjRefIdeal.nD Cert.OutProjRefIdeal.τ).loc Cert.OutProjRefIdeal.main_v29) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_PreMix_PreMixIdeal : Prop :=
  True

def algebraic_PreMixIdeal_PreMixRefIdeal [hPreMixIdeal : Cert.PreMixIdeal.Facts] [hPreMixRefIdeal : Cert.PreMixRefIdeal.Facts] : Prop :=
  ∀ (m : (ℓ : Loc Cert.PreMixIdeal.nD Cert.PreMixIdeal.τ Cert.PreMixIdeal.sig) → Buf (Elt Ideal) ℓ) (g : Dev Cert.PreMixIdeal.nD → PrngReg)
    (m' : (ℓ : Loc Cert.PreMixRefIdeal.nD Cert.PreMixRefIdeal.τ Cert.PreMixRefIdeal.sig) → Buf (Elt Ideal) ℓ) (g' : Dev Cert.PreMixRefIdeal.nD → PrngReg), Pre_PreMixIdeal m →
    (∀ c : Dev Cert.PreMixIdeal.nD,
      m' ((c.tc : Thread Cert.PreMixRefIdeal.nD Cert.PreMixRefIdeal.τ).loc Cert.PreMixRefIdeal.main_arg0) = m ((c.tc : Thread Cert.PreMixIdeal.nD Cert.PreMixIdeal.τ).loc Cert.PreMixIdeal.main_arg0)
      ∧ m' ((c.tc : Thread Cert.PreMixRefIdeal.nD Cert.PreMixRefIdeal.τ).loc Cert.PreMixRefIdeal.main_arg1) = m ((c.tc : Thread Cert.PreMixIdeal.nD Cert.PreMixIdeal.τ).loc Cert.PreMixIdeal.main_arg1)
      ∧ m' ((c.tc : Thread Cert.PreMixRefIdeal.nD Cert.PreMixRefIdeal.τ).loc Cert.PreMixRefIdeal.main_arg2) = m ((c.tc : Thread Cert.PreMixIdeal.nD Cert.PreMixIdeal.τ).loc Cert.PreMixIdeal.main_arg2)
      ∧ m' ((c.tc : Thread Cert.PreMixRefIdeal.nD Cert.PreMixRefIdeal.τ).loc Cert.PreMixRefIdeal.main_arg3) = m ((c.tc : Thread Cert.PreMixIdeal.nD Cert.PreMixIdeal.τ).loc Cert.PreMixIdeal.main_arg3)
      ∧ m' ((c.tc : Thread Cert.PreMixRefIdeal.nD Cert.PreMixRefIdeal.τ).loc Cert.PreMixRefIdeal.main_arg4) = m ((c.tc : Thread Cert.PreMixIdeal.nD Cert.PreMixIdeal.τ).loc Cert.PreMixIdeal.main_arg4)
      ∧ m' ((c.tc : Thread Cert.PreMixRefIdeal.nD Cert.PreMixRefIdeal.τ).loc Cert.PreMixRefIdeal.main_arg5) = m ((c.tc : Thread Cert.PreMixIdeal.nD Cert.PreMixIdeal.τ).loc Cert.PreMixIdeal.main_arg5)
      ∧ m' ((c.tc : Thread Cert.PreMixRefIdeal.nD Cert.PreMixRefIdeal.τ).loc Cert.PreMixRefIdeal.main_arg6) = m ((c.tc : Thread Cert.PreMixIdeal.nD Cert.PreMixIdeal.τ).loc Cert.PreMixIdeal.main_arg6)
      ∧ m' ((c.tc : Thread Cert.PreMixRefIdeal.nD Cert.PreMixRefIdeal.τ).loc Cert.PreMixRefIdeal.main_arg7) = m ((c.tc : Thread Cert.PreMixIdeal.nD Cert.PreMixIdeal.τ).loc Cert.PreMixIdeal.main_arg7)
      ∧ m' ((c.tc : Thread Cert.PreMixRefIdeal.nD Cert.PreMixRefIdeal.τ).loc Cert.PreMixRefIdeal.main_arg8) = m ((c.tc : Thread Cert.PreMixIdeal.nD Cert.PreMixIdeal.τ).loc Cert.PreMixIdeal.main_arg8)) →
    ∃ (v0 : (c : Dev Cert.PreMixIdeal.nD) → Buf (Elt Ideal) ((c.tc : Thread Cert.PreMixIdeal.nD Cert.PreMixIdeal.τ).loc Cert.PreMixIdeal.main_v6_0)) (v1 : (c : Dev Cert.PreMixIdeal.nD) → Buf (Elt Ideal) ((c.tc : Thread Cert.PreMixIdeal.nD Cert.PreMixIdeal.τ).loc Cert.PreMixIdeal.main_v6_1)) (v2 : (c : Dev Cert.PreMixIdeal.nD) → Buf (Elt Ideal) ((c.tc : Thread Cert.PreMixIdeal.nD Cert.PreMixIdeal.τ).loc Cert.PreMixIdeal.main_v6_2)) (v3 : (c : Dev Cert.PreMixIdeal.nD) → Buf (Elt Ideal) ((c.tc : Thread Cert.PreMixIdeal.nD Cert.PreMixIdeal.τ).loc Cert.PreMixIdeal.main_v6_3)) (v4 : (c : Dev Cert.PreMixIdeal.nD) → Buf (Elt Ideal) ((c.tc : Thread Cert.PreMixIdeal.nD Cert.PreMixIdeal.τ).loc Cert.PreMixIdeal.main_v6_4)) (v5 : (c : Dev Cert.PreMixIdeal.nD) → Buf (Elt Ideal) ((c.tc : Thread Cert.PreMixIdeal.nD Cert.PreMixIdeal.τ).loc Cert.PreMixIdeal.main_v6_5)) (v6 : (c : Dev Cert.PreMixIdeal.nD) → Buf (Elt Ideal) ((c.tc : Thread Cert.PreMixIdeal.nD Cert.PreMixIdeal.τ).loc Cert.PreMixIdeal.main_v6_6)) (v7 : (c : Dev Cert.PreMixIdeal.nD) → Buf (Elt Ideal) ((c.tc : Thread Cert.PreMixIdeal.nD Cert.PreMixIdeal.τ).loc Cert.PreMixIdeal.main_v6_7)) (v8 : (c : Dev Cert.PreMixIdeal.nD) → Buf (Elt Ideal) ((c.tc : Thread Cert.PreMixIdeal.nD Cert.PreMixIdeal.τ).loc Cert.PreMixIdeal.main_v6_8)) (v9 : (c : Dev Cert.PreMixIdeal.nD) → Buf (Elt Ideal) ((c.tc : Thread Cert.PreMixIdeal.nD Cert.PreMixIdeal.τ).loc Cert.PreMixIdeal.main_v6_9)) (v10 : (c : Dev Cert.PreMixIdeal.nD) → Buf (Elt Ideal) ((c.tc : Thread Cert.PreMixIdeal.nD Cert.PreMixIdeal.τ).loc Cert.PreMixIdeal.main_v6_10)) (v11 : (c : Dev Cert.PreMixIdeal.nD) → Buf (Elt Ideal) ((c.tc : Thread Cert.PreMixIdeal.nD Cert.PreMixIdeal.τ).loc Cert.PreMixIdeal.main_v6_11)) (v12 : (c : Dev Cert.PreMixIdeal.nD) → Buf (Elt Ideal) ((c.tc : Thread Cert.PreMixIdeal.nD Cert.PreMixIdeal.τ).loc Cert.PreMixIdeal.main_v6_12)) (v13 : (c : Dev Cert.PreMixIdeal.nD) → Buf (Elt Ideal) ((c.tc : Thread Cert.PreMixIdeal.nD Cert.PreMixIdeal.τ).loc Cert.PreMixIdeal.main_v6_13)) (v14 : (c : Dev Cert.PreMixIdeal.nD) → Buf (Elt Ideal) ((c.tc : Thread Cert.PreMixIdeal.nD Cert.PreMixIdeal.τ).loc Cert.PreMixIdeal.main_v6_14)) (v15 : (c : Dev Cert.PreMixIdeal.nD) → Buf (Elt Ideal) ((c.tc : Thread Cert.PreMixIdeal.nD Cert.PreMixIdeal.τ).loc Cert.PreMixIdeal.main_v6_15)),
      θ_run (Cert.PreMixIdeal.defs (F := Ideal)) (onTc (τ := Cert.PreMixIdeal.τ) (Cert.PreMixIdeal.main (F := Ideal))) ⟨m, fun _ => 0, g⟩ (fun r => ∀ c : Dev Cert.PreMixIdeal.nD,
          r.2.mem ((c.tc : Thread Cert.PreMixIdeal.nD Cert.PreMixIdeal.τ).loc Cert.PreMixIdeal.main_v6_0) = v0 c
          ∧ r.2.mem ((c.tc : Thread Cert.PreMixIdeal.nD Cert.PreMixIdeal.τ).loc Cert.PreMixIdeal.main_v6_1) = v1 c
          ∧ r.2.mem ((c.tc : Thread Cert.PreMixIdeal.nD Cert.PreMixIdeal.τ).loc Cert.PreMixIdeal.main_v6_2) = v2 c
          ∧ r.2.mem ((c.tc : Thread Cert.PreMixIdeal.nD Cert.PreMixIdeal.τ).loc Cert.PreMixIdeal.main_v6_3) = v3 c
          ∧ r.2.mem ((c.tc : Thread Cert.PreMixIdeal.nD Cert.PreMixIdeal.τ).loc Cert.PreMixIdeal.main_v6_4) = v4 c
          ∧ r.2.mem ((c.tc : Thread Cert.PreMixIdeal.nD Cert.PreMixIdeal.τ).loc Cert.PreMixIdeal.main_v6_5) = v5 c
          ∧ r.2.mem ((c.tc : Thread Cert.PreMixIdeal.nD Cert.PreMixIdeal.τ).loc Cert.PreMixIdeal.main_v6_6) = v6 c
          ∧ r.2.mem ((c.tc : Thread Cert.PreMixIdeal.nD Cert.PreMixIdeal.τ).loc Cert.PreMixIdeal.main_v6_7) = v7 c
          ∧ r.2.mem ((c.tc : Thread Cert.PreMixIdeal.nD Cert.PreMixIdeal.τ).loc Cert.PreMixIdeal.main_v6_8) = v8 c
          ∧ r.2.mem ((c.tc : Thread Cert.PreMixIdeal.nD Cert.PreMixIdeal.τ).loc Cert.PreMixIdeal.main_v6_9) = v9 c
          ∧ r.2.mem ((c.tc : Thread Cert.PreMixIdeal.nD Cert.PreMixIdeal.τ).loc Cert.PreMixIdeal.main_v6_10) = v10 c
          ∧ r.2.mem ((c.tc : Thread Cert.PreMixIdeal.nD Cert.PreMixIdeal.τ).loc Cert.PreMixIdeal.main_v6_11) = v11 c
          ∧ r.2.mem ((c.tc : Thread Cert.PreMixIdeal.nD Cert.PreMixIdeal.τ).loc Cert.PreMixIdeal.main_v6_12) = v12 c
          ∧ r.2.mem ((c.tc : Thread Cert.PreMixIdeal.nD Cert.PreMixIdeal.τ).loc Cert.PreMixIdeal.main_v6_13) = v13 c
          ∧ r.2.mem ((c.tc : Thread Cert.PreMixIdeal.nD Cert.PreMixIdeal.τ).loc Cert.PreMixIdeal.main_v6_14) = v14 c
          ∧ r.2.mem ((c.tc : Thread Cert.PreMixIdeal.nD Cert.PreMixIdeal.τ).loc Cert.PreMixIdeal.main_v6_15) = v15 c
          ∧ r.2.mem ((c.tc : Thread Cert.PreMixIdeal.nD Cert.PreMixIdeal.τ).loc Cert.PreMixIdeal.main_arg0) = m ((c.tc : Thread Cert.PreMixIdeal.nD Cert.PreMixIdeal.τ).loc Cert.PreMixIdeal.main_arg0)
          ∧ r.2.mem ((c.tc : Thread Cert.PreMixIdeal.nD Cert.PreMixIdeal.τ).loc Cert.PreMixIdeal.main_arg1) = m ((c.tc : Thread Cert.PreMixIdeal.nD Cert.PreMixIdeal.τ).loc Cert.PreMixIdeal.main_arg1)
          ∧ r.2.mem ((c.tc : Thread Cert.PreMixIdeal.nD Cert.PreMixIdeal.τ).loc Cert.PreMixIdeal.main_arg2) = m ((c.tc : Thread Cert.PreMixIdeal.nD Cert.PreMixIdeal.τ).loc Cert.PreMixIdeal.main_arg2)
          ∧ r.2.mem ((c.tc : Thread Cert.PreMixIdeal.nD Cert.PreMixIdeal.τ).loc Cert.PreMixIdeal.main_arg3) = m ((c.tc : Thread Cert.PreMixIdeal.nD Cert.PreMixIdeal.τ).loc Cert.PreMixIdeal.main_arg3)
          ∧ r.2.mem ((c.tc : Thread Cert.PreMixIdeal.nD Cert.PreMixIdeal.τ).loc Cert.PreMixIdeal.main_arg4) = m ((c.tc : Thread Cert.PreMixIdeal.nD Cert.PreMixIdeal.τ).loc Cert.PreMixIdeal.main_arg4)
          ∧ r.2.mem ((c.tc : Thread Cert.PreMixIdeal.nD Cert.PreMixIdeal.τ).loc Cert.PreMixIdeal.main_arg5) = m ((c.tc : Thread Cert.PreMixIdeal.nD Cert.PreMixIdeal.τ).loc Cert.PreMixIdeal.main_arg5)
          ∧ r.2.mem ((c.tc : Thread Cert.PreMixIdeal.nD Cert.PreMixIdeal.τ).loc Cert.PreMixIdeal.main_arg6) = m ((c.tc : Thread Cert.PreMixIdeal.nD Cert.PreMixIdeal.τ).loc Cert.PreMixIdeal.main_arg6)
          ∧ r.2.mem ((c.tc : Thread Cert.PreMixIdeal.nD Cert.PreMixIdeal.τ).loc Cert.PreMixIdeal.main_arg7) = m ((c.tc : Thread Cert.PreMixIdeal.nD Cert.PreMixIdeal.τ).loc Cert.PreMixIdeal.main_arg7)
          ∧ r.2.mem ((c.tc : Thread Cert.PreMixIdeal.nD Cert.PreMixIdeal.τ).loc Cert.PreMixIdeal.main_arg8) = m ((c.tc : Thread Cert.PreMixIdeal.nD Cert.PreMixIdeal.τ).loc Cert.PreMixIdeal.main_arg8))
      ∧ θ_run (Cert.PreMixRefIdeal.defs (F := Ideal)) (onTc (τ := Cert.PreMixRefIdeal.τ) (Cert.PreMixRefIdeal.main (F := Ideal))) ⟨m', fun _ => 0, g'⟩ (fun r => ∀ c : Dev Cert.PreMixRefIdeal.nD,
          r.2.mem ((c.tc : Thread Cert.PreMixRefIdeal.nD Cert.PreMixRefIdeal.τ).loc Cert.PreMixRefIdeal.main_v36) = v0 c
          ∧ r.2.mem ((c.tc : Thread Cert.PreMixRefIdeal.nD Cert.PreMixRefIdeal.τ).loc Cert.PreMixRefIdeal.main_v90) = v1 c
          ∧ r.2.mem ((c.tc : Thread Cert.PreMixRefIdeal.nD Cert.PreMixRefIdeal.τ).loc Cert.PreMixRefIdeal.main_v19) = v2 c
          ∧ r.2.mem ((c.tc : Thread Cert.PreMixRefIdeal.nD Cert.PreMixRefIdeal.τ).loc Cert.PreMixRefIdeal.main_v20) = v3 c
          ∧ r.2.mem ((c.tc : Thread Cert.PreMixRefIdeal.nD Cert.PreMixRefIdeal.τ).loc Cert.PreMixRefIdeal.main_v22) = v4 c
          ∧ r.2.mem ((c.tc : Thread Cert.PreMixRefIdeal.nD Cert.PreMixRefIdeal.τ).loc Cert.PreMixRefIdeal.main_v23) = v5 c
          ∧ r.2.mem ((c.tc : Thread Cert.PreMixRefIdeal.nD Cert.PreMixRefIdeal.τ).loc Cert.PreMixRefIdeal.main_v92) = v6 c
          ∧ r.2.mem ((c.tc : Thread Cert.PreMixRefIdeal.nD Cert.PreMixRefIdeal.τ).loc Cert.PreMixRefIdeal.main_v94) = v7 c
          ∧ r.2.mem ((c.tc : Thread Cert.PreMixRefIdeal.nD Cert.PreMixRefIdeal.τ).loc Cert.PreMixRefIdeal.main_v95) = v8 c
          ∧ r.2.mem ((c.tc : Thread Cert.PreMixRefIdeal.nD Cert.PreMixRefIdeal.τ).loc Cert.PreMixRefIdeal.main_v97) = v9 c
          ∧ r.2.mem ((c.tc : Thread Cert.PreMixRefIdeal.nD Cert.PreMixRefIdeal.τ).loc Cert.PreMixRefIdeal.main_v98) = v10 c
          ∧ r.2.mem ((c.tc : Thread Cert.PreMixRefIdeal.nD Cert.PreMixRefIdeal.τ).loc Cert.PreMixRefIdeal.main_v100) = v11 c
          ∧ r.2.mem ((c.tc : Thread Cert.PreMixRefIdeal.nD Cert.PreMixRefIdeal.τ).loc Cert.PreMixRefIdeal.main_v104) = v12 c
          ∧ r.2.mem ((c.tc : Thread Cert.PreMixRefIdeal.nD Cert.PreMixRefIdeal.τ).loc Cert.PreMixRefIdeal.main_v107) = v13 c
          ∧ r.2.mem ((c.tc : Thread Cert.PreMixRefIdeal.nD Cert.PreMixRefIdeal.τ).loc Cert.PreMixRefIdeal.main_v110) = v14 c
          ∧ r.2.mem ((c.tc : Thread Cert.PreMixRefIdeal.nD Cert.PreMixRefIdeal.τ).loc Cert.PreMixRefIdeal.main_v112) = v15 c
          ∧ r.2.mem ((c.tc : Thread Cert.PreMixRefIdeal.nD Cert.PreMixRefIdeal.τ).loc Cert.PreMixRefIdeal.main_arg0) = m' ((c.tc : Thread Cert.PreMixRefIdeal.nD Cert.PreMixRefIdeal.τ).loc Cert.PreMixRefIdeal.main_arg0)
          ∧ r.2.mem ((c.tc : Thread Cert.PreMixRefIdeal.nD Cert.PreMixRefIdeal.τ).loc Cert.PreMixRefIdeal.main_arg1) = m' ((c.tc : Thread Cert.PreMixRefIdeal.nD Cert.PreMixRefIdeal.τ).loc Cert.PreMixRefIdeal.main_arg1)
          ∧ r.2.mem ((c.tc : Thread Cert.PreMixRefIdeal.nD Cert.PreMixRefIdeal.τ).loc Cert.PreMixRefIdeal.main_arg2) = m' ((c.tc : Thread Cert.PreMixRefIdeal.nD Cert.PreMixRefIdeal.τ).loc Cert.PreMixRefIdeal.main_arg2)
          ∧ r.2.mem ((c.tc : Thread Cert.PreMixRefIdeal.nD Cert.PreMixRefIdeal.τ).loc Cert.PreMixRefIdeal.main_arg3) = m' ((c.tc : Thread Cert.PreMixRefIdeal.nD Cert.PreMixRefIdeal.τ).loc Cert.PreMixRefIdeal.main_arg3)
          ∧ r.2.mem ((c.tc : Thread Cert.PreMixRefIdeal.nD Cert.PreMixRefIdeal.τ).loc Cert.PreMixRefIdeal.main_arg4) = m' ((c.tc : Thread Cert.PreMixRefIdeal.nD Cert.PreMixRefIdeal.τ).loc Cert.PreMixRefIdeal.main_arg4)
          ∧ r.2.mem ((c.tc : Thread Cert.PreMixRefIdeal.nD Cert.PreMixRefIdeal.τ).loc Cert.PreMixRefIdeal.main_arg5) = m' ((c.tc : Thread Cert.PreMixRefIdeal.nD Cert.PreMixRefIdeal.τ).loc Cert.PreMixRefIdeal.main_arg5)
          ∧ r.2.mem ((c.tc : Thread Cert.PreMixRefIdeal.nD Cert.PreMixRefIdeal.τ).loc Cert.PreMixRefIdeal.main_arg6) = m' ((c.tc : Thread Cert.PreMixRefIdeal.nD Cert.PreMixRefIdeal.τ).loc Cert.PreMixRefIdeal.main_arg6)
          ∧ r.2.mem ((c.tc : Thread Cert.PreMixRefIdeal.nD Cert.PreMixRefIdeal.τ).loc Cert.PreMixRefIdeal.main_arg7) = m' ((c.tc : Thread Cert.PreMixRefIdeal.nD Cert.PreMixRefIdeal.τ).loc Cert.PreMixRefIdeal.main_arg7)
          ∧ r.2.mem ((c.tc : Thread Cert.PreMixRefIdeal.nD Cert.PreMixRefIdeal.τ).loc Cert.PreMixRefIdeal.main_arg8) = m' ((c.tc : Thread Cert.PreMixRefIdeal.nD Cert.PreMixRefIdeal.τ).loc Cert.PreMixRefIdeal.main_arg8))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpRefIdeal : Cert.MlpRefIdeal.Facts) (hMerge : Cert.Merge.Facts) (hMergeIdeal : Cert.MergeIdeal.Facts) (hMergeRefIdeal : Cert.MergeRefIdeal.Facts) (hPle : Cert.Ple.Facts) (hPleIdeal : Cert.PleIdeal.Facts) (hPleRefIdeal : Cert.PleRefIdeal.Facts) (hOutProj : Cert.OutProj.Facts) (hOutProjIdeal : Cert.OutProjIdeal.Facts) (hOutProjRefIdeal : Cert.OutProjRefIdeal.Facts) (hPreMix : Cert.PreMix.Facts) (hPreMixIdeal : Cert.PreMixIdeal.Facts) (hPreMixRefIdeal : Cert.PreMixRefIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Mlp (hMlp := hMlp)
    ∧ quiescent_MlpIdeal (hMlpIdeal := hMlpIdeal)
    ∧ quiescent_MlpRefIdeal (hMlpRefIdeal := hMlpRefIdeal)
    ∧ quiescent_Merge (hMerge := hMerge)
    ∧ quiescent_MergeIdeal (hMergeIdeal := hMergeIdeal)
    ∧ quiescent_MergeRefIdeal (hMergeRefIdeal := hMergeRefIdeal)
    ∧ quiescent_Ple (hPle := hPle)
    ∧ quiescent_PleIdeal (hPleIdeal := hPleIdeal)
    ∧ quiescent_PleRefIdeal (hPleRefIdeal := hPleRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_PreMix (hPreMix := hPreMix)
    ∧ quiescent_PreMixIdeal (hPreMixIdeal := hPreMixIdeal)
    ∧ quiescent_PreMixRefIdeal (hPreMixRefIdeal := hPreMixRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Mlp_MlpIdeal
    ∧ algebraic_MlpIdeal_MlpRefIdeal (hMlpIdeal := hMlpIdeal) (hMlpRefIdeal := hMlpRefIdeal)
    ∧ preserves_Merge_MergeIdeal
    ∧ algebraic_MergeIdeal_MergeRefIdeal (hMergeIdeal := hMergeIdeal) (hMergeRefIdeal := hMergeRefIdeal)
    ∧ preserves_Ple_PleIdeal
    ∧ algebraic_PleIdeal_PleRefIdeal (hPleIdeal := hPleIdeal) (hPleRefIdeal := hPleRefIdeal)
    ∧ preserves_OutProj_OutProjIdeal
    ∧ algebraic_OutProjIdeal_OutProjRefIdeal (hOutProjIdeal := hOutProjIdeal) (hOutProjRefIdeal := hOutProjRefIdeal)
    ∧ preserves_PreMix_PreMixIdeal
    ∧ algebraic_PreMixIdeal_PreMixRefIdeal (hPreMixIdeal := hPreMixIdeal) (hPreMixRefIdeal := hPreMixRefIdeal)
-- ==== Pre_finite_scores.lean ====
abbrev S65536x256 : Shape := ⟨2, ![65536, 256]⟩
abbrev S8192x256 : Shape := ⟨2, ![8192, 256]⟩
abbrev S128x8192 : Shape := ⟨2, ![128, 8192]⟩
abbrev S128x1024 : Shape := ⟨2, ![128, 1024]⟩
abbrev S_ : Shape := ⟨0, ![]⟩
abbrev S8x8192x256 : Shape := ⟨3, ![8, 8192, 256]⟩
abbrev S1x8192x256 : Shape := ⟨3, ![1, 8192, 256]⟩

class Facts : Prop where
  bitsLt_bf16_f32 : FTy.bits .bf16 < FTy.bits .f32
  bcast_S_S65536x256 : S_.BroadcastsInDim S65536x256 (![] : Fin 0 → Fin S65536x256.rank)
  shapeCasts_S65536x256_S8x8192x256 : S65536x256.ShapeCasts S8x8192x256
  bcast_S_S8192x256 : S_.BroadcastsInDim S8192x256 (![] : Fin 0 → Fin S8192x256.rank)
  bcast_S8192x256_S1x8192x256_1_2 : S8192x256.BroadcastsInDim S1x8192x256 (![1, 2] : Fin 2 → Fin S1x8192x256.rank)
  bcast_S1x8192x256_S8x8192x256_0_1_2 : S1x8192x256.BroadcastsInDim S8x8192x256 (![0, 1, 2] : Fin 3 → Fin S8x8192x256.rank)

variable [Facts]

def fn {F : FTy → Type} [FloatOps F] (main_arg0 : FVec F S65536x256 .bf16) (main_arg1 : FVec F S8192x256 .bf16) (main_arg2 : FVec F S128x8192 .bf16) (main_arg3 : FVec F S128x1024 .f32) : IVec S8x8192x256 1 :=
  let main_v0 : FVec F S65536x256 .f32 := (extf .f32 · bitsLt_bf16_f32) main_arg0
  let main_v1 : FVec F S65536x256 .f32 := Host.absf main_v0
  let main_cst : FVec F S_ .f32 := constant S_ .f32 0x7F800000#32
  let main_v2 : FVec F S65536x256 .f32 := broadcastInDim S65536x256 ![] bcast_S_S65536x256 main_cst
  let main_v3 : IVec S65536x256 1 := cmpf .olt main_v1 main_v2
  let main_v4 : IVec S8x8192x256 1 := shapeCast S8x8192x256 main_v3 shapeCasts_S65536x256_S8x8192x256
  let main_v5 : FVec F S8192x256 .f32 := (extf .f32 · bitsLt_bf16_f32) main_arg1
  let main_v6 : FVec F S8192x256 .f32 := Host.absf main_v5
  let main_cst_0 : FVec F S_ .f32 := constant S_ .f32 0x7F800000#32
  let main_v7 : FVec F S8192x256 .f32 := broadcastInDim S8192x256 ![] bcast_S_S8192x256 main_cst_0
  let main_v8 : IVec S8192x256 1 := cmpf .olt main_v6 main_v7
  let main_v9 : IVec S1x8192x256 1 := broadcastInDim S1x8192x256 ![1, 2] bcast_S8192x256_S1x8192x256_1_2 main_v8
  let main_v10 : IVec S8x8192x256 1 := broadcastInDim S8x8192x256 ![0, 1, 2] bcast_S1x8192x256_S8x8192x256_0_1_2 main_v9
  let main_v11 : IVec S8x8192x256 1 := andi main_v4 main_v10
  main_v11
-- ==== Kernel.lean ====
abbrev S65536x256 : Shape := ⟨2, ![65536, 256]⟩
abbrev S8192x256 : Shape := ⟨2, ![8192, 256]⟩
abbrev S128x8192 : Shape := ⟨2, ![128, 8192]⟩
abbrev S128x1024 : Shape := ⟨2, ![128, 1024]⟩
abbrev S136 : Shape := ⟨1, ![136]⟩
abbrev S128x8x128 : Shape := ⟨3, ![128, 8, 128]⟩
abbrev S128x8x64 : Shape := ⟨3, ![128, 8, 64]⟩
abbrev S8x128x64 : Shape := ⟨3, ![8, 128, 64]⟩
abbrev S1x128x64 : Shape := ⟨3, ![1, 128, 64]⟩
abbrev S128x64 : Shape := ⟨2, ![128, 64]⟩
abbrev S_ : Shape := ⟨0, ![]⟩
abbrev S128x128 : Shape := ⟨2, ![128, 128]⟩
abbrev S256x128 : Shape := ⟨2, ![256, 128]⟩
abbrev S1x256x128 : Shape := ⟨3, ![1, 256, 128]⟩
abbrev S4x256x128 : Shape := ⟨3, ![4, 256, 128]⟩
abbrev S8192x512 : Shape := ⟨2, ![8192, 512]⟩
abbrev S2048x256 : Shape := ⟨2, ![2048, 256]⟩
abbrev S1 : Shape := ⟨1, ![1]⟩
abbrev S256x256 : Shape := ⟨2, ![256, 256]⟩
abbrev S128x256 : Shape := ⟨2, ![128, 256]⟩
abbrev S256x512 : Shape := ⟨2, ![256, 512]⟩
abbrev S1x2048 : Shape := ⟨2, ![1, 2048]⟩
abbrev S128x2048 : Shape := ⟨2, ![128, 2048]⟩
abbrev S512x256 : Shape := ⟨2, ![512, 256]⟩
abbrev S1x512 : Shape := ⟨2, ![1, 512]⟩
abbrev S512 : Shape := ⟨1, ![512]⟩
abbrev S128x512 : Shape := ⟨2, ![128, 512]⟩
abbrev S1x256 : Shape := ⟨2, ![1, 256]⟩

abbrev nBuf : Space → Nat
  | .hbm => 46
  | .vmem => 12
  | .smem => 2
  | _ => 0

abbrev bufTy : (tb : Table) → Fin (tcTables nBuf tb) → BufTy
  | .hbm, ⟨0, _⟩ => ⟨S65536x256, .bf16⟩
  | .hbm, ⟨1, _⟩ => ⟨S8192x256, .bf16⟩
  | .hbm, ⟨2, _⟩ => ⟨S128x8192, .bf16⟩
  | .hbm, ⟨3, _⟩ => ⟨S128x1024, .f32⟩
  | .hbm, ⟨4, _⟩ => ⟨S128x8x128, .f32⟩
  | .hbm, ⟨5, _⟩ => ⟨S128x8x64, .f32⟩
  | .hbm, ⟨6, _⟩ => ⟨S8x128x64, .f32⟩
  | .hbm, ⟨7, _⟩ => ⟨S1x128x64, .f32⟩
  | .hbm, ⟨8, _⟩ => ⟨S128x64, .f32⟩
  | .hbm, ⟨9, _⟩ => ⟨S_, .f32⟩
  | .hbm, ⟨10, _⟩ => ⟨S128x64, .f32⟩
  | .hbm, ⟨11, _⟩ => ⟨S1x128x64, .f32⟩
  | .hbm, ⟨12, _⟩ => ⟨S128x64, .f32⟩
  | .hbm, ⟨13, _⟩ => ⟨S128x128, .f32⟩
  | .hbm, ⟨14, _⟩ => ⟨S1x128x64, .f32⟩
  | .hbm, ⟨15, _⟩ => ⟨S128x64, .f32⟩
  | .hbm, ⟨16, _⟩ => ⟨S128x128, .f32⟩
  | .hbm, ⟨17, _⟩ => ⟨S256x128, .f32⟩
  | .hbm, ⟨18, _⟩ => ⟨S1x128x64, .f32⟩
  | .hbm, ⟨19, _⟩ => ⟨S128x64, .f32⟩
  | .hbm, ⟨20, _⟩ => ⟨S128x128, .f32⟩
  | .hbm, ⟨21, _⟩ => ⟨S1x128x64, .f32⟩
  | .hbm, ⟨22, _⟩ => ⟨S128x64, .f32⟩
  | .hbm, ⟨23, _⟩ => ⟨S128x128, .f32⟩
  | .hbm, ⟨24, _⟩ => ⟨S256x128, .f32⟩
  | .hbm, ⟨25, _⟩ => ⟨S1x128x64, .f32⟩
  | .hbm, ⟨26, _⟩ => ⟨S128x64, .f32⟩
  | .hbm, ⟨27, _⟩ => ⟨S128x128, .f32⟩
  | .hbm, ⟨28, _⟩ => ⟨S1x128x64, .f32⟩
  | .hbm, ⟨29, _⟩ => ⟨S128x64, .f32⟩
  | .hbm, ⟨30, _⟩ => ⟨S128x128, .f32⟩
  | .hbm, ⟨31, _⟩ => ⟨S256x128, .f32⟩
  | .hbm, ⟨32, _⟩ => ⟨S1x128x64, .f32⟩
  | .hbm, ⟨33, _⟩ => ⟨S128x64, .f32⟩
  | .hbm, ⟨34, _⟩ => ⟨S128x128, .f32⟩
  | .hbm, ⟨35, _⟩ => ⟨S1x128x64, .f32⟩
  | .hbm, ⟨36, _⟩ => ⟨S128x64, .f32⟩
  | .hbm, ⟨37, _⟩ => ⟨S128x128, .f32⟩
  | .hbm, ⟨38, _⟩ => ⟨S256x128, .f32⟩
  | .hbm, ⟨39, _⟩ => ⟨S1x256x128, .f32⟩
  | .hbm, ⟨40, _⟩ => ⟨S1x256x128, .f32⟩
  | .hbm, ⟨41, _⟩ => ⟨S1x256x128, .f32⟩
  | .hbm, ⟨42, _⟩ => ⟨S1x256x128, .f32⟩
  | .hbm, ⟨43, _⟩ => ⟨S4x256x128, .f32⟩
  | .hbm, ⟨44, _⟩ => ⟨S4x256x128, .bf16⟩
  | .hbm, ⟨45, _⟩ => ⟨S8192x512, .bf16⟩
  | .local _ .vmem, ⟨0, _⟩ => ⟨S2048x256, .bf16⟩
  | .local _ .vmem, ⟨1, _⟩ => ⟨S2048x256, .bf16⟩
  | .local _ .vmem, ⟨2, _⟩ => ⟨S256x256, .bf16⟩
  | .local _ .vmem, ⟨3, _⟩ => ⟨S256x256, .bf16⟩
  | .local _ .vmem, ⟨4, _⟩ => ⟨S128x256, .bf16⟩
  | .local _ .vmem, ⟨5, _⟩ => ⟨S128x256, .bf16⟩
  | .local _ .vmem, ⟨6, _⟩ => ⟨S4x256x128, .bf16⟩
  | .local _ .vmem, ⟨7, _⟩ => ⟨S256x512, .bf16⟩
  | .local _ .vmem, ⟨8, _⟩ => ⟨S256x512, .bf16⟩
  | .local _ .vmem, ⟨9, _⟩ => ⟨S1x2048, .f32⟩
  | .local _ .vmem, ⟨10, _⟩ => ⟨S1x2048, .f32⟩
  | .local _ .vmem, ⟨11, _⟩ => ⟨S128x2048, .f32⟩
  | .local _ .smem, ⟨0, _⟩ => ⟨S136, .i32⟩
  | .local _ .smem, ⟨1, _⟩ => ⟨S136, .i32⟩
  | _, _ => ⟨S65536x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 136], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v1 : Index := Scalar.indexCast arg1
  ![v1.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : Index := Scalar.indexCast arg1
  let v2 : BitVec 32 := pf.at 0 (Rect.unit (s := S136) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : Index := Scalar.indexCast arg1
  let v2 : BitVec 32 := pf.at 1 (Rect.unit (s := S136) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_2 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : Index := Scalar.indexCast arg1
  let v2 : BitVec 32 := pf.at 1 (Rect.unit (s := S136) ![v1.toNat] S1.size (k0_off1_inb i)) numel1_S1
  let v3 : BitVec 32 := Scalar.addi v0 v2
  let c0_i32 : BitVec 32 := 0#32
  let c0_i32_0 : BitVec 32 := 0#32
  ![c0_i32.toNat, v3.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : Index := Scalar.indexCast arg1
  let v2 : BitVec 32 := pf.at 0 (Rect.unit (s := S136) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | "scale_log2e" => some (((3424635 / 33554432) * (Real.log 2)⁻¹ : ℝ) : EReal)
  | _ => none
-- ==== ReferenceIdeal.lean ====
abbrev S65536x256 : Shape := ⟨2, ![65536, 256]⟩
abbrev S8192x256 : Shape := ⟨2, ![8192, 256]⟩
abbrev S128x8192 : Shape := ⟨2, ![128, 8192]⟩
abbrev S128x1024 : Shape := ⟨2, ![128, 1024]⟩
abbrev S2x16x8x256x256 : Shape := ⟨5, ![2, 16, 8, 256, 256]⟩
abbrev S2x16x256x8x256 : Shape := ⟨5, ![2, 16, 256, 8, 256]⟩
abbrev S2x4096x8x256 : Shape := ⟨4, ![2, 4096, 8, 256]⟩
abbrev S2x4096x8x128 : Shape := ⟨4, ![2, 4096, 8, 128]⟩
abbrev S2x4096x256 : Shape := ⟨3, ![2, 4096, 256]⟩
abbrev S2x4096x128 : Shape := ⟨3, ![2, 4096, 128]⟩
abbrev S8192x128 : Shape := ⟨2, ![8192, 128]⟩
abbrev S4096 : Shape := ⟨1, ![4096]⟩
abbrev S2x4096x4096x8 : Shape := ⟨4, ![2, 4096, 4096, 8]⟩
abbrev S2x8x4096x4096 : Shape := ⟨4, ![2, 8, 4096, 4096]⟩
abbrev S1x1x1x4096 : Shape := ⟨4, ![1, 1, 1, 4096]⟩
abbrev S1x1x4096x1 : Shape := ⟨4, ![1, 1, 4096, 1]⟩
abbrev S1x1x4096x4096 : Shape := ⟨4, ![1, 1, 4096, 4096]⟩
abbrev S_ : Shape := ⟨0, ![]⟩
abbrev S2x8x4096 : Shape := ⟨3, ![2, 8, 4096]⟩
abbrev S2x8x4096x1 : Shape := ⟨4, ![2, 8, 4096, 1]⟩
abbrev S2x128x8x4096 : Shape := ⟨4, ![2, 128, 8, 4096]⟩
abbrev S128x8x128 : Shape := ⟨3, ![128, 8, 128]⟩
abbrev S128x8x64 : Shape := ⟨3, ![128, 8, 64]⟩
abbrev S8x64x2x4096 : Shape := ⟨4, ![8, 64, 2, 4096]⟩
abbrev S2x4096x8x64 : Shape := ⟨4, ![2, 4096, 8, 64]⟩
abbrev S8192x512 : Shape := ⟨2, ![8192, 512]⟩

abbrev nBuf : Space → Nat
  | .hbm => 58
  | .vmem => 0
  | .smem => 0
  | _ => 0

abbrev bufTy : (tb : Table) → Fin (tcTables nBuf tb) → BufTy
  | .hbm, ⟨0, _⟩ => ⟨S65536x256, .bf16⟩
  | .hbm, ⟨1, _⟩ => ⟨S8192x256, .bf16⟩
  | .hbm, ⟨2, _⟩ => ⟨S128x8192, .bf16⟩
  | .hbm, ⟨3, _⟩ => ⟨S128x1024, .f32⟩
  | .hbm, ⟨4, _⟩ => ⟨S65536x256, .f32⟩
  | .hbm, ⟨5, _⟩ => ⟨S2x16x8x256x256, .f32⟩
  | .hbm, ⟨6, _⟩ => ⟨S2x16x256x8x256, .f32⟩
  | .hbm, ⟨7, _⟩ => ⟨S2x4096x8x256, .f32⟩
  | .hbm, ⟨8, _⟩ => ⟨S2x4096x8x128, .f32⟩
  | .hbm, ⟨9, _⟩ => ⟨S2x4096x8x128, .f32⟩
  | .hbm, ⟨10, _⟩ => ⟨S8192x256, .f32⟩
  | .hbm, ⟨11, _⟩ => ⟨S2x4096x256, .f32⟩
  | .hbm, ⟨12, _⟩ => ⟨S2x4096x128, .f32⟩
  | .hbm, ⟨13, _⟩ => ⟨S2x4096x128, .f32⟩
  | .hbm, ⟨14, _⟩ => ⟨S128x8192, .f32⟩
  | .hbm, ⟨15, _⟩ => ⟨S8192x128, .f32⟩
  | .hbm, ⟨16, _⟩ => ⟨S2x4096x128, .f32⟩
  | .hbm, ⟨17, _⟩ => ⟨S4096, .i32⟩
  | .hbm, ⟨18, _⟩ => ⟨S2x4096x4096x8, .f32⟩
  | .hbm, ⟨19, _⟩ => ⟨S2x8x4096x4096, .f32⟩
  | .hbm, ⟨20, _⟩ => ⟨S2x4096x4096x8, .f32⟩
  | .hbm, ⟨21, _⟩ => ⟨S2x8x4096x4096, .f32⟩
  | .hbm, ⟨22, _⟩ => ⟨S2x8x4096x4096, .f32⟩
  | .hbm, ⟨23, _⟩ => ⟨S1x1x1x4096, .i32⟩
  | .hbm, ⟨24, _⟩ => ⟨S1x1x4096x1, .i32⟩
  | .hbm, ⟨25, _⟩ => ⟨S1x1x4096x4096, .i32⟩
  | .hbm, ⟨26, _⟩ => ⟨S1x1x4096x4096, .i32⟩
  | .hbm, ⟨27, _⟩ => ⟨S1x1x4096x4096, .i1⟩
  | .hbm, ⟨28, _⟩ => ⟨S_, .f32⟩
  | .hbm, ⟨29, _⟩ => ⟨S2x8x4096x4096, .f32⟩
  | .hbm, ⟨30, _⟩ => ⟨S2x8x4096x4096, .f32⟩
  | .hbm, ⟨31, _⟩ => ⟨S_, .f32⟩
  | .hbm, ⟨32, _⟩ => ⟨S_, .f32⟩
  | .hbm, ⟨33, _⟩ => ⟨S2x8x4096x4096, .i1⟩
  | .hbm, ⟨34, _⟩ => ⟨S2x8x4096x4096, .f32⟩
  | .hbm, ⟨35, _⟩ => ⟨S2x8x4096x4096, .f32⟩
  | .hbm, ⟨36, _⟩ => ⟨S_, .f32⟩
  | .hbm, ⟨37, _⟩ => ⟨S2x8x4096, .f32⟩
  | .hbm, ⟨38, _⟩ => ⟨S_, .f32⟩
  | .hbm, ⟨39, _⟩ => ⟨S2x8x4096, .f32⟩
  | .hbm, ⟨40, _⟩ => ⟨S2x8x4096, .f32⟩
  | .hbm, ⟨41, _⟩ => ⟨S2x8x4096x1, .f32⟩
  | .hbm, ⟨42, _⟩ => ⟨S2x8x4096x4096, .f32⟩
  | .hbm, ⟨43, _⟩ => ⟨S2x8x4096x4096, .f32⟩
  | .hbm, ⟨44, _⟩ => ⟨S2x8x4096x4096, .f32⟩
  | .hbm, ⟨45, _⟩ => ⟨S_, .f32⟩
  | .hbm, ⟨46, _⟩ => ⟨S2x8x4096, .f32⟩
  | .hbm, ⟨47, _⟩ => ⟨S2x8x4096x1, .f32⟩
  | .hbm, ⟨48, _⟩ => ⟨S2x8x4096x4096, .f32⟩
  | .hbm, ⟨49, _⟩ => ⟨S2x8x4096x4096, .f32⟩
  | .hbm, ⟨50, _⟩ => ⟨S2x128x8x4096, .f32⟩
  | .hbm, ⟨51, _⟩ => ⟨S2x4096x8x128, .f32⟩
  | .hbm, ⟨52, _⟩ => ⟨S128x8x128, .f32⟩
  | .hbm, ⟨53, _⟩ => ⟨S128x8x64, .f32⟩
  | .hbm, ⟨54, _⟩ => ⟨S8x64x2x4096, .f32⟩
  | .hbm, ⟨55, _⟩ => ⟨S2x4096x8x64, .f32⟩
  | .hbm, ⟨56, _⟩ => ⟨S8192x512, .f32⟩
  | .hbm, ⟨57, _⟩ => ⟨S8192x512, .bf16⟩
  | _, _ => ⟨S65536x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst : Ref sig .tc := ⟨.hbm, 28, rfl⟩
abbrev main_v24 : Ref sig .tc := ⟨.hbm, 29, rfl⟩
abbrev main_v25 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩

abbrev nD : Nat := 1
abbrev τ : Topo := Topo.v7x

variable {F : FTy → Type} [FloatOps F]
-- ==== Mlp.lean ====
abbrev S8192x2048 : Shape := ⟨2, ![8192, 2048]⟩
abbrev S2048x8192 : Shape := ⟨2, ![2048, 8192]⟩
abbrev S2048 : Shape := ⟨1, ![2048]⟩
abbrev S1x2048 : Shape := ⟨2, ![1, 2048]⟩
abbrev S512x2048 : Shape := ⟨2, ![512, 2048]⟩
abbrev S2048x1024 : Shape := ⟨2, ![2048, 1024]⟩
abbrev S1024x2048 : Shape := ⟨2, ![1024, 2048]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S2048, .f32⟩
  | .hbm, ⟨5, _⟩ => ⟨S2048x8192, .bf16⟩
  | .hbm, ⟨6, _⟩ => ⟨S8192x2048, .bf16⟩
  | .hbm, ⟨7, _⟩ => ⟨S1x2048, .f32⟩
  | .hbm, ⟨8, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpRefIdeal.lean ====
abbrev S8192x2048 : Shape := ⟨2, ![8192, 2048]⟩
abbrev S2048x8192 : Shape := ⟨2, ![2048, 8192]⟩
abbrev S2048 : Shape := ⟨1, ![2048]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S1x2048, .f32⟩
  | .hbm, ⟨26, _⟩ => ⟨S8192x2048, .f32⟩
  | .hbm, ⟨27, _⟩ => ⟨S8192x2048, .f32⟩
  | .hbm, ⟨28, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Merge.lean ====
abbrev S8192x2048 : Shape := ⟨2, ![8192, 2048]⟩
abbrev S2048 : Shape := ⟨1, ![2048]⟩
abbrev S8192x512 : Shape := ⟨2, ![8192, 512]⟩
abbrev S2048x6144 : Shape := ⟨2, ![2048, 6144]⟩
abbrev S6144 : Shape := ⟨1, ![6144]⟩
abbrev S512x2048 : Shape := ⟨2, ![512, 2048]⟩
abbrev S64x2048 : Shape := ⟨2, ![64, 2048]⟩
abbrev S1x2048 : Shape := ⟨2, ![1, 2048]⟩
abbrev S1x6144 : Shape := ⟨2, ![1, 6144]⟩
abbrev S512x512 : Shape := ⟨2, ![512, 512]⟩
abbrev S2048x512 : Shape := ⟨2, ![2048, 512]⟩
abbrev S1x512 : Shape := ⟨2, ![1, 512]⟩
abbrev S512 : Shape := ⟨1, ![512]⟩
abbrev S512x1 : Shape := ⟨2, ![512, 1]⟩

abbrev nBuf : Space → Nat
  | .hbm => 26
  | .vmem => 30
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S2048x6144, .f32⟩
  | .hbm, ⟨6, _⟩ => ⟨S6144, .f32⟩
  | .hbm, ⟨7, _⟩ => ⟨S512x2048, .f32⟩
  | .hbm, ⟨8, _⟩ => ⟨S512x2048, .f32⟩
  | .hbm, ⟨9, _⟩ => ⟨S512x2048, .f32⟩
  | .hbm, ⟨10, _⟩ => ⟨S64x2048, .f32⟩
  | .hbm, ⟨11, _⟩ => ⟨S64x2048, .f32⟩
  | .hbm, ⟨12, _⟩ => ⟨S64x2048, .f32⟩
  | .hbm, ⟨13, _⟩ => ⟨S64x2048, .f32⟩
  | .hbm, ⟨14, _⟩ => ⟨S64x2048, .f32⟩
  | .hbm, ⟨15, _⟩ => ⟨S64x2048, .f32⟩
  | .hbm, ⟨16, _⟩ => ⟨S64x2048, .f32⟩
  | .hbm, ⟨17, _⟩ => ⟨S64x2048, .f32⟩
  | .hbm, ⟨18, _⟩ => ⟨S512x2048, .f32⟩
  | .hbm, ⟨19, _⟩ => ⟨S512x2048, .bf16⟩
  | .hbm, ⟨20, _⟩ => ⟨S1x2048, .f32⟩
  | .hbm, ⟨21, _⟩ => ⟨S2048x6144, .bf16⟩
  | .hbm, ⟨22, _⟩ => ⟨S1x6144, .f32⟩
  | .hbm, ⟨23, _⟩ => ⟨S512x2048, .bf16⟩
  | .hbm, ⟨24, _⟩ => ⟨S512x2048, .bf16⟩
  | .hbm, ⟨25, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== MergeRefIdeal.lean ====
abbrev S8192x2048 : Shape := ⟨2, ![8192, 2048]⟩
abbrev S2048 : Shape := ⟨1, ![2048]⟩
abbrev S8192x512 : Shape := ⟨2, ![8192, 512]⟩
abbrev S2048x6144 : Shape := ⟨2, ![2048, 6144]⟩
abbrev S6144 : Shape := ⟨1, ![6144]⟩
abbrev S512x2048 : Shape := ⟨2, ![512, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x6144 : Shape := ⟨2, ![8192, 6144]⟩
abbrev S1x6144 : Shape := ⟨2, ![1, 6144]⟩
abbrev S8192x3x2048 : Shape := ⟨3, ![8192, 3, 2048]⟩
abbrev S8192x4x2x64 : Shape := ⟨4, ![8192, 4, 2, 64]⟩
abbrev S8192x2x4x64 : Shape := ⟨4, ![8192, 2, 4, 64]⟩
abbrev S8192x1x2048 : Shape := ⟨3, ![8192, 1, 2048]⟩

abbrev nBuf : Space → Nat
  | .hbm => 60
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S2048x6144, .f32⟩
  | .hbm, ⟨6, _⟩ => ⟨S6144, .f32⟩
  | .hbm, ⟨7, _⟩ => ⟨S512x2048, .f32⟩
  | .hbm, ⟨8, _⟩ => ⟨S512x2048, .f32⟩
  | .hbm, ⟨9, _⟩ => ⟨S512x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x6144, .f32⟩
  | .hbm, ⟨27, _⟩ => ⟨S1x6144, .f32⟩
  | .hbm, ⟨28, _⟩ => ⟨S8192x6144, .f32⟩
  | .hbm, ⟨29, _⟩ => ⟨S8192x6144, .f32⟩
  | .hbm, ⟨30, _⟩ => ⟨S8192x6144, .f32⟩
  | .hbm, ⟨31, _⟩ => ⟨S8192x6144, .f32⟩
  | .hbm, ⟨32, _⟩ => ⟨S_, .f32⟩
  | .hbm, ⟨33, _⟩ => ⟨S8192x6144, .f32⟩
  | .hbm, ⟨34, _⟩ => ⟨S8192x6144, .f32⟩
  | .hbm, ⟨35, _⟩ => ⟨S_, .f32⟩
  | .hbm, ⟨36, _⟩ => ⟨S8192x6144, .f32⟩
  | .hbm, ⟨37, _⟩ => ⟨S8192x6144, .f32⟩
  | .hbm, ⟨38, _⟩ => ⟨S8192x3x2048, .f32⟩
  | .hbm, ⟨39, _⟩ => ⟨S8192x4x2x64, .bf16⟩
  | .hbm, ⟨40, _⟩ => ⟨S8192x2x4x64, .bf16⟩
  | .hbm, ⟨41, _⟩ => ⟨S8192x512, .bf16⟩
  | .hbm, ⟨42, _⟩ => ⟨S8192x1x2048, .f32⟩
  | .hbm, ⟨43, _⟩ => ⟨S8192x2048, .f32⟩
  | .hbm, ⟨44, _⟩ => ⟨S8192x512, .f32⟩
  | .hbm, ⟨45, _⟩ => ⟨S8192x2048, .f32⟩
  | .hbm, ⟨46, _⟩ => ⟨S8192x2048, .f32⟩
  | .hbm, ⟨47, _⟩ => ⟨S8192x1x2048, .f32⟩
  | .hbm, ⟨48, _⟩ => ⟨S8192x2048, .f32⟩
  | .hbm, ⟨49, _⟩ => ⟨S8192x512, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x1x2048, .f32⟩
  | .hbm, ⟨54, _⟩ => ⟨S8192x2048, .f32⟩
  | .hbm, ⟨55, _⟩ => ⟨S8192x512, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Ple.lean ====
abbrev S8192x2048 : Shape := ⟨2, ![8192, 2048]⟩
abbrev S8192x256 : Shape := ⟨2, ![8192, 256]⟩
abbrev S2048 : Shape := ⟨1, ![2048]⟩
abbrev S2048x2048 : Shape := ⟨2, ![2048, 2048]⟩
abbrev S256x2048 : Shape := ⟨2, ![256, 2048]⟩
abbrev S1x2048 : Shape := ⟨2, ![1, 2048]⟩
abbrev S256x256 : Shape := ⟨2, ![256, 256]⟩
abbrev S256 : Shape := ⟨1, ![256]⟩
abbrev S256x1 : Shape := ⟨2, ![256, 1]⟩

abbrev nBuf : Space → Nat
  | .hbm => 9
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x256, .f32⟩
  | .hbm, ⟨2, _⟩ => ⟨S2048, .f32⟩
  | .hbm, ⟨3, _⟩ => ⟨S2048x2048, .f32⟩
  | .hbm, ⟨4, _⟩ => ⟨S256x2048, .f32⟩
  | .hbm, ⟨5, _⟩ => ⟨S1x2048, .f32⟩
  | .hbm, ⟨6, _⟩ => ⟨S2048x2048, .bf16⟩
  | .hbm, ⟨7, _⟩ => ⟨S256x2048, .bf16⟩
  | .hbm, ⟨8, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x256, .f32⟩
  | .local _ .vmem, ⟨3, _⟩ => ⟨S256x256, .f32⟩
  | .local _ .vmem, ⟨4, _⟩ => ⟨S1x2048, .f32⟩
  | .local _ .vmem, ⟨5, _⟩ => ⟨S2048x2048, .bf16⟩
  | .local _ .vmem, ⟨6, _⟩ => ⟨S256x2048, .bf16⟩
  | .local _ .vmem, ⟨7, _⟩ => ⟨S256x2048, .f32⟩
  | .local _ .vmem, ⟨8, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PleRefIdeal.lean ====
abbrev S8192x2048 : Shape := ⟨2, ![8192, 2048]⟩
abbrev S8192x256 : Shape := ⟨2, ![8192, 256]⟩
abbrev S2048 : Shape := ⟨1, ![2048]⟩
abbrev S2048x2048 : Shape := ⟨2, ![2048, 2048]⟩
abbrev S256x2048 : Shape := ⟨2, ![256, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x256, .f32⟩
  | .hbm, ⟨2, _⟩ => ⟨S2048, .f32⟩
  | .hbm, ⟨3, _⟩ => ⟨S2048x2048, .f32⟩
  | .hbm, ⟨4, _⟩ => ⟨S256x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== OutProj.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S1x2048, .f32⟩
  | .hbm, ⟨8, _⟩ => ⟨S8192x2048, .f32⟩
  | .hbm, ⟨9, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S2048x2048, .bf16⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutProjRefIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S1x2048, .f32⟩
  | .hbm, ⟨38, _⟩ => ⟨S8192x2048, .f32⟩
  | .hbm, ⟨39, _⟩ => ⟨S8192x2048, .f32⟩
  | .hbm, ⟨40, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== PreMix.lean ====
abbrev S8192x2048 : Shape := ⟨2, ![8192, 2048]⟩
abbrev S2048 : Shape := ⟨1, ![2048]⟩
abbrev S2048x2304 : Shape := ⟨2, ![2048, 2304]⟩
abbrev S384 : Shape := ⟨1, ![384]⟩
abbrev S128 : Shape := ⟨1, ![128]⟩
abbrev S384x3072 : Shape := ⟨2, ![384, 3072]⟩
abbrev S8x128x128 : Shape := ⟨3, ![8, 128, 128]⟩
abbrev S8192x128 : Shape := ⟨2, ![8192, 128]⟩
abbrev S1x2048 : Shape := ⟨2, ![1, 2048]⟩
abbrev S1x384 : Shape := ⟨2, ![1, 384]⟩
abbrev S1x128 : Shape := ⟨2, ![1, 128]⟩
abbrev S8192x32 : Shape := ⟨2, ![8192, 32]⟩
abbrev S8192x256 : Shape := ⟨2, ![8192, 256]⟩
abbrev S128x8192 : Shape := ⟨2, ![128, 8192]⟩
abbrev S32x8x256x256 : Shape := ⟨4, ![32, 8, 256, 256]⟩
abbrev S32x8x256x128 : Shape := ⟨4, ![32, 8, 256, 128]⟩
abbrev S32x8x128 : Shape := ⟨3, ![32, 8, 128]⟩
abbrev S256x2048 : Shape := ⟨2, ![256, 2048]⟩
abbrev S256x128 : Shape := ⟨2, ![256, 128]⟩
abbrev S256x32 : Shape := ⟨2, ![256, 32]⟩
abbrev S256x256 : Shape := ⟨2, ![256, 256]⟩
abbrev S128x256 : Shape := ⟨2, ![128, 256]⟩
abbrev S1x8x256x256 : Shape := ⟨4, ![1, 8, 256, 256]⟩
abbrev S1x8x256x128 : Shape := ⟨4, ![1, 8, 256, 128]⟩
abbrev S1x8x128 : Shape := ⟨3, ![1, 8, 128]⟩
abbrev S256 : Shape := ⟨1, ![256]⟩
abbrev S256x1 : Shape := ⟨2, ![256, 1]⟩
abbrev S256x2304 : Shape := ⟨2, ![256, 2304]⟩
abbrev S1x1x256x128 : Shape := ⟨4, ![1, 1, 256, 128]⟩
abbrev S1x256x128 : Shape := ⟨3, ![1, 256, 128]⟩
abbrev S1x1x128 : Shape := ⟨3, ![1, 1, 128]⟩
abbrev S256x384 : Shape := ⟨2, ![256, 384]⟩
abbrev S256x3072 : Shape := ⟨2, ![256, 3072]⟩
abbrev S1x128x128 : Shape := ⟨3, ![1, 128, 128]⟩
abbrev S128x128 : Shape := ⟨2, ![128, 128]⟩

abbrev nBuf : Space → Nat
  | .hbm => 31
  | .vmem => 44
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2304, .f32⟩
  | .hbm, ⟨3, _⟩ => ⟨S384, .f32⟩
  | .hbm, ⟨4, _⟩ => ⟨S128, .f32⟩
  | .hbm, ⟨5, _⟩ => ⟨S384x3072, .f32⟩
  | .hbm, ⟨6, _⟩ => ⟨S8x128x128, .f32⟩
  | .hbm, ⟨7, _⟩ => ⟨S8192x128, .f32⟩
  | .hbm, ⟨8, _⟩ => ⟨S8192x128, .f32⟩
  | .hbm, ⟨9, _⟩ => ⟨S1x2048, .f32⟩
  | .hbm, ⟨10, _⟩ => ⟨S2048x2304, .bf16⟩
  | .hbm, ⟨11, _⟩ => ⟨S1x384, .f32⟩
  | .hbm, ⟨12, _⟩ => ⟨S1x128, .f32⟩
  | .hbm, ⟨13, _⟩ => ⟨S384x3072, .bf16⟩
  | .hbm, ⟨14, _⟩ => ⟨S8x128x128, .bf16⟩
  | .hbm, ⟨15, _⟩ => ⟨S8192x128, .f32⟩
  | .hbm, ⟨16, _⟩ => ⟨S8192x32, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x256, .bf16⟩
  | .hbm, ⟨22, _⟩ => ⟨S128x8192, .bf16⟩
  | .hbm, ⟨23, _⟩ => ⟨S8192x128, .bf16⟩
  | .hbm, ⟨24, _⟩ => ⟨S128x8192, .bf16⟩
  | .hbm, ⟨25, _⟩ => ⟨S8192x128, .bf16⟩
  | .hbm, ⟨26, _⟩ => ⟨S128x8192, .bf16⟩
  | .hbm, ⟨27, _⟩ => ⟨S32x8x256x256, .bf16⟩
  | .hbm, ⟨28, _⟩ => ⟨S32x8x256x128, .bf16⟩
  | .hbm, ⟨29, _⟩ => ⟨S32x8x256x128, .bf16⟩
  | .hbm, ⟨30, _⟩ => ⟨S32x8x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x2304, .bf16⟩
  | .local _ .vmem, ⟨4, _⟩ => ⟨S1x384, .f32⟩
  | .local _ .vmem, ⟨5, _⟩ => ⟨S1x128, .f32⟩
  | .local _ .vmem, ⟨6, _⟩ => ⟨S384x3072, .bf16⟩
  | .local _ .vmem, ⟨7, _⟩ => ⟨S8x128x128, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x32, .f32⟩
  | .local _ .vmem, ⟨15, _⟩ => ⟨S256x32, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S256x256, .bf16⟩
  | .local _ .vmem, ⟨25, _⟩ => ⟨S256x256, .bf16⟩
  | .local _ .vmem, ⟨26, _⟩ => ⟨S128x256, .bf16⟩
  | .local _ .vmem, ⟨27, _⟩ => ⟨S128x256, .bf16⟩
  | .local _ .vmem, ⟨28, _⟩ => ⟨S256x128, .bf16⟩
  | .local _ .vmem, ⟨29, _⟩ => ⟨S256x128, .bf16⟩
  | .local _ .vmem, ⟨30, _⟩ => ⟨S128x256, .bf16⟩
  | .local _ .vmem, ⟨31, _⟩ => ⟨S128x256, .bf16⟩
  | .local _ .vmem, ⟨32, _⟩ => ⟨S256x128, .bf16⟩
  | .local _ .vmem, ⟨33, _⟩ => ⟨S256x128, .bf16⟩
  | .local _ .vmem, ⟨34, _⟩ => ⟨S128x256, .bf16⟩
  | .local _ .vmem, ⟨35, _⟩ => ⟨S128x256, .bf16⟩
  | .local _ .vmem, ⟨36, _⟩ => ⟨S1x8x256x256, .bf16⟩
  | .local _ .vmem, ⟨37, _⟩ => ⟨S1x8x256x256, .bf16⟩
  | .local _ .vmem, ⟨38, _⟩ => ⟨S1x8x256x128, .bf16⟩
  | .local _ .vmem, ⟨39, _⟩ => ⟨S1x8x256x128, .bf16⟩
  | .local _ .vmem, ⟨40, _⟩ => ⟨S1x8x256x128, .bf16⟩
  | .local _ .vmem, ⟨41, _⟩ => ⟨S1x8x256x128, .bf16⟩
  | .local _ .vmem, ⟨42, _⟩ => ⟨S1x8x128, .f32⟩
  | .local _ .vmem, ⟨43, _⟩ => ⟨S1x8x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev main_v6_5 : Ref sig .tc := ⟨.hbm, 20, rfl⟩
abbrev main_v6_6 : Ref sig .tc := ⟨.hbm, 21, rfl⟩
abbrev main_v6_7 : Ref sig .tc := ⟨.hbm, 22, rfl⟩
abbrev main_v6_8 : Ref sig .tc := ⟨.hbm, 23, rfl⟩
abbrev main_v6_9 : Ref sig .tc := ⟨.hbm, 24, rfl⟩
abbrev main_v6_10 : Ref sig .tc := ⟨.hbm, 25, rfl⟩
abbrev main_v6_11 : Ref sig .tc := ⟨.hbm, 26, rfl⟩
abbrev main_v6_12 : Ref sig .tc := ⟨.hbm, 27, rfl⟩
abbrev main_v6_13 : Ref sig .tc := ⟨.hbm, 28, rfl⟩
abbrev main_v6_14 : Ref sig .tc := ⟨.hbm, 29, rfl⟩
abbrev main_v6_15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_stg23_0 : Ref sig .tc := ⟨.vmem, 40, rfl⟩
abbrev cc0_stg23_1 : Ref sig .tc := ⟨.vmem, 41, rfl⟩
abbrev cc0_stg24_0 : Ref sig .tc := ⟨.vmem, 42, rfl⟩
abbrev cc0_stg24_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37
abbrev cc0_sem22_0 : DmaSem sig := 38
abbrev cc0_sem22_1 : DmaSem sig := 39
abbrev cc0_sem23_0 : DmaSem sig := 40
abbrev cc0_sem23_1 : DmaSem sig := 41
abbrev cc0_sem24_0 : DmaSem sig := 42
abbrev cc0_sem24_1 : DmaSem sig := 43

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_21 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_22 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_23 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S128x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x8x256x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x8x256x128 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x8x256x128 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x8x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== PreMixRefIdeal.lean ====
abbrev S8192x2048 : Shape := ⟨2, ![8192, 2048]⟩
abbrev S2048 : Shape := ⟨1, ![2048]⟩
abbrev S2048x2304 : Shape := ⟨2, ![2048, 2304]⟩
abbrev S384 : Shape := ⟨1, ![384]⟩
abbrev S128 : Shape := ⟨1, ![128]⟩
abbrev S384x3072 : Shape := ⟨2, ![384, 3072]⟩
abbrev S8x128x128 : Shape := ⟨3, ![8, 128, 128]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x2304 : Shape := ⟨2, ![8192, 2304]⟩
abbrev S8192x384 : Shape := ⟨2, ![8192, 384]⟩
abbrev S8192x512 : Shape := ⟨2, ![8192, 512]⟩
abbrev S1x128 : Shape := ⟨2, ![1, 128]⟩
abbrev S1x384 : Shape := ⟨2, ![1, 384]⟩
abbrev S8192x3072 : Shape := ⟨2, ![8192, 3072]⟩
abbrev S8192x1024 : Shape := ⟨2, ![8192, 1024]⟩
abbrev S8192x8x128 : Shape := ⟨3, ![8192, 8, 128]⟩
abbrev S8x128x8192 : Shape := ⟨3, ![8, 128, 8192]⟩
abbrev S8192x1x128 : Shape := ⟨3, ![8192, 1, 128]⟩
abbrev S8192x4x128 : Shape := ⟨3, ![8192, 4, 128]⟩
abbrev S8192x4x64 : Shape := ⟨3, ![8192, 4, 64]⟩
abbrev S8192x8x64 : Shape := ⟨3, ![8192, 8, 64]⟩
abbrev S32x256x128 : Shape := ⟨3, ![32, 256, 128]⟩
abbrev S32x128 : Shape := ⟨2, ![32, 128]⟩
abbrev S8192x32 : Shape := ⟨2, ![8192, 32]⟩
abbrev S8192x256 : Shape := ⟨2, ![8192, 256]⟩
abbrev S128x8192 : Shape := ⟨2, ![128, 8192]⟩
abbrev S8192x8x256 : Shape := ⟨3, ![8192, 8, 256]⟩
abbrev S32x256x8x256 : Shape := ⟨4, ![32, 256, 8, 256]⟩
abbrev S32x8x256x256 : Shape := ⟨4, ![32, 8, 256, 256]⟩
abbrev S32x256x8x128 : Shape := ⟨4, ![32, 256, 8, 128]⟩
abbrev S32x8x256x128 : Shape := ⟨4, ![32, 8, 256, 128]⟩
abbrev S32x1x128 : Shape := ⟨3, ![32, 1, 128]⟩
abbrev S32x8x128 : Shape := ⟨3, ![32, 8, 128]⟩

abbrev nBuf : Space → Nat
  | .hbm => 136
  | .vmem => 0
  | .smem => 0
  | _ => 0

abbrev hbmTy0_0 (i : Nat) : BufTy := match i % 128 with
  | 0 => ⟨S8192x2048, .f32⟩
  | 1 => ⟨S2048, .f32⟩
  | 2 => ⟨S2048x2304, .f32⟩
  | 3 => ⟨S384, .f32⟩
  | 4 => ⟨S128, .f32⟩
  | 5 => ⟨S384x3072, .f32⟩
  | 6 => ⟨S8x128x128, .f32⟩
  | 7 => ⟨S8192x128, .f32⟩
  | 8 => ⟨S8192x128, .f32⟩
  | 9 => ⟨S8192x2048, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S_, .f32⟩
  | 17 => ⟨S8192x1, .f32⟩
  | 18 => ⟨S8192x1, .f32⟩
  | 19 => ⟨S8192x1, .f32⟩
  | 20 => ⟨S8192x2048, .f32⟩
  | 21 => ⟨S8192x2048, .f32⟩
  | 22 => ⟨S1x2048, .f32⟩
  | 23 => ⟨S8192x2048, .f32⟩
  | 24 => ⟨S8192x2048, .f32⟩
  | 25 => ⟨S8192x2304, .f32⟩
  | 26 => ⟨S8192x384, .f32⟩
  | 27 => ⟨S8192x128, .f32⟩
  | 28 => ⟨S8192x128, .f32⟩
  | 29 => ⟨S8192x128, .f32⟩
  | 30 => ⟨S8192x512, .f32⟩
  | 31 => ⟨S8192x128, .f32⟩
  | 32 => ⟨S8192x128, .f32⟩
  | 33 => ⟨S8192x512, .f32⟩
  | 34 => ⟨S8192x128, .f32⟩
  | 35 => ⟨S8192x128, .f32⟩
  | 36 => ⟨S8192x128, .f32⟩
  | 37 => ⟨S_, .f32⟩
  | 38 => ⟨S8192, .f32⟩
  | 39 => ⟨S8192x1, .f32⟩
  | 40 => ⟨S_, .f32⟩
  | 41 => ⟨S8192x1, .f32⟩
  | 42 => ⟨S8192x1, .f32⟩
  | 43 => ⟨S_, .f32⟩
  | 44 => ⟨S8192x1, .f32⟩
  | 45 => ⟨S8192x1, .f32⟩
  | 46 => ⟨S8192x1, .f32⟩
  | 47 => ⟨S8192x128, .f32⟩
  | 48 => ⟨S8192x128, .f32⟩
  | 49 => ⟨S1x128, .f32⟩
  | 50 => ⟨S8192x128, .f32⟩
  | 51 => ⟨S8192x128, .f32⟩
  | 52 => ⟨S8192x128, .f32⟩
  | 53 => ⟨S8192x128, .f32⟩
  | 54 => ⟨S8192x128, .f32⟩
  | 55 => ⟨S8192x384, .f32⟩
  | 56 => ⟨S_, .f32⟩
  | 57 => ⟨S8192, .f32⟩
  | 58 => ⟨S8192x1, .f32⟩
  | 59 => ⟨S_, .f32⟩
  | 60 => ⟨S8192x1, .f32⟩
  | 61 => ⟨S8192x1, .f32⟩
  | 62 => ⟨S_, .f32⟩
  | 63 => ⟨S8192x1, .f32⟩
  | 64 => ⟨S8192x1, .f32⟩
  | 65 => ⟨S8192x1, .f32⟩
  | 66 => ⟨S8192x384, .f32⟩
  | 67 => ⟨S8192x384, .f32⟩
  | 68 => ⟨S1x384, .f32⟩
  | 69 => ⟨S8192x384, .f32⟩
  | 70 => ⟨S8192x384, .f32⟩
  | 71 => ⟨S8192x3072, .f32⟩
  | 72 => ⟨S8192x1024, .f32⟩
  | 73 => ⟨S8192x1024, .f32⟩
  | 74 => ⟨S8192x1024, .f32⟩
  | 75 => ⟨S8192x8x128, .f32⟩
  | 76 => ⟨S8192x8x128, .f32⟩
  | 77 => ⟨S8192x8x128, .f32⟩
  | 78 => ⟨S8x128x8192, .f32⟩
  | 79 => ⟨S8192x8x128, .f32⟩
  | 80 => ⟨S8192x1x128, .f32⟩
  | 81 => ⟨S8192x8x128, .f32⟩
  | 82 => ⟨S8192x8x128, .f32⟩
  | 83 => ⟨S8192x1x128, .f32⟩
  | 84 => ⟨S8192x8x128, .f32⟩
  | 85 => ⟨S8192x8x128, .f32⟩
  | 86 => ⟨S8192x8x128, .f32⟩
  | 87 => ⟨S8192x4x128, .f32⟩
  | 88 => ⟨S_, .f32⟩
  | 89 => ⟨S8192x4x128, .f32⟩
  | 90 => ⟨S8192x4x128, .f32⟩
  | 91 => ⟨S_, .f32⟩
  | 92 => ⟨S8192x4x64, .f32⟩
  | 93 => ⟨S8192x4x64, .f32⟩
  | 94 => ⟨S8192x4x128, .f32⟩
  | 95 => ⟨S8192x4x64, .f32⟩
  | 96 => ⟨S8192x4x128, .f32⟩
  | 97 => ⟨S8192x8x128, .f32⟩
  | 98 => ⟨S8192x8x64, .f32⟩
  | 99 => ⟨S_, .f32⟩
  | 100 => ⟨S8192x8x64, .f32⟩
  | 101 => ⟨S8192x8x64, .f32⟩
  | 102 => ⟨S8192x4x64, .f32⟩
  | 103 => ⟨S8192x4x128, .f32⟩
  | 104 => ⟨S8192x4x64, .f32⟩
  | 105 => ⟨S8192x4x128, .f32⟩
  | 106 => ⟨S8192x8x128, .f32⟩
  | 107 => ⟨S32x256x128, .f32⟩
  | 108 => ⟨S_, .f32⟩
  | 109 => ⟨S32x128, .f32⟩
  | 110 => ⟨S_, .f32⟩
  | 111 => ⟨S32x128, .f32⟩
  | 112 => ⟨S32x128, .f32⟩
  | 113 => ⟨S8192x32, .f32⟩
  | 114 => ⟨S8192x256, .f32⟩
  | 115 => ⟨S8192x256, .bf16⟩
  | 116 => ⟨S128x8192, .f32⟩
  | 117 => ⟨S128x8192, .bf16⟩
  | 118 => ⟨S8192x128, .bf16⟩
  | 119 => ⟨S128x8192, .f32⟩
  | 120 => ⟨S128x8192, .bf16⟩
  | 121 => ⟨S8192x128, .bf16⟩
  | 122 => ⟨S128x8192, .f32⟩
  | 123 => ⟨S128x8192, .bf16⟩
  | 124 => ⟨S8192x8x256, .f32⟩
  | 125 => ⟨S32x256x8x256, .f32⟩
  | 126 => ⟨S32x8x256x256, .f32⟩
  | 127 => ⟨S32x8x256x256, .bf16⟩
  | _ => ⟨S8192x2048, .f32⟩

abbrev hbmTy0_1 (i : Nat) : BufTy := match i % 128 with
  | 0 => ⟨S32x256x8x128, .f32⟩
  | 1 => ⟨S32x8x256x128, .f32⟩
  | 2 => ⟨S32x8x256x128, .bf16⟩
  | 3 => ⟨S32x256x8x128, .f32⟩
  | 4 => ⟨S32x8x256x128, .f32⟩
  | 5 => ⟨S32x8x256x128, .bf16⟩
  | 6 => ⟨S32x1x128, .f32⟩
  | 7 => ⟨S32x8x128, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_8 : Ref sig .tc := ⟨.hbm, 88, rfl⟩
abbrev main_v70 : Ref sig .tc := ⟨.hbm, 89, rfl⟩
abbrev main_v71 : Ref sig .tc := ⟨.hbm, 90, rfl⟩
abbrev main_cst_9 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_10 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_cst_11 : Ref sig .tc := ⟨.hbm, 108, rfl⟩
abbrev main_v87 : Ref sig .tc := ⟨.hbm, 109, rfl⟩
abbrev main_cst_12 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩

abbrev nD : Nat := 1
abbrev τ : Topo := Topo.v7x

variable {F : FTy → Type} [FloatOps F]
-- ==== Proof.K.Run.lean ====
module

public import proofs.«01_k».proof.Proof.K.Base

/-! What the attention body does at one grid point, one case for each way its conditions can fall: what it leaves in the
three running arrays and, at a diagonal tile, in the output block. -/

@[expose] public section

set_option maxRecDepth 16384
set_option Elab.async false

noncomputable section

namespace Cert.Kernel.Att

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Bits) ℕ (UR sig nD τ) ℕ

/-- The four input blocks, the two tables and the three running arrays, held with their contents. -/
abbrev hold (c : Dev nD) (a4 : MQ) (a5 : MK) (a6 : MV) (a7 : MW) (T0 T1 : S136.Idx → BitVec 32)
    (x0 : S2048x256.Idx → Elt Bits .bf16) (x1 : S256x256.Idx → Elt Bits .bf16) (x2 : S128x256.Idx → Elt Bits .bf16)
    (x3 : S4x256x128.Idx → Elt Bits .bf16)
    (m l : S1x2048.Idx → Elt Bits .f32) (s : S128x2048.Idx → Elt Bits .f32) : sProp 𝕄 :=
  iprop((a4.view.loc (c : Thread nD τ) ↦[a4.view.set]{fullShare} a4.view.rep x0)
    ∗ (a5.view.loc (c : Thread nD τ) ↦[a5.view.set]{fullShare} a5.view.rep x1)
    ∗ (a6.view.loc (c : Thread nD τ) ↦[a6.view.set]{fullShare} a6.view.rep x2)
    ∗ (a7.view.loc (c : Thread nD τ) ↦[a7.view.set]{fullShare} a7.view.rep x3)
    ∗ (qt.view.loc (c : Thread nD τ) ↦{fullShare.right} T0)
    ∗ (kt.view.loc (c : Thread nD τ) ↦{fullShare.right} T1)
    ∗ (mS.view.loc (c : Thread nD τ) ↦{fullShare} m)
    ∗ (lS.view.loc (c : Thread nD τ) ↦{fullShare} l)
    ∗ (aS.view.loc (c : Thread nD τ) ↦{fullShare} s))

set_option backward.proofsInPublic true in
set_option maxHeartbeats 8000000 in
/-- First tile of a query block, below the diagonal. -/
def runInitFar (c : Dev nD) (i : grid0.Coords) (a4 : MQ) (h4 : a4.IsWhole) (a5 : MK) (h5 : a5.IsWhole) (a6 : MV) (h6 : a6.IsWhole)
    (a7 : MW) (h7 : a7.IsWhole) (a8 : MO) (h8 : a8.IsWhole) (T0 T1 : S136.Idx → BitVec 32)
    (x0 : S2048x256.Idx → Elt Bits .bf16) (x1 : S256x256.Idx → Elt Bits .bf16) (x2 : S128x256.Idx → Elt Bits .bf16)
    (x3 : S4x256x128.Idx → Elt Bits .bf16)
    (hi : IsInit T1 i) (hf : IsFar T0 T1 i) (hd : ¬ IsDiag T0 T1 i) :
    Σ' (m1 l1 : S1x2048.Idx → Elt Bits .f32), { s1 : S128x2048.Idx → Elt Bits .f32 //
      ∀ (y : S256x512.Idx → Elt Bits .bf16) (m0 l0 : S1x2048.Idx → Elt Bits .f32) (s0 : S128x2048.Idx → Elt Bits .f32) (K : PUnit → sProp 𝕄),
        iprop(hold c a4 a5 a6 a7 T0 T1 x0 x1 x2 x3 m0 l0 s0
          ∗ owns (c : Thread nD τ) a8 fullShare y
          ∗ (iprop(hold c a4 a5 a6 a7 T0 T1 x0 x1 x2 x3 m1 l1 s1
              ∗ owns (c : Thread nD τ) a8 fullShare y) -∗ K ⟨⟩))
          ⊢ wp frame (wpE (defs₀ (F := Bits)) Variants.none c none) Set.univ (body i a4 h4 a5 h5 a6 h6 a7 h7 a8 h8) K } :=
  ⟨_, _, _, fun (y : S256x512.Idx → Elt Bits .bf16) (m0 l0 : S1x2048.Idx → Elt Bits .f32) (s0 : S128x2048.Idx → Elt Bits .f32) (K : PUnit → sProp 𝕄) => by
    unfold hold owns body
    rw [cc0_mla_attn_eq_skeleton]; unfold cc0_mla_attn_skel
    iintro ⟨⟨H0, H1, H2, H3, HT0, HT1, HS0, HS1, HS2⟩, ⟨%f4, %hf4, HO4⟩, Hk⟩
    obtain rfl := h8.eq_unread hf4
    have hS0 : mS.IsWhole := Memref.isWhole_whole _
    have hS1 : lS.IsWhole := Memref.isWhole_whole _
    have hS2 : aS.IsWhole := Memref.isWhole_whole _
    have hT0 : qt.IsWhole := Memref.isWhole_whole _
    have hT1 : kt.IsWhole := Memref.isWhole_whole _
    sl_exec! (disch := first | (guard_target = Scalar.cmpi = _; exact hi) | (guard_target = Scalar.cmpi = _; exact hf) | (guard_target = ¬(k0_cond3 _ _ = _); exact hd))
    sl_step
    iapply Hk
    isplitr [HO4]
    · isplitl [H0]; · iexact H0
      isplitl [H1]; · iexact H1
      isplitl [H2]; · iexact H2
      isplitl [H3]; · iexact H3
      isplitl [HT0]; · iexact HT0
      isplitl [HT1]; · iexact HT1
      isplitl [HS0]; · iexact HS0
      isplitl [HS1]; · iexact HS1
      iexact HS2
    iexists _; isplitr; · ipureintro; exact h8.read_unread _
    iexact HO4⟩

set_option backward.proofsInPublic true in
set_option maxHeartbeats 8000000 in
/-- First tile of a query block, on the diagonal. -/
def runInitDiag (c : Dev nD) (i : grid0.Coords) (a4 : MQ) (h4 : a4.IsWhole) (a5 : MK) (h5 : a5.IsWhole) (a6 : MV) (h6 : a6.IsWhole)
    (a7 : MW) (h7 : a7.IsWhole) (a8 : MO) (h8 : a8.IsWhole) (T0 T1 : S136.Idx → BitVec 32)
    (x0 : S2048x256.Idx → Elt Bits .bf16) (x1 : S256x256.Idx → Elt Bits .bf16) (x2 : S128x256.Idx → Elt Bits .bf16)
    (x3 : S4x256x128.Idx → Elt Bits .bf16)
    (hi : IsInit T1 i) (hf : ¬ IsFar T0 T1 i) (hd : IsDiag T0 T1 i) :
    Σ' (out : List (View.Piece (Elt Bits) S256x512 .bf16)) (m1 l1 : S1x2048.Idx → Elt Bits .f32), { s1 : S128x2048.Idx → Elt Bits .f32 //
      ∀ (m0 l0 : S1x2048.Idx → Elt Bits .f32) (s0 : S128x2048.Idx → Elt Bits .f32) (K : PUnit → sProp 𝕄),
        iprop(hold c a4 a5 a6 a7 T0 T1 x0 x1 x2 x3 m0 l0 s0
          ∗ (∃ d, owns (c : Thread nD τ) a8 fullShare d)
          ∗ (iprop(hold c a4 a5 a6 a7 T0 T1 x0 x1 x2 x3 m1 l1 s1
              ∗ (∃ f, a8.view.loc (c : Thread nD τ) ↦[a8.view.set]{fullShare} a8.view.writes (Elt Bits) f out)) -∗ K ⟨⟩))
          ⊢ wp frame (wpE (defs₀ (F := Bits)) Variants.none c none) Set.univ (body i a4 h4 a5 h5 a6 h6 a7 h7 a8 h8) K } :=
  ⟨_, _, _, _, fun (m0 l0 : S1x2048.Idx → Elt Bits .f32) (s0 : S128x2048.Idx → Elt Bits .f32) (K : PUnit → sProp 𝕄) => by
    unfold hold owns body
    rw [cc0_mla_attn_eq_skeleton]; unfold cc0_mla_attn_skel
    iintro ⟨⟨H0, H1, H2, H3, HT0, HT1, HS0, HS1, HS2⟩, ⟨%d4, %f4, -, HO4⟩, Hk⟩
    have hS0 : mS.IsWhole := Memref.isWhole_whole _
    have hS1 : lS.IsWhole := Memref.isWhole_whole _
    have hS2 : aS.IsWhole := Memref.isWhole_whole _
    have hT0 : qt.IsWhole := Memref.isWhole_whole _
    have hT1 : kt.IsWhole := Memref.isWhole_whole _
    sl_exec! (disch := first | (guard_target = Scalar.cmpi = _; exact hi) | (guard_target = ¬(Scalar.cmpi = _); exact hf) | (guard_target = k0_cond3 _ _ = _; exact hd))
    sl_step
    iapply Hk
    isplitr [HO4]
    · isplitl [H0]; · iexact H0
      isplitl [H1]; · iexact H1
      isplitl [H2]; · iexact H2
      isplitl [H3]; · iexact H3
      isplitl [HT0]; · iexact HT0
      isplitl [HT1]; · iexact HT1
      isplitl [HS0]; · iexact HS0
      isplitl [HS1]; · iexact HS1
      iexact HS2
    iexists _; iexact HO4⟩

set_option backward.proofsInPublic true in
set_option maxHeartbeats 8000000 in
/-- A later tile below the diagonal. -/
def runFar (c : Dev nD) (i : grid0.Coords) (a4 : MQ) (h4 : a4.IsWhole) (a5 : MK) (h5 : a5.IsWhole) (a6 : MV) (h6 : a6.IsWhole)
    (a7 : MW) (h7 : a7.IsWhole) (a8 : MO) (h8 : a8.IsWhole) (T0 T1 : S136.Idx → BitVec 32)
    (x0 : S2048x256.Idx → Elt Bits .bf16) (x1 : S256x256.Idx → Elt Bits .bf16) (x2 : S128x256.Idx → Elt Bits .bf16)
    (x3 : S4x256x128.Idx → Elt Bits .bf16)
    (m0 l0 : S1x2048.Idx → Elt Bits .f32) (s0 : S128x2048.Idx → Elt Bits .f32)
    (hi : ¬ IsInit T1 i) (hf : IsFar T0 T1 i) (hd : ¬ IsDiag T0 T1 i) :
    Σ' (m1 l1 : S1x2048.Idx → Elt Bits .f32), { s1 : S128x2048.Idx → Elt Bits .f32 //
      ∀ (y : S256x512.Idx → Elt Bits .bf16) (K : PUnit → sProp 𝕄),
        iprop(hold c a4 a5 a6 a7 T0 T1 x0 x1 x2 x3 m0 l0 s0
          ∗ owns (c : Thread nD τ) a8 fullShare y
          ∗ (iprop(hold c a4 a5 a6 a7 T0 T1 x0 x1 x2 x3 m1 l1 s1
              ∗ owns (c : Thread nD τ) a8 fullShare y) -∗ K ⟨⟩))
          ⊢ wp frame (wpE (defs₀ (F := Bits)) Variants.none c none) Set.univ (body i a4 h4 a5 h5 a6 h6 a7 h7 a8 h8) K } :=
  ⟨_, _, _, fun (y : S256x512.Idx → Elt Bits .bf16) (K : PUnit → sProp 𝕄) => by
    unfold hold owns body
    rw [cc0_mla_attn_eq_skeleton]; unfold cc0_mla_attn_skel
    iintro ⟨⟨H0, H1, H2, H3, HT0, HT1, HS0, HS1, HS2⟩, ⟨%f4, %hf4, HO4⟩, Hk⟩
    obtain rfl := h8.eq_unread hf4
    have hS0 : mS.IsWhole := Memref.isWhole_whole _
    have hS1 : lS.IsWhole := Memref.isWhole_whole _
    have hS2 : aS.IsWhole := Memref.isWhole_whole _
    have hT0 : qt.IsWhole := Memref.isWhole_whole _
    have hT1 : kt.IsWhole := Memref.isWhole_whole _
    sl_exec! (disch := first | (guard_target = ¬(Scalar.cmpi = _); exact hi) | (guard_target = Scalar.cmpi = _; exact hf) | (guard_target = ¬(k0_cond3 _ _ = _); exact hd))
    sl_step
    iapply Hk
    isplitr [HO4]
    · isplitl [H0]; · iexact H0
      isplitl [H1]; · iexact H1
      isplitl [H2]; · iexact H2
      isplitl [H3]; · iexact H3
      isplitl [HT0]; · iexact HT0
      isplitl [HT1]; · iexact HT1
      isplitl [HS0]; · iexact HS0
      isplitl [HS1]; · iexact HS1
      iexact HS2
    iexists _; isplitr; · ipureintro; exact h8.read_unread _
    iexact HO4⟩

set_option backward.proofsInPublic true in
set_option maxHeartbeats 8000000 in
/-- A later tile, on the diagonal. -/
def runDiag (c : Dev nD) (i : grid0.Coords) (a4 : MQ) (h4 : a4.IsWhole) (a5 : MK) (h5 : a5.IsWhole) (a6 : MV) (h6 : a6.IsWhole)
    (a7 : MW) (h7 : a7.IsWhole) (a8 : MO) (h8 : a8.IsWhole) (T0 T1 : S136.Idx → BitVec 32)
    (x0 : S2048x256.Idx → Elt Bits .bf16) (x1 : S256x256.Idx → Elt Bits .bf16) (x2 : S128x256.Idx → Elt Bits .bf16)
    (x3 : S4x256x128.Idx → Elt Bits .bf16)
    (m0 l0 : S1x2048.Idx → Elt Bits .f32) (s0 : S128x2048.Idx → Elt Bits .f32)
    (hi : ¬ IsInit T1 i) (hf : ¬ IsFar T0 T1 i) (hd : IsDiag T0 T1 i) :
    Σ' (out : List (View.Piece (Elt Bits) S256x512 .bf16)) (m1 l1 : S1x2048.Idx → Elt Bits .f32), { s1 : S128x2048.Idx → Elt Bits .f32 //
      ∀ (K : PUnit → sProp 𝕄),
        iprop(hold c a4 a5 a6 a7 T0 T1 x0 x1 x2 x3 m0 l0 s0
          ∗ (∃ d, owns (c : Thread nD τ) a8 fullShare d)
          ∗ (iprop(hold c a4 a5 a6 a7 T0 T1 x0 x1 x2 x3 m1 l1 s1
              ∗ (∃ f, a8.view.loc (c : Thread nD τ) ↦[a8.view.set]{fullShare} a8.view.writes (Elt Bits) f out)) -∗ K ⟨⟩))
          ⊢ wp frame (wpE (defs₀ (F := Bits)) Variants.none c none) Set.univ (body i a4 h4 a5 h5 a6 h6 a7 h7 a8 h8) K } :=
  ⟨_, _, _, _, fun (K : PUnit → sProp 𝕄) => by
    unfold hold owns body
    rw [cc0_mla_attn_eq_skeleton]; unfold cc0_mla_attn_skel
    iintro ⟨⟨H0, H1, H2, H3, HT0, HT1, HS0, HS1, HS2⟩, ⟨%d4, %f4, -, HO4⟩, Hk⟩
    have hS0 : mS.IsWhole := Memref.isWhole_whole _
    have hS1 : lS.IsWhole := Memref.isWhole_whole _
    have hS2 : aS.IsWhole := Memref.isWhole_whole _
    have hT0 : qt.IsWhole := Memref.isWhole_whole _
    have hT1 : kt.IsWhole := Memref.isWhole_whole _
    sl_exec! (disch := first | (guard_target = ¬(Scalar.cmpi = _); exact hi) | (guard_target = ¬(Scalar.cmpi = _); exact hf) | (guard_target = k0_cond3 _ _ = _; exact hd))
    sl_step
    iapply Hk
    isplitr [HO4]
    · isplitl [H0]; · iexact H0
      isplitl [H1]; · iexact H1
      isplitl [H2]; · iexact H2
      isplitl [H3]; · iexact H3
      isplitl [HT0]; · iexact HT0
      isplitl [HT1]; · iexact HT1
      isplitl [HS0]; · iexact HS0
      isplitl [HS1]; · iexact HS1
      iexact HS2
    iexists _; iexact HO4⟩

end Cert.Kernel.Att

end
-- ==== Proof.K.Frame.lean ====
module

public import proofs.«01_k».proof.Proof.K.Cfg
public import Idealize.ShloMosaic.Lib.Pipeline.TableIdle
public import Idealize.ShloMosaic.Lib.Pipeline.DatRel
public import Idealize.ShloMosaic.Lib.Pipeline.ArrRel

/-! The whole run of the attention call, from what one grid point does: an invariant of the three running arrays carried
from point to point, and a condition on every output block written back. -/

@[expose] public section

set_option maxRecDepth 16384
set_option Elab.async false

noncomputable section

namespace Cert.Kernel.Att

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

local notation "𝕄" => MT nD τ sig Unit (Elt Bits) ℕ (UR sig nD τ) ℕ

variable (V : (c : Dev nD) → (b : Ref sig .tc) → Buf (Elt Bits) ((c.tc : Thread nD τ).loc b))

/-- Window `w`'s block at point `t`. -/
def blk (c : Dev nD) (w : Fin cfgA.W) (t : Fin cfgA.N) : ((cfgA.win w).xblock (cfgA.grid.coords t)).Idx → Elt Bits (cfgA.win w).elt :=
  ((cfgA.win w).blk t).view.read (Elt Bits) (V c (Pipeline.arrRef cfgA.spec w))

variable (Inv : ℕ → (S1x2048.Idx → Elt Bits .f32) → (S1x2048.Idx → Elt Bits .f32) → (S128x2048.Idx → Elt Bits .f32) → Prop)
  (Out : Fin cfgA.N → (S256x512.Idx → Elt Bits .bf16) → Prop)

/-- Every point keeps the invariant, and every diagonal point meets the condition on its output block. -/
structure Steps (c : Dev nD) : Prop where
  initFar : ∀ (t : Fin cfgA.N) (hi : IsInit T1 (crd t)) (hf : IsFar T0 T1 (crd t)) (hd : ¬ IsDiag T0 T1 (crd t)), Inv (t.val + 1) (runInitFar c (crd t) (ms0 t) (hs0 t) (ms1 t) (hs1 t) (ms2 t) (hs2 t) (ms3 t) (hs3 t) (ms4 t) (hs4 t) T0 T1 (blk V c 0 t) (blk V c 1 t) (blk V c 2 t) (blk V c 3 t) hi hf hd).1 (runInitFar c (crd t) (ms0 t) (hs0 t) (ms1 t) (hs1 t) (ms2 t) (hs2 t) (ms3 t) (hs3 t) (ms4 t) (hs4 t) T0 T1 (blk V c 0 t) (blk V c 1 t) (blk V c 2 t) (blk V c 3 t) hi hf hd).2.1 (runInitFar c (crd t) (ms0 t) (hs0 t) (ms1 t) (hs1 t) (ms2 t) (hs2 t) (ms3 t) (hs3 t) (ms4 t) (hs4 t) T0 T1 (blk V c 0 t) (blk V c 1 t) (blk V c 2 t) (blk V c 3 t) hi hf hd).2.2.1
  initDiag : ∀ (t : Fin cfgA.N) (hi : IsInit T1 (crd t)) (hf : ¬ IsFar T0 T1 (crd t)) (hd : IsDiag T0 T1 (crd t)), Inv (t.val + 1) (runInitDiag c (crd t) (ms0 t) (hs0 t) (ms1 t) (hs1 t) (ms2 t) (hs2 t) (ms3 t) (hs3 t) (ms4 t) (hs4 t) T0 T1 (blk V c 0 t) (blk V c 1 t) (blk V c 2 t) (blk V c 3 t) hi hf hd).2.1 (runInitDiag c (crd t) (ms0 t) (hs0 t) (ms1 t) (hs1 t) (ms2 t) (hs2 t) (ms3 t) (hs3 t) (ms4 t) (hs4 t) T0 T1 (blk V c 0 t) (blk V c 1 t) (blk V c 2 t) (blk V c 3 t) hi hf hd).2.2.1 (runInitDiag c (crd t) (ms0 t) (hs0 t) (ms1 t) (hs1 t) (ms2 t) (hs2 t) (ms3 t) (hs3 t) (ms4 t) (hs4 t) T0 T1 (blk V c 0 t) (blk V c 1 t) (blk V c 2 t) (blk V c 3 t) hi hf hd).2.2.2.1
    ∧ Out t ((ms4 t).view.read (Elt Bits) ((ms4 t).view.writes (Elt Bits) (ms4 t).view.junk (runInitDiag c (crd t) (ms0 t) (hs0 t) (ms1 t) (hs1 t) (ms2 t) (hs2 t) (ms3 t) (hs3 t) (ms4 t) (hs4 t) T0 T1 (blk V c 0 t) (blk V c 1 t) (blk V c 2 t) (blk V c 3 t) hi hf hd).1))
  far : ∀ (t : Fin cfgA.N) (m0 l0 : S1x2048.Idx → Elt Bits .f32) (s0 : S128x2048.Idx → Elt Bits .f32) (hI : Inv t.val m0 l0 s0) (hi : ¬ IsInit T1 (crd t)) (hf : IsFar T0 T1 (crd t)) (hd : ¬ IsDiag T0 T1 (crd t)), Inv (t.val + 1) (runFar c (crd t) (ms0 t) (hs0 t) (ms1 t) (hs1 t) (ms2 t) (hs2 t) (ms3 t) (hs3 t) (ms4 t) (hs4 t) T0 T1 (blk V c 0 t) (blk V c 1 t) (blk V c 2 t) (blk V c 3 t) m0 l0 s0 hi hf hd).1 (runFar c (crd t) (ms0 t) (hs0 t) (ms1 t) (hs1 t) (ms2 t) (hs2 t) (ms3 t) (hs3 t) (ms4 t) (hs4 t) T0 T1 (blk V c 0 t) (blk V c 1 t) (blk V c 2 t) (blk V c 3 t) m0 l0 s0 hi hf hd).2.1 (runFar c (crd t) (ms0 t) (hs0 t) (ms1 t) (hs1 t) (ms2 t) (hs2 t) (ms3 t) (hs3 t) (ms4 t) (hs4 t) T0 T1 (blk V c 0 t) (blk V c 1 t) (blk V c 2 t) (blk V c 3 t) m0 l0 s0 hi hf hd).2.2.1
  diag : ∀ (t : Fin cfgA.N) (m0 l0 : S1x2048.Idx → Elt Bits .f32) (s0 : S128x2048.Idx → Elt Bits .f32) (hI : Inv t.val m0 l0 s0) (hi : ¬ IsInit T1 (crd t)) (hf : ¬ IsFar T0 T1 (crd t)) (hd : IsDiag T0 T1 (crd t)), Inv (t.val + 1) (runDiag c (crd t) (ms0 t) (hs0 t) (ms1 t) (hs1 t) (ms2 t) (hs2 t) (ms3 t) (hs3 t) (ms4 t) (hs4 t) T0 T1 (blk V c 0 t) (blk V c 1 t) (blk V c 2 t) (blk V c 3 t) m0 l0 s0 hi hf hd).2.1 (runDiag c (crd t) (ms0 t) (hs0 t) (ms1 t) (hs1 t) (ms2 t) (hs2 t) (ms3 t) (hs3 t) (ms4 t) (hs4 t) T0 T1 (blk V c 0 t) (blk V c 1 t) (blk V c 2 t) (blk V c 3 t) m0 l0 s0 hi hf hd).2.2.1 (runDiag c (crd t) (ms0 t) (hs0 t) (ms1 t) (hs1 t) (ms2 t) (hs2 t) (ms3 t) (hs3 t) (ms4 t) (hs4 t) T0 T1 (blk V c 0 t) (blk V c 1 t) (blk V c 2 t) (blk V c 3 t) m0 l0 s0 hi hf hd).2.2.2.1
    ∧ Out t ((ms4 t).view.read (Elt Bits) ((ms4 t).view.writes (Elt Bits) (ms4 t).view.junk (runDiag c (crd t) (ms0 t) (hs0 t) (ms1 t) (hs1 t) (ms2 t) (hs2 t) (ms3 t) (hs3 t) (ms4 t) (hs4 t) T0 T1 (blk V c 0 t) (blk V c 1 t) (blk V c 2 t) (blk V c 3 t) m0 l0 s0 hi hf hd).1))
  out : ∀ t : Fin cfgA.N, kN t.val < qN t.val → ∀ X, Out t X
  zero : ∀ m l s, Inv 0 m l s

set_option maxHeartbeats 4000000 in
theorem coverInitDiag (c : Dev nD) (i : grid0.Coords) (a4 : MQ) (h4 : a4.IsWhole) (a5 : MK) (h5 : a5.IsWhole) (a6 : MV) (h6 : a6.IsWhole)
    (a7 : MW) (h7 : a7.IsWhole) (a8 : MO) (h8 : a8.IsWhole) (T0 T1 : S136.Idx → BitVec 32)
    (x0 : S2048x256.Idx → Elt Bits .bf16) (x1 : S256x256.Idx → Elt Bits .bf16) (x2 : S128x256.Idx → Elt Bits .bf16)
    (x3 : S4x256x128.Idx → Elt Bits .bf16)
    (hi : IsInit T1 i) (hf : ¬ IsFar T0 T1 i) (hd : IsDiag T0 T1 i) (y : S256x512.Idx) :
    ∃ pc ∈ (runInitDiag c i a4 h4 a5 h5 a6 h6 a7 h7 a8 h8 T0 T1 x0 x1 x2 x3 hi hf hd).1, y ∈ pc.1.set :=
  View.cover_of_tiledL (s := S256x512) _ S256x128.size (by sl_kernel_rfl) y

set_option maxHeartbeats 4000000 in
theorem coverDiag (c : Dev nD) (i : grid0.Coords) (a4 : MQ) (h4 : a4.IsWhole) (a5 : MK) (h5 : a5.IsWhole) (a6 : MV) (h6 : a6.IsWhole)
    (a7 : MW) (h7 : a7.IsWhole) (a8 : MO) (h8 : a8.IsWhole) (T0 T1 : S136.Idx → BitVec 32)
    (x0 : S2048x256.Idx → Elt Bits .bf16) (x1 : S256x256.Idx → Elt Bits .bf16) (x2 : S128x256.Idx → Elt Bits .bf16)
    (x3 : S4x256x128.Idx → Elt Bits .bf16) (m0 l0 : S1x2048.Idx → Elt Bits .f32) (s0 : S128x2048.Idx → Elt Bits .f32)
    (hi : ¬ IsInit T1 i) (hf : ¬ IsFar T0 T1 i) (hd : IsDiag T0 T1 i) (y : S256x512.Idx) :
    ∃ pc ∈ (runDiag c i a4 h4 a5 h5 a6 h6 a7 h7 a8 h8 T0 T1 x0 x1 x2 x3 m0 l0 s0 hi hf hd).1, y ∈ pc.1.set :=
  View.cover_of_tiledL (s := S256x512) _ S256x128.size (by sl_kernel_rfl) y

/-- The invariant before point `t`: the running arrays, the tables and the random number register. -/
def Phi (c : Dev nD) (t : Fin (cfgA.N + 1)) : sProp 𝕄 :=
  iprop(∃ m l s, ⌜Inv t.val m l s⌝ ∗ (mS.view.loc (c : Thread nD τ) ↦{fullShare} m) ∗ (lS.view.loc (c : Thread nD τ) ↦{fullShare} l)
    ∗ (aS.view.loc (c : Thread nD τ) ↦{fullShare} s) ∗ (qt.view.loc (c : Thread nD τ) ↦{fullShare.right} T0)
    ∗ (kt.view.loc (c : Thread nD τ) ↦{fullShare.right} T1) ∗ ∃ r, prngReg c r)

def dat (c : Dev nD) : Dat τ (Elt Bits) Unit ℕ (UR sig nD τ) ℕ cfgA c where
  A w := V c (Pipeline.arrRef cfgA.spec w)
  after w t := match w with
    | ⟨0, _⟩ => blk V c (0 : Fin 5) t
    | ⟨1, _⟩ => blk V c (1 : Fin 5) t
    | ⟨2, _⟩ => blk V c (2 : Fin 5) t
    | ⟨3, _⟩ => blk V c (3 : Fin 5) t
    | ⟨4, _⟩ => blk V c (4 : Fin 5) t
  Φ t := Phi Inv c t
  q _ := fullShare
  owed _ := 0

theorem share_eq (c : Dev nD) (w : Fin cfgA.W) : (dat V Inv c).share w = fullShare := by unfold Dat.share; split <;> rfl

theorem after_0 (c : Dev nD) (t : Fin cfgA.N) : (dat V Inv c).after (0 : Fin 5) t = blk V c (0 : Fin 5) t := rfl
theorem before_0 (c : Dev nD) (t : Fin cfgA.N) (d) : (dat V Inv c).before (0 : Fin 5) t d = blk V c (0 : Fin 5) t :=
  ((dat V Inv c).before_in_eq_fetched (0 : Fin 5) rfl (fun _ => rfl) (fun _ _ _ => rfl) (fun t => by rw [after_0]; unfold Dat.blockOf blk; rfl) t d).trans
    (by unfold Dat.fetched Dat.blockOf blk; rfl)
theorem after_1 (c : Dev nD) (t : Fin cfgA.N) : (dat V Inv c).after (1 : Fin 5) t = blk V c (1 : Fin 5) t := rfl
theorem before_1 (c : Dev nD) (t : Fin cfgA.N) (d) : (dat V Inv c).before (1 : Fin 5) t d = blk V c (1 : Fin 5) t :=
  ((dat V Inv c).before_in_eq_fetched (1 : Fin 5) rfl (fun _ => rfl) (fun _ _ _ => rfl) (fun t => by rw [after_1]; unfold Dat.blockOf blk; rfl) t d).trans
    (by unfold Dat.fetched Dat.blockOf blk; rfl)
theorem after_2 (c : Dev nD) (t : Fin cfgA.N) : (dat V Inv c).after (2 : Fin 5) t = blk V c (2 : Fin 5) t := rfl
theorem before_2 (c : Dev nD) (t : Fin cfgA.N) (d) : (dat V Inv c).before (2 : Fin 5) t d = blk V c (2 : Fin 5) t :=
  ((dat V Inv c).before_in_eq_fetched (2 : Fin 5) rfl (fun _ => rfl) (fun _ _ _ => rfl) (fun t => by rw [after_2]; unfold Dat.blockOf blk; rfl) t d).trans
    (by unfold Dat.fetched Dat.blockOf blk; rfl)
theorem after_3 (c : Dev nD) (t : Fin cfgA.N) : (dat V Inv c).after (3 : Fin 5) t = blk V c (3 : Fin 5) t := rfl
theorem before_3 (c : Dev nD) (t : Fin cfgA.N) (d) : (dat V Inv c).before (3 : Fin 5) t d = blk V c (3 : Fin 5) t :=
  ((dat V Inv c).before_in_eq_fetched (3 : Fin 5) rfl (fun _ => rfl) (fun _ _ _ => rfl) (fun t => by rw [after_3]; unfold Dat.blockOf blk; rfl) t d).trans
    (by unfold Dat.fetched Dat.blockOf blk; rfl)

/-- Only the output window is held to a condition. -/
abbrev held (w : Fin cfgA.W) : Bool := match w with | ⟨4, _⟩ => true | _ => false
abbrev Rl (w : Fin cfgA.W) (t : Fin cfgA.N) : ((cfgA.win w).block.Idx → Elt Bits (cfgA.win w).elt) → Prop :=
  match w with | ⟨4, _⟩ => fun X => Out t X | ⟨0, _⟩ => fun _ => True | ⟨1, _⟩ => fun _ => True | ⟨2, _⟩ => fun _ => True | ⟨3, _⟩ => fun _ => True

abbrev rdat (c : Dev nD) := (dat V Inv c).toRRel held (Rl Out)

set_option maxHeartbeats 8000000 in
/-- One grid point. -/
theorem point (c : Dev nD) (st : Steps V Inv Out c) (t : Fin cfgA.N) (Y : S256x512.Idx → Elt Bits .bf16) :
    iprop(Phi Inv c t.castSucc ∗ (dat V Inv c).owesAt () t.castSucc
        ∗ owns (c : Thread nD τ) (ms0 t) fullShare (blk V c 0 t)
        ∗ owns (c : Thread nD τ) (ms1 t) fullShare (blk V c 1 t)
        ∗ owns (c : Thread nD τ) (ms2 t) fullShare (blk V c 2 t)
        ∗ owns (c : Thread nD τ) (ms3 t) fullShare (blk V c 3 t)
        ∗ owns (c : Thread nD τ) (ms4 t) fullShare Y)
      ⊢ wp frame (wpE (defs₀ (F := Bits)) Variants.none c none) Set.univ (body (crd t) (ms0 t) (hs0 t) (ms1 t) (hs1 t) (ms2 t) (hs2 t) (ms3 t) (hs3 t) (ms4 t) (hs4 t)) fun _ =>
          iprop(Phi Inv c t.succ ∗ (dat V Inv c).owesAt () t.succ
            ∗ owns (c : Thread nD τ) (ms0 t) fullShare (blk V c 0 t)
            ∗ owns (c : Thread nD τ) (ms1 t) fullShare (blk V c 1 t)
            ∗ owns (c : Thread nD τ) (ms2 t) fullShare (blk V c 2 t)
            ∗ owns (c : Thread nD τ) (ms3 t) fullShare (blk V c 3 t)
            ∗ (∃ X, ⌜Out t X⌝ ∗ owns (c : Thread nD τ) (ms4 t) fullShare X)) := by
  rw [show (dat V Inv c).owesAt () t.succ = (dat V Inv c).owesAt () t.castSucc from rfl]
  obtain ⟨-, -, -, -, eI, eF, eD, hle, -⟩ := at_all t
  unfold Phi
  simp only [Fin.val_castSucc, Fin.val_succ]
  iintro ⟨⟨%m0, %l0, %s0, %hI, HS0, HS1, HS2, HT0, HT1, Hp⟩, Ho, H0, H1, H2, H3, H4⟩
  by_cases hi : IsInit T1 (crd t)
  · by_cases hf : IsFar T0 T1 (crd t)
    · have hlt := eF.mp hf
      have hd : ¬ IsDiag T0 T1 (crd t) := fun h => absurd (eD.mp h) (Nat.ne_of_lt hlt)
      have hR := st.initFar t hi hf hd
      iapply ((runInitFar c (crd t) (ms0 t) (hs0 t) (ms1 t) (hs1 t) (ms2 t) (hs2 t) (ms3 t) (hs3 t) (ms4 t) (hs4 t) T0 T1 (blk V c 0 t) (blk V c 1 t) (blk V c 2 t) (blk V c 3 t) hi hf hd).2.2.2 Y m0 l0 s0 _)
      isplitl [H0 H1 H2 H3 HT0 HT1 HS0 HS1 HS2]
      · unfold hold
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [HS0]; · iexact HS0
        isplitl [HS1]; · iexact HS1
        iexact HS2
      isplitl [H4]; · iexact H4
      unfold hold
      iintro ⟨⟨H0, H1, H2, H3, HT0, HT1, HS0, HS1, HS2⟩, H4⟩
      isplitl [HS0 HS1 HS2 HT0 HT1 Hp]
      · iexists _; iexists _; iexists _; isplitr; swap
        · isplitl [HS0]; · iexact HS0
          isplitl [HS1]; · iexact HS1
          isplitl [HS2]; · iexact HS2
          isplitl [HT0]; · iexact HT0
          isplitl [HT1]; · iexact HT1
          iexact Hp
        · ipureintro; exact hR
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      iexists Y; isplitr; swap
      · iexact H4
      · ipureintro; exact st.out t hlt Y
    · have hd : IsDiag T0 T1 (crd t) := eD.mpr (Nat.le_antisymm hle (Nat.le_of_not_lt fun h => hf (eF.mpr h)))
      have hR := st.initDiag t hi hf hd
      iapply ((runInitDiag c (crd t) (ms0 t) (hs0 t) (ms1 t) (hs1 t) (ms2 t) (hs2 t) (ms3 t) (hs3 t) (ms4 t) (hs4 t) T0 T1 (blk V c 0 t) (blk V c 1 t) (blk V c 2 t) (blk V c 3 t) hi hf hd).2.2.2.2 m0 l0 s0 _)
      isplitl [H0 H1 H2 H3 HT0 HT1 HS0 HS1 HS2]
      · unfold hold
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [HS0]; · iexact HS0
        isplitl [HS1]; · iexact HS1
        iexact HS2
      isplitl [H4]; · iexists _; iexact H4
      unfold hold
      iintro ⟨⟨H0, H1, H2, H3, HT0, HT1, HS0, HS1, HS2⟩, ⟨%e4, H4⟩⟩
      isplitl [HS0 HS1 HS2 HT0 HT1 Hp]
      · iexists _; iexists _; iexists _; isplitr; swap
        · isplitl [HS0]; · iexact HS0
          isplitl [HS1]; · iexact HS1
          isplitl [HS2]; · iexact HS2
          isplitl [HT0]; · iexact HT0
          isplitl [HT1]; · iexact HT1
          iexact Hp
        · ipureintro; exact hR.1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      iexists _; isplitr; swap
      · unfold owns; iexists _; isplitr; swap
        · iexact H4
        · ipureintro; exact View.read_writes_of_cover _ _ _ (ms4 t).view.junk _ (coverInitDiag c (crd t) (ms0 t) (hs0 t) (ms1 t) (hs1 t) (ms2 t) (hs2 t) (ms3 t) (hs3 t) (ms4 t) (hs4 t) T0 T1 (blk V c 0 t) (blk V c 1 t) (blk V c 2 t) (blk V c 3 t) hi hf hd)
      · ipureintro; exact hR.2
  · by_cases hf : IsFar T0 T1 (crd t)
    · have hlt := eF.mp hf
      have hd : ¬ IsDiag T0 T1 (crd t) := fun h => absurd (eD.mp h) (Nat.ne_of_lt hlt)
      have hR := st.far t m0 l0 s0 hI hi hf hd
      iapply ((runFar c (crd t) (ms0 t) (hs0 t) (ms1 t) (hs1 t) (ms2 t) (hs2 t) (ms3 t) (hs3 t) (ms4 t) (hs4 t) T0 T1 (blk V c 0 t) (blk V c 1 t) (blk V c 2 t) (blk V c 3 t) m0 l0 s0 hi hf hd).2.2.2 Y _)
      isplitl [H0 H1 H2 H3 HT0 HT1 HS0 HS1 HS2]
      · unfold hold
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [HS0]; · iexact HS0
        isplitl [HS1]; · iexact HS1
        iexact HS2
      isplitl [H4]; · iexact H4
      unfold hold
      iintro ⟨⟨H0, H1, H2, H3, HT0, HT1, HS0, HS1, HS2⟩, H4⟩
      isplitl [HS0 HS1 HS2 HT0 HT1 Hp]
      · iexists _; iexists _; iexists _; isplitr; swap
        · isplitl [HS0]; · iexact HS0
          isplitl [HS1]; · iexact HS1
          isplitl [HS2]; · iexact HS2
          isplitl [HT0]; · iexact HT0
          isplitl [HT1]; · iexact HT1
          iexact Hp
        · ipureintro; exact hR
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      iexists Y; isplitr; swap
      · iexact H4
      · ipureintro; exact st.out t hlt Y
    · have hd : IsDiag T0 T1 (crd t) := eD.mpr (Nat.le_antisymm hle (Nat.le_of_not_lt fun h => hf (eF.mpr h)))
      have hR := st.diag t m0 l0 s0 hI hi hf hd
      iapply ((runDiag c (crd t) (ms0 t) (hs0 t) (ms1 t) (hs1 t) (ms2 t) (hs2 t) (ms3 t) (hs3 t) (ms4 t) (hs4 t) T0 T1 (blk V c 0 t) (blk V c 1 t) (blk V c 2 t) (blk V c 3 t) m0 l0 s0 hi hf hd).2.2.2.2 _)
      isplitl [H0 H1 H2 H3 HT0 HT1 HS0 HS1 HS2]
      · unfold hold
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [HS0]; · iexact HS0
        isplitl [HS1]; · iexact HS1
        iexact HS2
      isplitl [H4]; · iexists _; iexact H4
      unfold hold
      iintro ⟨⟨H0, H1, H2, H3, HT0, HT1, HS0, HS1, HS2⟩, ⟨%e4, H4⟩⟩
      isplitl [HS0 HS1 HS2 HT0 HT1 Hp]
      · iexists _; iexists _; iexists _; isplitr; swap
        · isplitl [HS0]; · iexact HS0
          isplitl [HS1]; · iexact HS1
          isplitl [HS2]; · iexact HS2
          isplitl [HT0]; · iexact HT0
          isplitl [HT1]; · iexact HT1
          iexact Hp
        · ipureintro; exact hR.1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      iexists _; isplitr; swap
      · unfold owns; iexists _; isplitr; swap
        · iexact H4
        · ipureintro; exact View.read_writes_of_cover _ _ _ (ms4 t).view.junk _ (coverDiag c (crd t) (ms0 t) (hs0 t) (ms1 t) (hs1 t) (ms2 t) (hs2 t) (ms3 t) (hs3 t) (ms4 t) (hs4 t) T0 T1 (blk V c 0 t) (blk V c 1 t) (blk V c 2 t) (blk V c 3 t) m0 l0 s0 hi hf hd)
      · ipureintro; exact hR.2

set_option maxHeartbeats 4000000 in
theorem body_rel (c : Dev nD) (st : Steps V Inv Out c) :
    Pipeline.BodyObligationRel (dat V Inv c) (defs₀ (F := Bits)) Variants.none () Set.univ held (Rl Out) := fun t => by
  rw [bigSep_W0]
  change iprop(Phi Inv c t.castSucc ∗ (dat V Inv c).owesAt () t.castSucc
        ∗ (∃ d, owns (c : Thread nD τ) (ms0 t) fullShare ((dat V Inv c).before (0 : Fin 5) t d))
        ∗ (∃ d, owns (c : Thread nD τ) (ms1 t) fullShare ((dat V Inv c).before (1 : Fin 5) t d))
        ∗ (∃ d, owns (c : Thread nD τ) (ms2 t) fullShare ((dat V Inv c).before (2 : Fin 5) t d))
        ∗ (∃ d, owns (c : Thread nD τ) (ms3 t) fullShare ((dat V Inv c).before (3 : Fin 5) t d))
        ∗ (∃ Y, ⌜((dat V Inv c).toRRel held (Rl Out)).Finds (4 : Fin 5) t Y⌝ ∗ owns (c : Thread nD τ) (ms4 t) fullShare Y)) ⊢ _
  iintro ⟨HP, Ho, ⟨%d0, H0⟩, ⟨%d1, H1⟩, ⟨%d2, H2⟩, ⟨%d3, H3⟩, ⟨%Y, %hY, H4⟩⟩
  rw [before_0, before_1, before_2, before_3, bigSep_W0]
  iapply (point V Inv Out c st t Y)
  isplitl [HP]; · iexact HP
  isplitl [Ho]; · iexact Ho
  isplitl [H0]; · iexact H0
  isplitl [H1]; · iexact H1
  isplitl [H2]; · iexact H2
  isplitl [H3]; · iexact H3
  iexact H4

end Cert.Kernel.Att

end
-- ==== Proof.K.Launch.lean ====
module

public import proofs.«01_k».proof.Proof.K.Frame
public import Idealize.ShloMosaic.Lib.StableHlo.RunRead

/-! The launch: the host lines, the tables they write, and the whole run. -/

@[expose] public section
set_option maxRecDepth 16384
set_option Elab.async false

noncomputable section

namespace Cert.Kernel.Att

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

local notation "𝕄" => MT nD τ sig Unit (Elt Bits) ℕ (UR sig nD τ) ℕ

variable (m : (ℓ : Loc nD τ sig) → Buf (Elt Bits) ℓ)

/-- The buffers' contents when the call begins: the host lines have run. -/
abbrev V (c : Dev nD) (b : Ref sig .tc) : Buf (Elt Bits) ((c.tc : Thread nD τ).loc b) :=
  StableHlo.after (hostOps0 (F := Bits)) (fun b => m (c, b)) b

theorem rm136 (i : S136.Idx) : ((S136.rowMajor i : Fin 136) : ℕ) = (i 0).val := by
  rw [Shape.rowMajor_val_one]

theorem V_qt (c : Dev nD) : V m c main_c = T0 := by
  unfold V
  after_reads_simp
  funext x
  exact (lit0_eq _).trans (congrArg (fun n => BitVec.ofNat 32 (qN n)) (rm136 x))
theorem V_kt (c : Dev nD) : V m c main_c_0 = T1 := by
  unfold V
  after_reads_simp
  funext x
  exact (lit1_eq _).trans (congrArg (fun n => BitVec.ofNat 32 (kN n)) (rm136 x))
theorem V_arg0 (c : Dev nD) : V m c main_arg0 = m ((c.tc : Thread nD τ).loc main_arg0) := by unfold V; after_reads_simp
theorem V_arg1 (c : Dev nD) : V m c main_arg1 = m ((c.tc : Thread nD τ).loc main_arg1) := by unfold V; after_reads_simp
theorem V_arg2 (c : Dev nD) : V m c main_arg2 = m ((c.tc : Thread nD τ).loc main_arg2) := by unfold V; after_reads_simp
theorem V_arg3 (c : Dev nD) : V m c main_arg3 = m ((c.tc : Thread nD τ).loc main_arg3) := by unfold V; after_reads_simp

theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

variable {Inv : ℕ → (S1x2048.Idx → Elt Bits .f32) → (S1x2048.Idx → Elt Bits .f32) → (S128x2048.Idx → Elt Bits .f32) → Prop}
  {Out : Fin cfgA.N → (S256x512.Idx → Elt Bits .bf16) → Prop}

theorem hin (c : Dev nD) (st : Steps (V m) Inv Out c) :
    iprop(Pipeline.ΦA cfgA.spec c ∗ Pipeline.ΦT pre0 adm.1 c) ⊢ (rdat (V m) Inv Out c).Φ 0 := by
  unfold Pipeline.ΦA Pipeline.ΦT
  rw [prefHeld_eq]
  change iprop((Pipeline.scopedRest spec0 c ∗ ∃ r, prngReg c r) ∗ _ ∗ _) ⊢ Phi Inv c 0
  rw [scopedRest0_eq]
  unfold Phi
  iintro ⟨⟨⟨⟨%a0, HS0⟩, ⟨%a1, HS1⟩, ⟨%a2, HS2⟩⟩, Hp⟩, HT0, HT1⟩
  iexists a0; iexists a1; iexists a2
  isplitr; swap
  · isplitl [HS0]; · iexact HS0
    isplitl [HS1]; · iexact HS1
    isplitl [HS2]; · iexact HS2
    isplitl [HT0]; · iexact HT0
    isplitl [HT1]; · iexact HT1
    iexact Hp
  · ipureintro; exact st.zero _ _ _

theorem hout (c : Dev nD) : (rdat (V m) Inv Out c).Φ (Fin.last cfgA.N) ⊢ Pipeline.ΦA cfgA.spec c := by
  unfold Pipeline.ΦA
  change Phi Inv c (Fin.last _) ⊢ iprop(Pipeline.scopedRest spec0 c ∗ ∃ r, prngReg c r)
  rw [scopedRest0_eq]
  unfold Phi
  iintro ⟨%a0, %a1, %a2, -, HS0, HS1, HS2, -, -, Hp⟩
  isplitl [HS0 HS1 HS2]
  · isplitl [HS0]; · iexists a0; iexact HS0
    isplitl [HS1]; · iexists a1; iexact HS1
    iexists a2; iexact HS2
  iexact Hp

theorem hpf (c : Dev nD) (k : Fin 2) : V m c (pre0.ref k) = adm.1 k := by
  fin_cases k
  · exact V_qt m c
  · exact V_kt m c

set_option backward.isDefEq.respectTransparency.types false in
set_option maxHeartbeats 4000000 in
/-- The whole run: it ends with the output blocks as the condition says, the other buffers as the host lines left them
    and every counter at zero. -/
theorem launch (g : Dev nD → PrngReg) (st : ∀ c, Steps (V m) Inv Out c) (Q' : PUnit × MemSt nD τ sig (Elt Bits) → Prop)
    (hQ' : ∀ r, Pipeline.RDat.FramePost cfgA (rdat (V m) Inv Out) (V m) r ∧ r.2.sem = (fun _ => 0) → Q' r) :
    θ_run (defs (F := Bits)) (onTc (τ := τ) (main (F := Bits))) ⟨m, fun _ => 0, g⟩ Q' :=
  Pipeline.RDat.θ_run_frameP_track pcfgs (fun _ => adm) (0 : Fin 1) launch0 defs₀ Variants.none (rdat (V m) Inv Out) m g main
    (fun c => (body_rel (V m) Inv Out c (st c)).toRRel) (fun c w => share_eq (V m) Inv c w) (fun _ _ => rfl) (V m)
    (Pipeline.hmainP_prefix pcfgs (0 : Fin 1) defs₀ Variants.none m main hostOps0 hostOps0_sub (by repeat' constructor) main_chain)
    (fun _ _ => rfl) (hpf m) (fun c => hin m c (st c)) (fun c => hout m c) Q' hQ'

/-- The arguments end as they began. -/
theorem args_kept (r : PUnit × MemSt nD τ sig (Elt Bits)) (h : Pipeline.RDat.FramePost cfgA (rdat (V m) Inv Out) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(h.arr_in c (0 : Fin 5) rfl).trans (V_arg0 m c), (h.arr_in c (1 : Fin 5) rfl).trans (V_arg1 m c),
    (h.arr_in c (2 : Fin 5) rfl).trans (V_arg2 m c), ((h c).2 main_arg3 (by decide)).trans (V_arg3 m c)⟩

end Cert.Kernel.Att

end
-- ==== Proof.K.Quiet.lean ====
module

public import proofs.«01_k».proof.Proof.K.Launch

/-! The word program's run: it ends with the arguments as they began and every counter at zero. -/

@[expose] public section

set_option Elab.async false

noncomputable section

namespace Cert.Kernel.Att

open Cert.Kernel Cert.Kernel.Gen Idealize.ShloMosaic Idealize.ShloMosaic.TcCoe Idealize.SL.Sem

theorem steps_trivial (m : (ℓ : Loc nD τ sig) → Buf (Elt Bits) ℓ) (c : Dev nD) :
    Steps (V m) (fun _ _ _ _ => True) (fun _ _ => True) c where
  initFar _ _ _ _ := trivial
  initDiag _ _ _ _ := ⟨trivial, trivial⟩
  far _ _ _ _ _ _ _ _ := trivial
  diag _ _ _ _ _ _ _ _ := ⟨trivial, trivial⟩
  out _ _ _ := trivial
  zero _ _ _ := trivial

theorem quiet (m : (ℓ : Loc nD τ sig) → Buf (Elt Bits) ℓ) (g : Dev nD → PrngReg) :
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  launch m g (steps_trivial m) _ fun r h => ⟨fun c => args_kept m r h.1 c, h.2⟩

end Cert.Kernel.Att

end
-- ==== Proof.KI.Base.lean ====
module

public import proofs.«01_k».proof.Defs
public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Kit
public import Idealize.ShloMosaic.Lib.Pipeline.Frame
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

/-! The buffers the attention body works on, under short names. -/

@[expose] public section

set_option maxRecDepth 16384

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The query-block and key-block tables, whole. -/
abbrev qt : Memref sig .tc .smem S136 .i32 := Memref.whole main_c
abbrev kt : Memref sig .tc .smem S136 .i32 := Memref.whole main_c_0
/-- Running maximum, running sum and running weighted sum, whole. -/
abbrev mS : Memref sig .tc .vmem S1x2048 .f32 := Memref.whole cc0_scratch0
abbrev lS : Memref sig .tc .vmem S1x2048 .f32 := Memref.whole cc0_scratch1
abbrev aS : Memref sig .tc .vmem S128x2048 .f32 := Memref.whole cc0_scratch2

abbrev MQ := Memref sig .tc .vmem S2048x256 .bf16
abbrev MK := Memref sig .tc .vmem S256x256 .bf16
abbrev MV := Memref sig .tc .vmem S128x256 .bf16
abbrev MW := Memref sig .tc .vmem S4x256x128 .bf16
abbrev MO := Memref sig .tc .vmem S256x512 .bf16

/-- The words a grid point reads from the two tables. -/
abbrev qWord (T : S136.Idx → BitVec 32) (i : grid0.Coords) : BitVec 32 :=
  View.readAt (Elt Ideal) qt.view (Rect.unit (s := S136) (k0_off1 i) S1.size (k0_off1_inb i)).toLoadRect T (Shape.Idx.first (numel1_S1.symm ▸ Nat.one_pos))
abbrev kWord (T : S136.Idx → BitVec 32) (i : grid0.Coords) : BitVec 32 :=
  View.readAt (Elt Ideal) kt.view (Rect.unit (s := S136) (k0_off1 i) S1.size (k0_off1_inb i)).toLoadRect T (Shape.Idx.first (numel1_S1.symm ▸ Nat.one_pos))

/-- First tile of a query block; a tile strictly below the diagonal; the diagonal tile. -/
abbrev IsInit (T1 : S136.Idx → BitVec 32) (i : grid0.Coords) : Prop :=
  Scalar.cmpi .ne (Scalar.extui (Scalar.cmpi .eq (kWord T1 i) 0#32)) 0#32 = 1#1
abbrev IsFar (T0 T1 : S136.Idx → BitVec 32) (i : grid0.Coords) : Prop :=
  Scalar.cmpi .ne (Scalar.extui (Scalar.cmpi .slt (kWord T1 i) (qWord T0 i))) 0#32 = 1#1
abbrev IsDiag (T0 T1 : S136.Idx → BitVec 32) (i : grid0.Coords) : Prop :=
  k0_cond3 (qWord T0 i) (kWord T1 i) = 1#1

/-- The body at a grid point, on whole staging buffers. -/
abbrev body (i : grid0.Coords) (a4 : MQ) (h4 : a4.IsWhole) (a5 : MK) (h5 : a5.IsWhole) (a6 : MV) (h6 : a6.IsWhole)
    (a7 : MW) (h7 : a7.IsWhole) (a8 : MO) (h8 : a8.IsWhole) :=
  cc0_mla_attn (F := Ideal) i qt (Memref.isWhole_whole _) kt (Memref.isWhole_whole _) a4 h4 a5 h5 a6 h6 a7 h7 a8 h8
    mS (Memref.isWhole_whole _) lS (Memref.isWhole_whole _) aS (Memref.isWhole_whole _)

end Cert.KernelIdeal.Att

end
-- ==== Proof.KI.Run.lean ====
module

public import proofs.«01_k».proof.Proof.KI.Base

/-! What the attention body does at one grid point, one case for each way its conditions can fall: what it leaves in the
three running arrays and, at a diagonal tile, in the output block. -/

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The four input blocks, the two tables and the three running arrays, held with their contents. -/
abbrev hold (c : Dev nD) (a4 : MQ) (a5 : MK) (a6 : MV) (a7 : MW) (T0 T1 : S136.Idx → BitVec 32)
    (x0 : S2048x256.Idx → Elt Ideal .bf16) (x1 : S256x256.Idx → Elt Ideal .bf16) (x2 : S128x256.Idx → Elt Ideal .bf16)
    (x3 : S4x256x128.Idx → Elt Ideal .bf16)
    (m l : S1x2048.Idx → Elt Ideal .f32) (s : S128x2048.Idx → Elt Ideal .f32) : sProp 𝕄 :=
  iprop((a4.view.loc (c : Thread nD τ) ↦[a4.view.set]{fullShare} a4.view.rep x0)
    ∗ (a5.view.loc (c : Thread nD τ) ↦[a5.view.set]{fullShare} a5.view.rep x1)
    ∗ (a6.view.loc (c : Thread nD τ) ↦[a6.view.set]{fullShare} a6.view.rep x2)
    ∗ (a7.view.loc (c : Thread nD τ) ↦[a7.view.set]{fullShare} a7.view.rep x3)
    ∗ (qt.view.loc (c : Thread nD τ) ↦{fullShare.right} T0)
    ∗ (kt.view.loc (c : Thread nD τ) ↦{fullShare.right} T1)
    ∗ (mS.view.loc (c : Thread nD τ) ↦{fullShare} m)
    ∗ (lS.view.loc (c : Thread nD τ) ↦{fullShare} l)
    ∗ (aS.view.loc (c : Thread nD τ) ↦{fullShare} s))

set_option backward.proofsInPublic true in
set_option maxHeartbeats 8000000 in
/-- First tile of a query block, below the diagonal. -/
def runInitFar (c : Dev nD) (i : grid0.Coords) (a4 : MQ) (h4 : a4.IsWhole) (a5 : MK) (h5 : a5.IsWhole) (a6 : MV) (h6 : a6.IsWhole)
    (a7 : MW) (h7 : a7.IsWhole) (a8 : MO) (h8 : a8.IsWhole) (T0 T1 : S136.Idx → BitVec 32)
    (x0 : S2048x256.Idx → Elt Ideal .bf16) (x1 : S256x256.Idx → Elt Ideal .bf16) (x2 : S128x256.Idx → Elt Ideal .bf16)
    (x3 : S4x256x128.Idx → Elt Ideal .bf16)
    (hi : IsInit T1 i) (hf : IsFar T0 T1 i) (hd : ¬ IsDiag T0 T1 i) :
    Σ' (m1 l1 : S1x2048.Idx → Elt Ideal .f32), { s1 : S128x2048.Idx → Elt Ideal .f32 //
      ∀ (y : S256x512.Idx → Elt Ideal .bf16) (m0 l0 : S1x2048.Idx → Elt Ideal .f32) (s0 : S128x2048.Idx → Elt Ideal .f32) (K : PUnit → sProp 𝕄),
        iprop(hold c a4 a5 a6 a7 T0 T1 x0 x1 x2 x3 m0 l0 s0
          ∗ owns (c : Thread nD τ) a8 fullShare y
          ∗ (iprop(hold c a4 a5 a6 a7 T0 T1 x0 x1 x2 x3 m1 l1 s1
              ∗ owns (c : Thread nD τ) a8 fullShare y) -∗ K ⟨⟩))
          ⊢ wp frame (wpE (defs₀ (F := Ideal)) Variants.none c none) Set.univ (body i a4 h4 a5 h5 a6 h6 a7 h7 a8 h8) K } :=
  ⟨_, _, _, fun (y : S256x512.Idx → Elt Ideal .bf16) (m0 l0 : S1x2048.Idx → Elt Ideal .f32) (s0 : S128x2048.Idx → Elt Ideal .f32) (K : PUnit → sProp 𝕄) => by
    unfold hold owns body
    rw [cc0_mla_attn_eq_skeleton]; unfold cc0_mla_attn_skel
    iintro ⟨⟨H0, H1, H2, H3, HT0, HT1, HS0, HS1, HS2⟩, ⟨%f4, %hf4, HO4⟩, Hk⟩
    obtain rfl := h8.eq_unread hf4
    have hS0 : mS.IsWhole := Memref.isWhole_whole _
    have hS1 : lS.IsWhole := Memref.isWhole_whole _
    have hS2 : aS.IsWhole := Memref.isWhole_whole _
    have hT0 : qt.IsWhole := Memref.isWhole_whole _
    have hT1 : kt.IsWhole := Memref.isWhole_whole _
    sl_exec! (disch := first | (guard_target = Scalar.cmpi = _; exact hi) | (guard_target = Scalar.cmpi = _; exact hf) | (guard_target = ¬(k0_cond3 _ _ = _); exact hd))
    sl_step
    iapply Hk
    isplitr [HO4]
    · isplitl [H0]; · iexact H0
      isplitl [H1]; · iexact H1
      isplitl [H2]; · iexact H2
      isplitl [H3]; · iexact H3
      isplitl [HT0]; · iexact HT0
      isplitl [HT1]; · iexact HT1
      isplitl [HS0]; · iexact HS0
      isplitl [HS1]; · iexact HS1
      iexact HS2
    iexists _; isplitr; · ipureintro; exact h8.read_unread _
    iexact HO4⟩

set_option backward.proofsInPublic true in
set_option maxHeartbeats 8000000 in
/-- First tile of a query block, on the diagonal. -/
def runInitDiag (c : Dev nD) (i : grid0.Coords) (a4 : MQ) (h4 : a4.IsWhole) (a5 : MK) (h5 : a5.IsWhole) (a6 : MV) (h6 : a6.IsWhole)
    (a7 : MW) (h7 : a7.IsWhole) (a8 : MO) (h8 : a8.IsWhole) (T0 T1 : S136.Idx → BitVec 32)
    (x0 : S2048x256.Idx → Elt Ideal .bf16) (x1 : S256x256.Idx → Elt Ideal .bf16) (x2 : S128x256.Idx → Elt Ideal .bf16)
    (x3 : S4x256x128.Idx → Elt Ideal .bf16)
    (hi : IsInit T1 i) (hf : ¬ IsFar T0 T1 i) (hd : IsDiag T0 T1 i) :
    Σ' (out : List (View.Piece (Elt Ideal) S256x512 .bf16)) (m1 l1 : S1x2048.Idx → Elt Ideal .f32), { s1 : S128x2048.Idx → Elt Ideal .f32 //
      ∀ (m0 l0 : S1x2048.Idx → Elt Ideal .f32) (s0 : S128x2048.Idx → Elt Ideal .f32) (K : PUnit → sProp 𝕄),
        iprop(hold c a4 a5 a6 a7 T0 T1 x0 x1 x2 x3 m0 l0 s0
          ∗ (∃ d, owns (c : Thread nD τ) a8 fullShare d)
          ∗ (iprop(hold c a4 a5 a6 a7 T0 T1 x0 x1 x2 x3 m1 l1 s1
              ∗ (∃ f, a8.view.loc (c : Thread nD τ) ↦[a8.view.set]{fullShare} a8.view.writes (Elt Ideal) f out)) -∗ K ⟨⟩))
          ⊢ wp frame (wpE (defs₀ (F := Ideal)) Variants.none c none) Set.univ (body i a4 h4 a5 h5 a6 h6 a7 h7 a8 h8) K } :=
  ⟨_, _, _, _, fun (m0 l0 : S1x2048.Idx → Elt Ideal .f32) (s0 : S128x2048.Idx → Elt Ideal .f32) (K : PUnit → sProp 𝕄) => by
    unfold hold owns body
    rw [cc0_mla_attn_eq_skeleton]; unfold cc0_mla_attn_skel
    iintro ⟨⟨H0, H1, H2, H3, HT0, HT1, HS0, HS1, HS2⟩, ⟨%d4, %f4, -, HO4⟩, Hk⟩
    have hS0 : mS.IsWhole := Memref.isWhole_whole _
    have hS1 : lS.IsWhole := Memref.isWhole_whole _
    have hS2 : aS.IsWhole := Memref.isWhole_whole _
    have hT0 : qt.IsWhole := Memref.isWhole_whole _
    have hT1 : kt.IsWhole := Memref.isWhole_whole _
    sl_exec! (disch := first | (guard_target = Scalar.cmpi = _; exact hi) | (guard_target = ¬(Scalar.cmpi = _); exact hf) | (guard_target = k0_cond3 _ _ = _; exact hd))
    sl_step
    iapply Hk
    isplitr [HO4]
    · isplitl [H0]; · iexact H0
      isplitl [H1]; · iexact H1
      isplitl [H2]; · iexact H2
      isplitl [H3]; · iexact H3
      isplitl [HT0]; · iexact HT0
      isplitl [HT1]; · iexact HT1
      isplitl [HS0]; · iexact HS0
      isplitl [HS1]; · iexact HS1
      iexact HS2
    iexists _; iexact HO4⟩

set_option backward.proofsInPublic true in
set_option maxHeartbeats 8000000 in
/-- A later tile below the diagonal. -/
def runFar (c : Dev nD) (i : grid0.Coords) (a4 : MQ) (h4 : a4.IsWhole) (a5 : MK) (h5 : a5.IsWhole) (a6 : MV) (h6 : a6.IsWhole)
    (a7 : MW) (h7 : a7.IsWhole) (a8 : MO) (h8 : a8.IsWhole) (T0 T1 : S136.Idx → BitVec 32)
    (x0 : S2048x256.Idx → Elt Ideal .bf16) (x1 : S256x256.Idx → Elt Ideal .bf16) (x2 : S128x256.Idx → Elt Ideal .bf16)
    (x3 : S4x256x128.Idx → Elt Ideal .bf16)
    (m0 l0 : S1x2048.Idx → Elt Ideal .f32) (s0 : S128x2048.Idx → Elt Ideal .f32)
    (hi : ¬ IsInit T1 i) (hf : IsFar T0 T1 i) (hd : ¬ IsDiag T0 T1 i) :
    Σ' (m1 l1 : S1x2048.Idx → Elt Ideal .f32), { s1 : S128x2048.Idx → Elt Ideal .f32 //
      ∀ (y : S256x512.Idx → Elt Ideal .bf16) (K : PUnit → sProp 𝕄),
        iprop(hold c a4 a5 a6 a7 T0 T1 x0 x1 x2 x3 m0 l0 s0
          ∗ owns (c : Thread nD τ) a8 fullShare y
          ∗ (iprop(hold c a4 a5 a6 a7 T0 T1 x0 x1 x2 x3 m1 l1 s1
              ∗ owns (c : Thread nD τ) a8 fullShare y) -∗ K ⟨⟩))
          ⊢ wp frame (wpE (defs₀ (F := Ideal)) Variants.none c none) Set.univ (body i a4 h4 a5 h5 a6 h6 a7 h7 a8 h8) K } :=
  ⟨_, _, _, fun (y : S256x512.Idx → Elt Ideal .bf16) (K : PUnit → sProp 𝕄) => by
    unfold hold owns body
    rw [cc0_mla_attn_eq_skeleton]; unfold cc0_mla_attn_skel
    iintro ⟨⟨H0, H1, H2, H3, HT0, HT1, HS0, HS1, HS2⟩, ⟨%f4, %hf4, HO4⟩, Hk⟩
    obtain rfl := h8.eq_unread hf4
    have hS0 : mS.IsWhole := Memref.isWhole_whole _
    have hS1 : lS.IsWhole := Memref.isWhole_whole _
    have hS2 : aS.IsWhole := Memref.isWhole_whole _
    have hT0 : qt.IsWhole := Memref.isWhole_whole _
    have hT1 : kt.IsWhole := Memref.isWhole_whole _
    sl_exec! (disch := first | (guard_target = ¬(Scalar.cmpi = _); exact hi) | (guard_target = Scalar.cmpi = _; exact hf) | (guard_target = ¬(k0_cond3 _ _ = _); exact hd))
    sl_step
    iapply Hk
    isplitr [HO4]
    · isplitl [H0]; · iexact H0
      isplitl [H1]; · iexact H1
      isplitl [H2]; · iexact H2
      isplitl [H3]; · iexact H3
      isplitl [HT0]; · iexact HT0
      isplitl [HT1]; · iexact HT1
      isplitl [HS0]; · iexact HS0
      isplitl [HS1]; · iexact HS1
      iexact HS2
    iexists _; isplitr; · ipureintro; exact h8.read_unread _
    iexact HO4⟩

set_option backward.proofsInPublic true in
set_option maxHeartbeats 8000000 in
/-- A later tile, on the diagonal. -/
def runDiag (c : Dev nD) (i : grid0.Coords) (a4 : MQ) (h4 : a4.IsWhole) (a5 : MK) (h5 : a5.IsWhole) (a6 : MV) (h6 : a6.IsWhole)
    (a7 : MW) (h7 : a7.IsWhole) (a8 : MO) (h8 : a8.IsWhole) (T0 T1 : S136.Idx → BitVec 32)
    (x0 : S2048x256.Idx → Elt Ideal .bf16) (x1 : S256x256.Idx → Elt Ideal .bf16) (x2 : S128x256.Idx → Elt Ideal .bf16)
    (x3 : S4x256x128.Idx → Elt Ideal .bf16)
    (m0 l0 : S1x2048.Idx → Elt Ideal .f32) (s0 : S128x2048.Idx → Elt Ideal .f32)
    (hi : ¬ IsInit T1 i) (hf : ¬ IsFar T0 T1 i) (hd : IsDiag T0 T1 i) :
    Σ' (out : List (View.Piece (Elt Ideal) S256x512 .bf16)) (m1 l1 : S1x2048.Idx → Elt Ideal .f32), { s1 : S128x2048.Idx → Elt Ideal .f32 //
      ∀ (K : PUnit → sProp 𝕄),
        iprop(hold c a4 a5 a6 a7 T0 T1 x0 x1 x2 x3 m0 l0 s0
          ∗ (∃ d, owns (c : Thread nD τ) a8 fullShare d)
          ∗ (iprop(hold c a4 a5 a6 a7 T0 T1 x0 x1 x2 x3 m1 l1 s1
              ∗ (∃ f, a8.view.loc (c : Thread nD τ) ↦[a8.view.set]{fullShare} a8.view.writes (Elt Ideal) f out)) -∗ K ⟨⟩))
          ⊢ wp frame (wpE (defs₀ (F := Ideal)) Variants.none c none) Set.univ (body i a4 h4 a5 h5 a6 h6 a7 h7 a8 h8) K } :=
  ⟨_, _, _, _, fun (K : PUnit → sProp 𝕄) => by
    unfold hold owns body
    rw [cc0_mla_attn_eq_skeleton]; unfold cc0_mla_attn_skel
    iintro ⟨⟨H0, H1, H2, H3, HT0, HT1, HS0, HS1, HS2⟩, ⟨%d4, %f4, -, HO4⟩, Hk⟩
    have hS0 : mS.IsWhole := Memref.isWhole_whole _
    have hS1 : lS.IsWhole := Memref.isWhole_whole _
    have hS2 : aS.IsWhole := Memref.isWhole_whole _
    have hT0 : qt.IsWhole := Memref.isWhole_whole _
    have hT1 : kt.IsWhole := Memref.isWhole_whole _
    sl_exec! (disch := first | (guard_target = ¬(Scalar.cmpi = _); exact hi) | (guard_target = ¬(Scalar.cmpi = _); exact hf) | (guard_target = k0_cond3 _ _ = _; exact hd))
    sl_step
    iapply Hk
    isplitr [HO4]
    · isplitl [H0]; · iexact H0
      isplitl [H1]; · iexact H1
      isplitl [H2]; · iexact H2
      isplitl [H3]; · iexact H3
      isplitl [HT0]; · iexact HT0
      isplitl [HT1]; · iexact HT1
      isplitl [HS0]; · iexact HS0
      isplitl [HS1]; · iexact HS1
      iexact HS2
    iexists _; iexact HO4⟩

end Cert.KernelIdeal.Att

end
-- ==== Proof.KI.Cfg.lean ====
module

public import proofs.«01_k».proof.Proof.KI.Run

/-! The two tables the attention's host code writes, the pipeline at them, and what each grid point is: which query block
and which key block it works on. -/

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

local notation "𝕄" => MT nD τ sig Unit (Elt Ideal) ℕ (UR sig nD τ) ℕ

/-- The query block and the key block of schedule entry `s`. -/
def qL : List ℕ := [0, 1, 1, 2, 2, 2, 3, 3, 3, 3, 4, 4, 4, 4, 4, 5, 5, 5, 5, 5, 5, 6, 6, 6, 6, 6, 6, 6, 7, 7, 7, 7, 7, 7, 7, 7, 8, 8, 8, 8, 8, 8, 8, 8, 8, 9, 9, 9, 9, 9, 9, 9, 9, 9, 9, 10, 10, 10, 10, 10, 10, 10, 10, 10, 10, 10, 11, 11, 11, 11, 11, 11, 11, 11, 11, 11, 11, 11, 12, 12, 12, 12, 12, 12, 12, 12, 12, 12, 12, 12, 12, 13, 13, 13, 13, 13, 13, 13, 13, 13, 13, 13, 13, 13, 13, 14, 14, 14, 14, 14, 14, 14, 14, 14, 14, 14, 14, 14, 14, 14, 15, 15, 15, 15, 15, 15, 15, 15, 15, 15, 15, 15, 15, 15, 15, 15]
def kL : List ℕ := [0, 0, 1, 0, 1, 2, 0, 1, 2, 3, 0, 1, 2, 3, 4, 0, 1, 2, 3, 4, 5, 0, 1, 2, 3, 4, 5, 6, 0, 1, 2, 3, 4, 5, 6, 7, 0, 1, 2, 3, 4, 5, 6, 7, 8, 0, 1, 2, 3, 4, 5, 6, 7, 8, 9, 0, 1, 2, 3, 4, 5, 6, 7, 8, 9, 10, 0, 1, 2, 3, 4, 5, 6, 7, 8, 9, 10, 11, 0, 1, 2, 3, 4, 5, 6, 7, 8, 9, 10, 11, 12, 0, 1, 2, 3, 4, 5, 6, 7, 8, 9, 10, 11, 12, 13, 0, 1, 2, 3, 4, 5, 6, 7, 8, 9, 10, 11, 12, 13, 14, 0, 1, 2, 3, 4, 5, 6, 7, 8, 9, 10, 11, 12, 13, 14, 15]
def qN (n : ℕ) : ℕ := qL.getD (n % 136) 0
def kN (n : ℕ) : ℕ := kL.getD (n % 136) 0
def bN (n : ℕ) : ℕ := n / 136

/-- The tables' contents. -/
def T0 : S136.Idx → BitVec 32 := fun x => BitVec.ofNat 32 (qN (x 0).val)
def T1 : S136.Idx → BitVec 32 := fun x => BitVec.ofNat 32 (kN (x 0).val)

theorem lit0_eq : ∀ n : Fin 136, lit0 n = BitVec.ofNat 32 (qN n.val) := by decide +kernel
theorem lit1_eq : ∀ n : Fin 136, lit1 n = BitVec.ofNat 32 (kN n.val) := by decide +kernel

set_option backward.proofsInPublic true in
def pfN : pre0.Contents (Elt Ideal) := fun | ⟨0, _⟩ => T0 | ⟨1, _⟩ => T1 | ⟨_ + 2, h⟩ => absurd h (by simp)

theorem inb_0 : ∀ i : grid0.Coords, ∀ a, (cc0_transform_0 k0_off1_inb numel1_S1 pfN i a + 1) * S2048x256.size a ≤ S65536x256.size a := by decide +kernel
theorem inb_1 : ∀ i : grid0.Coords, ∀ a, (cc0_transform_1 k0_off1_inb numel1_S1 pfN i a + 1) * S256x256.size a ≤ S8192x256.size a := by decide +kernel
theorem inb_2 : ∀ i : grid0.Coords, ∀ a, (cc0_transform_2 k0_off1_inb numel1_S1 pfN i a + 1) * S128x256.size a ≤ S128x8192.size a := by decide +kernel
theorem inb_4 : ∀ i : grid0.Coords, ∀ a, (cc0_transform_4 k0_off1_inb numel1_S1 pfN i a + 1) * S256x512.size a ≤ S8192x512.size a := by decide +kernel

theorem ok_0 : ∀ i : grid0.Coords, ∃ h : (∀ a, (cc0_transform_0 k0_off1_inb numel1_S1 pfN i a + 1) * S2048x256.size a ≤ S65536x256.size a), EltTy.bits .bf16 = 32 ∨ (Rect.block (s := S65536x256) S2048x256.size (cc0_transform_0 k0_off1_inb numel1_S1 pfN i) h).WholeWords (EltTy.packing .bf16) :=
  fun i => ⟨inb_0 i, .inr (Affine.block_words_dvd (s := S65536x256) (p := EltTy.packing .bf16) (by decide) (by decide))⟩
theorem ok_1 : ∀ i : grid0.Coords, ∃ h : (∀ a, (cc0_transform_1 k0_off1_inb numel1_S1 pfN i a + 1) * S256x256.size a ≤ S8192x256.size a), EltTy.bits .bf16 = 32 ∨ (Rect.block (s := S8192x256) S256x256.size (cc0_transform_1 k0_off1_inb numel1_S1 pfN i) h).WholeWords (EltTy.packing .bf16) :=
  fun i => ⟨inb_1 i, .inr (Affine.block_words_dvd (s := S8192x256) (p := EltTy.packing .bf16) (by decide) (by decide))⟩
theorem ok_2 : ∀ i : grid0.Coords, ∃ h : (∀ a, (cc0_transform_2 k0_off1_inb numel1_S1 pfN i a + 1) * S128x256.size a ≤ S128x8192.size a), EltTy.bits .bf16 = 32 ∨ (Rect.block (s := S128x8192) S128x256.size (cc0_transform_2 k0_off1_inb numel1_S1 pfN i) h).WholeWords (EltTy.packing .bf16) :=
  fun i => ⟨inb_2 i, .inr (Affine.block_words_dvd (s := S128x8192) (p := EltTy.packing .bf16) (by decide) (by decide))⟩
theorem ok_4 : ∀ i : grid0.Coords, ∃ h : (∀ a, (cc0_transform_4 k0_off1_inb numel1_S1 pfN i a + 1) * S256x512.size a ≤ S8192x512.size a), EltTy.bits .bf16 = 32 ∨ (Rect.block (s := S8192x512) S256x512.size (cc0_transform_4 k0_off1_inb numel1_S1 pfN i) h).WholeWords (EltTy.packing .bf16) :=
  fun i => ⟨inb_4 i, .inr (Affine.block_words_dvd (s := S8192x512) (p := EltTy.packing .bf16) (by decide) (by decide))⟩
theorem ok_pf : ok0 (F := Ideal) pfN := ⟨ok_0, ok_1, ok_2, ok_4⟩

def adm : (pcfg0 (F := Ideal)).Adm := ⟨pfN, ok_pf⟩
abbrev cfgA : Pipeline.Cfg sig Λ₀ := cfg0 (F := Ideal) adm
abbrev pcs : Fin 1 → Pipeline.Cfg sig Λ₀ := Pipeline.pin (pcfgs (F := Ideal)) fun _ => adm

abbrev crd (t : Fin cfgA.N) : grid0.Coords := cfgA.grid.coords t

abbrev ms0 (t : Fin cfgA.N) : MQ := spec0_0.stage (cfgA.slots t (0 : Fin 5))
abbrev hs0 (t : Fin cfgA.N) : (ms0 t).IsWhole := hstage0_0 ((cfgA.slots t (0 : Fin 5)).cast nbuf0_0)
abbrev ms1 (t : Fin cfgA.N) : MK := spec0_1.stage (cfgA.slots t (1 : Fin 5))
abbrev hs1 (t : Fin cfgA.N) : (ms1 t).IsWhole := hstage0_1 ((cfgA.slots t (1 : Fin 5)).cast nbuf0_1)
abbrev ms2 (t : Fin cfgA.N) : MV := spec0_2.stage (cfgA.slots t (2 : Fin 5))
abbrev hs2 (t : Fin cfgA.N) : (ms2 t).IsWhole := hstage0_2 ((cfgA.slots t (2 : Fin 5)).cast nbuf0_2)
abbrev ms3 (t : Fin cfgA.N) : MW := spec0_3.stage (cfgA.slots t (3 : Fin 5))
abbrev hs3 (t : Fin cfgA.N) : (ms3 t).IsWhole := hstage0_3 ((cfgA.slots t (3 : Fin 5)).cast nbuf0_3)
abbrev ms4 (t : Fin cfgA.N) : MO := spec0_4.stage (cfgA.slots t (4 : Fin 5))
abbrev hs4 (t : Fin cfgA.N) : (ms4 t).IsWhole := hstage0_4 ((cfgA.slots t (4 : Fin 5)).cast nbuf0_4)

/-- What is true of grid point `t`: its blocks, and which of the body's conditions hold. -/
def At (t : Fin cfgA.N) : Prop :=
  cc0_transform_0 k0_off1_inb numel1_S1 pfN (crd t) = ![bN t.val * 16 + qN t.val, 0]
  ∧ cc0_transform_1 k0_off1_inb numel1_S1 pfN (crd t) = ![bN t.val * 16 + kN t.val, 0]
  ∧ cc0_transform_2 k0_off1_inb numel1_S1 pfN (crd t) = ![0, bN t.val * 16 + kN t.val]
  ∧ cc0_transform_4 k0_off1_inb numel1_S1 pfN (crd t) = ![bN t.val * 16 + qN t.val, 0]
  ∧ (IsInit T1 (crd t) ↔ kN t.val = 0)
  ∧ (IsFar T0 T1 (crd t) ↔ kN t.val < qN t.val)
  ∧ (IsDiag T0 T1 (crd t) ↔ kN t.val = qN t.val)
  ∧ kN t.val ≤ qN t.val
  ∧ (kN (t.val + 1) ≠ 0 → kN t.val < qN t.val ∧ kN (t.val + 1) = kN t.val + 1 ∧ qN (t.val + 1) = qN t.val ∧ bN (t.val + 1) = bN t.val)
  ∧ ((cfgA.win (4 : Fin 5)).flush t = true → kN t.val = qN t.val)
instance (t : Fin cfgA.N) : Decidable (At t) := by unfold At; infer_instance
theorem at_0 : ∀ t : Fin cfgA.N, 0 ≤ t.val → t.val < 34 → At t := by decide +kernel
theorem at_1 : ∀ t : Fin cfgA.N, 34 ≤ t.val → t.val < 68 → At t := by decide +kernel
theorem at_2 : ∀ t : Fin cfgA.N, 68 ≤ t.val → t.val < 102 → At t := by decide +kernel
theorem at_3 : ∀ t : Fin cfgA.N, 102 ≤ t.val → t.val < 136 → At t := by decide +kernel
theorem at_4 : ∀ t : Fin cfgA.N, 136 ≤ t.val → t.val < 170 → At t := by decide +kernel
theorem at_5 : ∀ t : Fin cfgA.N, 170 ≤ t.val → t.val < 204 → At t := by decide +kernel
theorem at_6 : ∀ t : Fin cfgA.N, 204 ≤ t.val → t.val < 238 → At t := by decide +kernel
theorem at_7 : ∀ t : Fin cfgA.N, 238 ≤ t.val → t.val < 272 → At t := by decide +kernel
theorem at_all (t : Fin cfgA.N) : At t := by
  have hN : t.val < 272 := t.isLt
  by_cases h1 : t.val < 34
  · exact at_0 t (Nat.zero_le _) h1
  by_cases h2 : t.val < 68
  · exact at_1 t (Nat.le_of_not_lt h1) h2
  by_cases h3 : t.val < 102
  · exact at_2 t (Nat.le_of_not_lt h2) h3
  by_cases h4 : t.val < 136
  · exact at_3 t (Nat.le_of_not_lt h3) h4
  by_cases h5 : t.val < 170
  · exact at_4 t (Nat.le_of_not_lt h4) h5
  by_cases h6 : t.val < 204
  · exact at_5 t (Nat.le_of_not_lt h5) h6
  by_cases h7 : t.val < 238
  · exact at_6 t (Nat.le_of_not_lt h6) h7
  exact at_7 t (Nat.le_of_not_lt h7) hN

/-- Query block `a` of batch `b` is finished, and written back, at its diagonal tile. -/
theorem flush_at : ∀ b : Fin 2, ∀ a : Fin 16, ∃ t : Fin cfgA.N, (cfgA.win (4 : Fin 5)).flush t = true ∧ bN t.val = b.val ∧ qN t.val = a.val := by
  intro b a
  have hlt : b.val * 136 + a.val * (a.val + 1) / 2 + a.val < 272 := by revert b a; decide
  refine ⟨⟨b.val * 136 + a.val * (a.val + 1) / 2 + a.val, hlt⟩, ?_⟩
  revert hlt; revert b a
  decide +kernel

end Cert.KernelIdeal.Att

end
-- ==== Proof.KI.Frame.lean ====
module

public import proofs.«01_k».proof.Proof.KI.Cfg
public import Idealize.ShloMosaic.Lib.Pipeline.TableIdle
public import Idealize.ShloMosaic.Lib.Pipeline.DatRel
public import Idealize.ShloMosaic.Lib.Pipeline.ArrRel

/-! The whole run of the attention call, from what one grid point does: an invariant of the three running arrays carried
from point to point, and a condition on every output block written back. -/

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

local notation "𝕄" => MT nD τ sig Unit (Elt Ideal) ℕ (UR sig nD τ) ℕ

variable (V : (c : Dev nD) → (b : Ref sig .tc) → Buf (Elt Ideal) ((c.tc : Thread nD τ).loc b))

/-- Window `w`'s block at point `t`. -/
def blk (c : Dev nD) (w : Fin cfgA.W) (t : Fin cfgA.N) : ((cfgA.win w).xblock (cfgA.grid.coords t)).Idx → Elt Ideal (cfgA.win w).elt :=
  ((cfgA.win w).blk t).view.read (Elt Ideal) (V c (Pipeline.arrRef cfgA.spec w))

variable (Inv : ℕ → (S1x2048.Idx → Elt Ideal .f32) → (S1x2048.Idx → Elt Ideal .f32) → (S128x2048.Idx → Elt Ideal .f32) → Prop)
  (Out : Fin cfgA.N → (S256x512.Idx → Elt Ideal .bf16) → Prop)

/-- Every point keeps the invariant, and every diagonal point meets the condition on its output block. -/
structure Steps (c : Dev nD) : Prop where
  initFar : ∀ (t : Fin cfgA.N) (hi : IsInit T1 (crd t)) (hf : IsFar T0 T1 (crd t)) (hd : ¬ IsDiag T0 T1 (crd t)), Inv (t.val + 1) (runInitFar c (crd t) (ms0 t) (hs0 t) (ms1 t) (hs1 t) (ms2 t) (hs2 t) (ms3 t) (hs3 t) (ms4 t) (hs4 t) T0 T1 (blk V c 0 t) (blk V c 1 t) (blk V c 2 t) (blk V c 3 t) hi hf hd).1 (runInitFar c (crd t) (ms0 t) (hs0 t) (ms1 t) (hs1 t) (ms2 t) (hs2 t) (ms3 t) (hs3 t) (ms4 t) (hs4 t) T0 T1 (blk V c 0 t) (blk V c 1 t) (blk V c 2 t) (blk V c 3 t) hi hf hd).2.1 (runInitFar c (crd t) (ms0 t) (hs0 t) (ms1 t) (hs1 t) (ms2 t) (hs2 t) (ms3 t) (hs3 t) (ms4 t) (hs4 t) T0 T1 (blk V c 0 t) (blk V c 1 t) (blk V c 2 t) (blk V c 3 t) hi hf hd).2.2.1
  initDiag : ∀ (t : Fin cfgA.N) (hi : IsInit T1 (crd t)) (hf : ¬ IsFar T0 T1 (crd t)) (hd : IsDiag T0 T1 (crd t)), Inv (t.val + 1) (runInitDiag c (crd t) (ms0 t) (hs0 t) (ms1 t) (hs1 t) (ms2 t) (hs2 t) (ms3 t) (hs3 t) (ms4 t) (hs4 t) T0 T1 (blk V c 0 t) (blk V c 1 t) (blk V c 2 t) (blk V c 3 t) hi hf hd).2.1 (runInitDiag c (crd t) (ms0 t) (hs0 t) (ms1 t) (hs1 t) (ms2 t) (hs2 t) (ms3 t) (hs3 t) (ms4 t) (hs4 t) T0 T1 (blk V c 0 t) (blk V c 1 t) (blk V c 2 t) (blk V c 3 t) hi hf hd).2.2.1 (runInitDiag c (crd t) (ms0 t) (hs0 t) (ms1 t) (hs1 t) (ms2 t) (hs2 t) (ms3 t) (hs3 t) (ms4 t) (hs4 t) T0 T1 (blk V c 0 t) (blk V c 1 t) (blk V c 2 t) (blk V c 3 t) hi hf hd).2.2.2.1
    ∧ Out t ((ms4 t).view.read (Elt Ideal) ((ms4 t).view.writes (Elt Ideal) (ms4 t).view.junk (runInitDiag c (crd t) (ms0 t) (hs0 t) (ms1 t) (hs1 t) (ms2 t) (hs2 t) (ms3 t) (hs3 t) (ms4 t) (hs4 t) T0 T1 (blk V c 0 t) (blk V c 1 t) (blk V c 2 t) (blk V c 3 t) hi hf hd).1))
  far : ∀ (t : Fin cfgA.N) (m0 l0 : S1x2048.Idx → Elt Ideal .f32) (s0 : S128x2048.Idx → Elt Ideal .f32) (hI : Inv t.val m0 l0 s0) (hi : ¬ IsInit T1 (crd t)) (hf : IsFar T0 T1 (crd t)) (hd : ¬ IsDiag T0 T1 (crd t)), Inv (t.val + 1) (runFar c (crd t) (ms0 t) (hs0 t) (ms1 t) (hs1 t) (ms2 t) (hs2 t) (ms3 t) (hs3 t) (ms4 t) (hs4 t) T0 T1 (blk V c 0 t) (blk V c 1 t) (blk V c 2 t) (blk V c 3 t) m0 l0 s0 hi hf hd).1 (runFar c (crd t) (ms0 t) (hs0 t) (ms1 t) (hs1 t) (ms2 t) (hs2 t) (ms3 t) (hs3 t) (ms4 t) (hs4 t) T0 T1 (blk V c 0 t) (blk V c 1 t) (blk V c 2 t) (blk V c 3 t) m0 l0 s0 hi hf hd).2.1 (runFar c (crd t) (ms0 t) (hs0 t) (ms1 t) (hs1 t) (ms2 t) (hs2 t) (ms3 t) (hs3 t) (ms4 t) (hs4 t) T0 T1 (blk V c 0 t) (blk V c 1 t) (blk V c 2 t) (blk V c 3 t) m0 l0 s0 hi hf hd).2.2.1
  diag : ∀ (t : Fin cfgA.N) (m0 l0 : S1x2048.Idx → Elt Ideal .f32) (s0 : S128x2048.Idx → Elt Ideal .f32) (hI : Inv t.val m0 l0 s0) (hi : ¬ IsInit T1 (crd t)) (hf : ¬ IsFar T0 T1 (crd t)) (hd : IsDiag T0 T1 (crd t)), Inv (t.val + 1) (runDiag c (crd t) (ms0 t) (hs0 t) (ms1 t) (hs1 t) (ms2 t) (hs2 t) (ms3 t) (hs3 t) (ms4 t) (hs4 t) T0 T1 (blk V c 0 t) (blk V c 1 t) (blk V c 2 t) (blk V c 3 t) m0 l0 s0 hi hf hd).2.1 (runDiag c (crd t) (ms0 t) (hs0 t) (ms1 t) (hs1 t) (ms2 t) (hs2 t) (ms3 t) (hs3 t) (ms4 t) (hs4 t) T0 T1 (blk V c 0 t) (blk V c 1 t) (blk V c 2 t) (blk V c 3 t) m0 l0 s0 hi hf hd).2.2.1 (runDiag c (crd t) (ms0 t) (hs0 t) (ms1 t) (hs1 t) (ms2 t) (hs2 t) (ms3 t) (hs3 t) (ms4 t) (hs4 t) T0 T1 (blk V c 0 t) (blk V c 1 t) (blk V c 2 t) (blk V c 3 t) m0 l0 s0 hi hf hd).2.2.2.1
    ∧ Out t ((ms4 t).view.read (Elt Ideal) ((ms4 t).view.writes (Elt Ideal) (ms4 t).view.junk (runDiag c (crd t) (ms0 t) (hs0 t) (ms1 t) (hs1 t) (ms2 t) (hs2 t) (ms3 t) (hs3 t) (ms4 t) (hs4 t) T0 T1 (blk V c 0 t) (blk V c 1 t) (blk V c 2 t) (blk V c 3 t) m0 l0 s0 hi hf hd).1))
  out : ∀ t : Fin cfgA.N, kN t.val < qN t.val → ∀ X, Out t X
  zero : ∀ m l s, Inv 0 m l s

set_option maxHeartbeats 4000000 in
theorem coverInitDiag (c : Dev nD) (i : grid0.Coords) (a4 : MQ) (h4 : a4.IsWhole) (a5 : MK) (h5 : a5.IsWhole) (a6 : MV) (h6 : a6.IsWhole)
    (a7 : MW) (h7 : a7.IsWhole) (a8 : MO) (h8 : a8.IsWhole) (T0 T1 : S136.Idx → BitVec 32)
    (x0 : S2048x256.Idx → Elt Ideal .bf16) (x1 : S256x256.Idx → Elt Ideal .bf16) (x2 : S128x256.Idx → Elt Ideal .bf16)
    (x3 : S4x256x128.Idx → Elt Ideal .bf16)
    (hi : IsInit T1 i) (hf : ¬ IsFar T0 T1 i) (hd : IsDiag T0 T1 i) (y : S256x512.Idx) :
    ∃ pc ∈ (runInitDiag c i a4 h4 a5 h5 a6 h6 a7 h7 a8 h8 T0 T1 x0 x1 x2 x3 hi hf hd).1, y ∈ pc.1.set :=
  View.cover_of_tiledL (s := S256x512) _ S256x128.size (by sl_kernel_rfl) y

set_option maxHeartbeats 4000000 in
theorem coverDiag (c : Dev nD) (i : grid0.Coords) (a4 : MQ) (h4 : a4.IsWhole) (a5 : MK) (h5 : a5.IsWhole) (a6 : MV) (h6 : a6.IsWhole)
    (a7 : MW) (h7 : a7.IsWhole) (a8 : MO) (h8 : a8.IsWhole) (T0 T1 : S136.Idx → BitVec 32)
    (x0 : S2048x256.Idx → Elt Ideal .bf16) (x1 : S256x256.Idx → Elt Ideal .bf16) (x2 : S128x256.Idx → Elt Ideal .bf16)
    (x3 : S4x256x128.Idx → Elt Ideal .bf16) (m0 l0 : S1x2048.Idx → Elt Ideal .f32) (s0 : S128x2048.Idx → Elt Ideal .f32)
    (hi : ¬ IsInit T1 i) (hf : ¬ IsFar T0 T1 i) (hd : IsDiag T0 T1 i) (y : S256x512.Idx) :
    ∃ pc ∈ (runDiag c i a4 h4 a5 h5 a6 h6 a7 h7 a8 h8 T0 T1 x0 x1 x2 x3 m0 l0 s0 hi hf hd).1, y ∈ pc.1.set :=
  View.cover_of_tiledL (s := S256x512) _ S256x128.size (by sl_kernel_rfl) y

/-- The invariant before point `t`: the running arrays, the tables and the random number register. -/
def Phi (c : Dev nD) (t : Fin (cfgA.N + 1)) : sProp 𝕄 :=
  iprop(∃ m l s, ⌜Inv t.val m l s⌝ ∗ (mS.view.loc (c : Thread nD τ) ↦{fullShare} m) ∗ (lS.view.loc (c : Thread nD τ) ↦{fullShare} l)
    ∗ (aS.view.loc (c : Thread nD τ) ↦{fullShare} s) ∗ (qt.view.loc (c : Thread nD τ) ↦{fullShare.right} T0)
    ∗ (kt.view.loc (c : Thread nD τ) ↦{fullShare.right} T1) ∗ ∃ r, prngReg c r)

def dat (c : Dev nD) : Dat τ (Elt Ideal) Unit ℕ (UR sig nD τ) ℕ cfgA c where
  A w := V c (Pipeline.arrRef cfgA.spec w)
  after w t := match w with
    | ⟨0, _⟩ => blk V c (0 : Fin 5) t
    | ⟨1, _⟩ => blk V c (1 : Fin 5) t
    | ⟨2, _⟩ => blk V c (2 : Fin 5) t
    | ⟨3, _⟩ => blk V c (3 : Fin 5) t
    | ⟨4, _⟩ => blk V c (4 : Fin 5) t
  Φ t := Phi Inv c t
  q _ := fullShare
  owed _ := 0

theorem share_eq (c : Dev nD) (w : Fin cfgA.W) : (dat V Inv c).share w = fullShare := by unfold Dat.share; split <;> rfl

theorem after_0 (c : Dev nD) (t : Fin cfgA.N) : (dat V Inv c).after (0 : Fin 5) t = blk V c (0 : Fin 5) t := rfl
theorem before_0 (c : Dev nD) (t : Fin cfgA.N) (d) : (dat V Inv c).before (0 : Fin 5) t d = blk V c (0 : Fin 5) t :=
  ((dat V Inv c).before_in_eq_fetched (0 : Fin 5) rfl (fun _ => rfl) (fun _ _ _ => rfl) (fun t => by rw [after_0]; unfold Dat.blockOf blk; rfl) t d).trans
    (by unfold Dat.fetched Dat.blockOf blk; rfl)
theorem after_1 (c : Dev nD) (t : Fin cfgA.N) : (dat V Inv c).after (1 : Fin 5) t = blk V c (1 : Fin 5) t := rfl
theorem before_1 (c : Dev nD) (t : Fin cfgA.N) (d) : (dat V Inv c).before (1 : Fin 5) t d = blk V c (1 : Fin 5) t :=
  ((dat V Inv c).before_in_eq_fetched (1 : Fin 5) rfl (fun _ => rfl) (fun _ _ _ => rfl) (fun t => by rw [after_1]; unfold Dat.blockOf blk; rfl) t d).trans
    (by unfold Dat.fetched Dat.blockOf blk; rfl)
theorem after_2 (c : Dev nD) (t : Fin cfgA.N) : (dat V Inv c).after (2 : Fin 5) t = blk V c (2 : Fin 5) t := rfl
theorem before_2 (c : Dev nD) (t : Fin cfgA.N) (d) : (dat V Inv c).before (2 : Fin 5) t d = blk V c (2 : Fin 5) t :=
  ((dat V Inv c).before_in_eq_fetched (2 : Fin 5) rfl (fun _ => rfl) (fun _ _ _ => rfl) (fun t => by rw [after_2]; unfold Dat.blockOf blk; rfl) t d).trans
    (by unfold Dat.fetched Dat.blockOf blk; rfl)
theorem after_3 (c : Dev nD) (t : Fin cfgA.N) : (dat V Inv c).after (3 : Fin 5) t = blk V c (3 : Fin 5) t := rfl
theorem before_3 (c : Dev nD) (t : Fin cfgA.N) (d) : (dat V Inv c).before (3 : Fin 5) t d = blk V c (3 : Fin 5) t :=
  ((dat V Inv c).before_in_eq_fetched (3 : Fin 5) rfl (fun _ => rfl) (fun _ _ _ => rfl) (fun t => by rw [after_3]; unfold Dat.blockOf blk; rfl) t d).trans
    (by unfold Dat.fetched Dat.blockOf blk; rfl)

/-- Only the output window is held to a condition. -/
abbrev held (w : Fin cfgA.W) : Bool := match w with | ⟨4, _⟩ => true | _ => false
abbrev Rl (w : Fin cfgA.W) (t : Fin cfgA.N) : ((cfgA.win w).block.Idx → Elt Ideal (cfgA.win w).elt) → Prop :=
  match w with | ⟨4, _⟩ => fun X => Out t X | ⟨0, _⟩ => fun _ => True | ⟨1, _⟩ => fun _ => True | ⟨2, _⟩ => fun _ => True | ⟨3, _⟩ => fun _ => True

abbrev rdat (c : Dev nD) := (dat V Inv c).toRRel held (Rl Out)

set_option maxHeartbeats 8000000 in
/-- One grid point. -/
theorem point (c : Dev nD) (st : Steps V Inv Out c) (t : Fin cfgA.N) (Y : S256x512.Idx → Elt Ideal .bf16) :
    iprop(Phi Inv c t.castSucc ∗ (dat V Inv c).owesAt () t.castSucc
        ∗ owns (c : Thread nD τ) (ms0 t) fullShare (blk V c 0 t)
        ∗ owns (c : Thread nD τ) (ms1 t) fullShare (blk V c 1 t)
        ∗ owns (c : Thread nD τ) (ms2 t) fullShare (blk V c 2 t)
        ∗ owns (c : Thread nD τ) (ms3 t) fullShare (blk V c 3 t)
        ∗ owns (c : Thread nD τ) (ms4 t) fullShare Y)
      ⊢ wp frame (wpE (defs₀ (F := Ideal)) Variants.none c none) Set.univ (body (crd t) (ms0 t) (hs0 t) (ms1 t) (hs1 t) (ms2 t) (hs2 t) (ms3 t) (hs3 t) (ms4 t) (hs4 t)) fun _ =>
          iprop(Phi Inv c t.succ ∗ (dat V Inv c).owesAt () t.succ
            ∗ owns (c : Thread nD τ) (ms0 t) fullShare (blk V c 0 t)
            ∗ owns (c : Thread nD τ) (ms1 t) fullShare (blk V c 1 t)
            ∗ owns (c : Thread nD τ) (ms2 t) fullShare (blk V c 2 t)
            ∗ owns (c : Thread nD τ) (ms3 t) fullShare (blk V c 3 t)
            ∗ (∃ X, ⌜Out t X⌝ ∗ owns (c : Thread nD τ) (ms4 t) fullShare X)) := by
  rw [show (dat V Inv c).owesAt () t.succ = (dat V Inv c).owesAt () t.castSucc from rfl]
  obtain ⟨-, -, -, -, eI, eF, eD, hle, -⟩ := at_all t
  unfold Phi
  simp only [Fin.val_castSucc, Fin.val_succ]
  iintro ⟨⟨%m0, %l0, %s0, %hI, HS0, HS1, HS2, HT0, HT1, Hp⟩, Ho, H0, H1, H2, H3, H4⟩
  by_cases hi : IsInit T1 (crd t)
  · by_cases hf : IsFar T0 T1 (crd t)
    · have hlt := eF.mp hf
      have hd : ¬ IsDiag T0 T1 (crd t) := fun h => absurd (eD.mp h) (Nat.ne_of_lt hlt)
      have hR := st.initFar t hi hf hd
      iapply ((runInitFar c (crd t) (ms0 t) (hs0 t) (ms1 t) (hs1 t) (ms2 t) (hs2 t) (ms3 t) (hs3 t) (ms4 t) (hs4 t) T0 T1 (blk V c 0 t) (blk V c 1 t) (blk V c 2 t) (blk V c 3 t) hi hf hd).2.2.2 Y m0 l0 s0 _)
      isplitl [H0 H1 H2 H3 HT0 HT1 HS0 HS1 HS2]
      · unfold hold
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [HS0]; · iexact HS0
        isplitl [HS1]; · iexact HS1
        iexact HS2
      isplitl [H4]; · iexact H4
      unfold hold
      iintro ⟨⟨H0, H1, H2, H3, HT0, HT1, HS0, HS1, HS2⟩, H4⟩
      isplitl [HS0 HS1 HS2 HT0 HT1 Hp]
      · iexists _; iexists _; iexists _; isplitr; swap
        · isplitl [HS0]; · iexact HS0
          isplitl [HS1]; · iexact HS1
          isplitl [HS2]; · iexact HS2
          isplitl [HT0]; · iexact HT0
          isplitl [HT1]; · iexact HT1
          iexact Hp
        · ipureintro; exact hR
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      iexists Y; isplitr; swap
      · iexact H4
      · ipureintro; exact st.out t hlt Y
    · have hd : IsDiag T0 T1 (crd t) := eD.mpr (Nat.le_antisymm hle (Nat.le_of_not_lt fun h => hf (eF.mpr h)))
      have hR := st.initDiag t hi hf hd
      iapply ((runInitDiag c (crd t) (ms0 t) (hs0 t) (ms1 t) (hs1 t) (ms2 t) (hs2 t) (ms3 t) (hs3 t) (ms4 t) (hs4 t) T0 T1 (blk V c 0 t) (blk V c 1 t) (blk V c 2 t) (blk V c 3 t) hi hf hd).2.2.2.2 m0 l0 s0 _)
      isplitl [H0 H1 H2 H3 HT0 HT1 HS0 HS1 HS2]
      · unfold hold
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [HS0]; · iexact HS0
        isplitl [HS1]; · iexact HS1
        iexact HS2
      isplitl [H4]; · iexists _; iexact H4
      unfold hold
      iintro ⟨⟨H0, H1, H2, H3, HT0, HT1, HS0, HS1, HS2⟩, ⟨%e4, H4⟩⟩
      isplitl [HS0 HS1 HS2 HT0 HT1 Hp]
      · iexists _; iexists _; iexists _; isplitr; swap
        · isplitl [HS0]; · iexact HS0
          isplitl [HS1]; · iexact HS1
          isplitl [HS2]; · iexact HS2
          isplitl [HT0]; · iexact HT0
          isplitl [HT1]; · iexact HT1
          iexact Hp
        · ipureintro; exact hR.1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      iexists _; isplitr; swap
      · unfold owns; iexists _; isplitr; swap
        · iexact H4
        · ipureintro; exact View.read_writes_of_cover _ _ _ (ms4 t).view.junk _ (coverInitDiag c (crd t) (ms0 t) (hs0 t) (ms1 t) (hs1 t) (ms2 t) (hs2 t) (ms3 t) (hs3 t) (ms4 t) (hs4 t) T0 T1 (blk V c 0 t) (blk V c 1 t) (blk V c 2 t) (blk V c 3 t) hi hf hd)
      · ipureintro; exact hR.2
  · by_cases hf : IsFar T0 T1 (crd t)
    · have hlt := eF.mp hf
      have hd : ¬ IsDiag T0 T1 (crd t) := fun h => absurd (eD.mp h) (Nat.ne_of_lt hlt)
      have hR := st.far t m0 l0 s0 hI hi hf hd
      iapply ((runFar c (crd t) (ms0 t) (hs0 t) (ms1 t) (hs1 t) (ms2 t) (hs2 t) (ms3 t) (hs3 t) (ms4 t) (hs4 t) T0 T1 (blk V c 0 t) (blk V c 1 t) (blk V c 2 t) (blk V c 3 t) m0 l0 s0 hi hf hd).2.2.2 Y _)
      isplitl [H0 H1 H2 H3 HT0 HT1 HS0 HS1 HS2]
      · unfold hold
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [HS0]; · iexact HS0
        isplitl [HS1]; · iexact HS1
        iexact HS2
      isplitl [H4]; · iexact H4
      unfold hold
      iintro ⟨⟨H0, H1, H2, H3, HT0, HT1, HS0, HS1, HS2⟩, H4⟩
      isplitl [HS0 HS1 HS2 HT0 HT1 Hp]
      · iexists _; iexists _; iexists _; isplitr; swap
        · isplitl [HS0]; · iexact HS0
          isplitl [HS1]; · iexact HS1
          isplitl [HS2]; · iexact HS2
          isplitl [HT0]; · iexact HT0
          isplitl [HT1]; · iexact HT1
          iexact Hp
        · ipureintro; exact hR
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      iexists Y; isplitr; swap
      · iexact H4
      · ipureintro; exact st.out t hlt Y
    · have hd : IsDiag T0 T1 (crd t) := eD.mpr (Nat.le_antisymm hle (Nat.le_of_not_lt fun h => hf (eF.mpr h)))
      have hR := st.diag t m0 l0 s0 hI hi hf hd
      iapply ((runDiag c (crd t) (ms0 t) (hs0 t) (ms1 t) (hs1 t) (ms2 t) (hs2 t) (ms3 t) (hs3 t) (ms4 t) (hs4 t) T0 T1 (blk V c 0 t) (blk V c 1 t) (blk V c 2 t) (blk V c 3 t) m0 l0 s0 hi hf hd).2.2.2.2 _)
      isplitl [H0 H1 H2 H3 HT0 HT1 HS0 HS1 HS2]
      · unfold hold
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [HS0]; · iexact HS0
        isplitl [HS1]; · iexact HS1
        iexact HS2
      isplitl [H4]; · iexists _; iexact H4
      unfold hold
      iintro ⟨⟨H0, H1, H2, H3, HT0, HT1, HS0, HS1, HS2⟩, ⟨%e4, H4⟩⟩
      isplitl [HS0 HS1 HS2 HT0 HT1 Hp]
      · iexists _; iexists _; iexists _; isplitr; swap
        · isplitl [HS0]; · iexact HS0
          isplitl [HS1]; · iexact HS1
          isplitl [HS2]; · iexact HS2
          isplitl [HT0]; · iexact HT0
          isplitl [HT1]; · iexact HT1
          iexact Hp
        · ipureintro; exact hR.1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      iexists _; isplitr; swap
      · unfold owns; iexists _; isplitr; swap
        · iexact H4
        · ipureintro; exact View.read_writes_of_cover _ _ _ (ms4 t).view.junk _ (coverDiag c (crd t) (ms0 t) (hs0 t) (ms1 t) (hs1 t) (ms2 t) (hs2 t) (ms3 t) (hs3 t) (ms4 t) (hs4 t) T0 T1 (blk V c 0 t) (blk V c 1 t) (blk V c 2 t) (blk V c 3 t) m0 l0 s0 hi hf hd)
      · ipureintro; exact hR.2

set_option maxHeartbeats 4000000 in
theorem body_rel (c : Dev nD) (st : Steps V Inv Out c) :
    Pipeline.BodyObligationRel (dat V Inv c) (defs₀ (F := Ideal)) Variants.none () Set.univ held (Rl Out) := fun t => by
  rw [bigSep_W0]
  change iprop(Phi Inv c t.castSucc ∗ (dat V Inv c).owesAt () t.castSucc
        ∗ (∃ d, owns (c : Thread nD τ) (ms0 t) fullShare ((dat V Inv c).before (0 : Fin 5) t d))
        ∗ (∃ d, owns (c : Thread nD τ) (ms1 t) fullShare ((dat V Inv c).before (1 : Fin 5) t d))
        ∗ (∃ d, owns (c : Thread nD τ) (ms2 t) fullShare ((dat V Inv c).before (2 : Fin 5) t d))
        ∗ (∃ d, owns (c : Thread nD τ) (ms3 t) fullShare ((dat V Inv c).before (3 : Fin 5) t d))
        ∗ (∃ Y, ⌜((dat V Inv c).toRRel held (Rl Out)).Finds (4 : Fin 5) t Y⌝ ∗ owns (c : Thread nD τ) (ms4 t) fullShare Y)) ⊢ _
  iintro ⟨HP, Ho, ⟨%d0, H0⟩, ⟨%d1, H1⟩, ⟨%d2, H2⟩, ⟨%d3, H3⟩, ⟨%Y, %hY, H4⟩⟩
  rw [before_0, before_1, before_2, before_3, bigSep_W0]
  iapply (point V Inv Out c st t Y)
  isplitl [HP]; · iexact HP
  isplitl [Ho]; · iexact Ho
  isplitl [H0]; · iexact H0
  isplitl [H1]; · iexact H1
  isplitl [H2]; · iexact H2
  isplitl [H3]; · iexact H3
  iexact H4

end Cert.KernelIdeal.Att

end
-- ==== Proof.KI.Launch.lean ====
module

public import proofs.«01_k».proof.Proof.KI.Frame
public import Idealize.ShloMosaic.Lib.StableHlo.RunRead

/-! The launch: the host lines, the tables they write, and the whole run. -/

@[expose] public section
set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

local notation "𝕄" => MT nD τ sig Unit (Elt Ideal) ℕ (UR sig nD τ) ℕ

variable (m : (ℓ : Loc nD τ sig) → Buf (Elt Ideal) ℓ)

/-- The buffers' contents when the call begins: the host lines have run. -/
abbrev V (c : Dev nD) (b : Ref sig .tc) : Buf (Elt Ideal) ((c.tc : Thread nD τ).loc b) :=
  StableHlo.after (hostOps0 (F := Ideal)) (fun b => m (c, b)) b

theorem rm136 (i : S136.Idx) : ((S136.rowMajor i : Fin 136) : ℕ) = (i 0).val := by
  rw [Shape.rowMajor_val_one]

theorem V_qt (c : Dev nD) : V m c main_c = T0 := by
  unfold V
  after_reads_simp
  funext x
  exact (lit0_eq _).trans (congrArg (fun n => BitVec.ofNat 32 (qN n)) (rm136 x))
theorem V_kt (c : Dev nD) : V m c main_c_0 = T1 := by
  unfold V
  after_reads_simp
  funext x
  exact (lit1_eq _).trans (congrArg (fun n => BitVec.ofNat 32 (kN n)) (rm136 x))
theorem V_arg0 (c : Dev nD) : V m c main_arg0 = m ((c.tc : Thread nD τ).loc main_arg0) := by unfold V; after_reads_simp
theorem V_arg1 (c : Dev nD) : V m c main_arg1 = m ((c.tc : Thread nD τ).loc main_arg1) := by unfold V; after_reads_simp
theorem V_arg2 (c : Dev nD) : V m c main_arg2 = m ((c.tc : Thread nD τ).loc main_arg2) := by unfold V; after_reads_simp
theorem V_arg3 (c : Dev nD) : V m c main_arg3 = m ((c.tc : Thread nD τ).loc main_arg3) := by unfold V; after_reads_simp

theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

variable {Inv : ℕ → (S1x2048.Idx → Elt Ideal .f32) → (S1x2048.Idx → Elt Ideal .f32) → (S128x2048.Idx → Elt Ideal .f32) → Prop}
  {Out : Fin cfgA.N → (S256x512.Idx → Elt Ideal .bf16) → Prop}

theorem hin (c : Dev nD) (st : Steps (V m) Inv Out c) :
    iprop(Pipeline.ΦA cfgA.spec c ∗ Pipeline.ΦT pre0 adm.1 c) ⊢ (rdat (V m) Inv Out c).Φ 0 := by
  unfold Pipeline.ΦA Pipeline.ΦT
  rw [prefHeld_eq]
  change iprop((Pipeline.scopedRest spec0 c ∗ ∃ r, prngReg c r) ∗ _ ∗ _) ⊢ Phi Inv c 0
  rw [scopedRest0_eq]
  unfold Phi
  iintro ⟨⟨⟨⟨%a0, HS0⟩, ⟨%a1, HS1⟩, ⟨%a2, HS2⟩⟩, Hp⟩, HT0, HT1⟩
  iexists a0; iexists a1; iexists a2
  isplitr; swap
  · isplitl [HS0]; · iexact HS0
    isplitl [HS1]; · iexact HS1
    isplitl [HS2]; · iexact HS2
    isplitl [HT0]; · iexact HT0
    isplitl [HT1]; · iexact HT1
    iexact Hp
  · ipureintro; exact st.zero _ _ _

theorem hout (c : Dev nD) : (rdat (V m) Inv Out c).Φ (Fin.last cfgA.N) ⊢ Pipeline.ΦA cfgA.spec c := by
  unfold Pipeline.ΦA
  change Phi Inv c (Fin.last _) ⊢ iprop(Pipeline.scopedRest spec0 c ∗ ∃ r, prngReg c r)
  rw [scopedRest0_eq]
  unfold Phi
  iintro ⟨%a0, %a1, %a2, -, HS0, HS1, HS2, -, -, Hp⟩
  isplitl [HS0 HS1 HS2]
  · isplitl [HS0]; · iexists a0; iexact HS0
    isplitl [HS1]; · iexists a1; iexact HS1
    iexists a2; iexact HS2
  iexact Hp

theorem hpf (c : Dev nD) (k : Fin 2) : V m c (pre0.ref k) = adm.1 k := by
  fin_cases k
  · exact V_qt m c
  · exact V_kt m c

set_option backward.isDefEq.respectTransparency.types false in
set_option maxHeartbeats 4000000 in
/-- The whole run: it ends with the output blocks as the condition says, the other buffers as the host lines left them
    and every counter at zero. -/
theorem launch (g : Dev nD → PrngReg) (st : ∀ c, Steps (V m) Inv Out c) (Q' : PUnit × MemSt nD τ sig (Elt Ideal) → Prop)
    (hQ' : ∀ r, Pipeline.RDat.FramePost cfgA (rdat (V m) Inv Out) (V m) r ∧ r.2.sem = (fun _ => 0) → Q' r) :
    θ_run (defs (F := Ideal)) (onTc (τ := τ) (main (F := Ideal))) ⟨m, fun _ => 0, g⟩ Q' :=
  Pipeline.RDat.θ_run_frameP_track pcfgs (fun _ => adm) (0 : Fin 1) launch0 defs₀ Variants.none (rdat (V m) Inv Out) m g main
    (fun c => (body_rel (V m) Inv Out c (st c)).toRRel) (fun c w => share_eq (V m) Inv c w) (fun _ _ => rfl) (V m)
    (Pipeline.hmainP_prefix pcfgs (0 : Fin 1) defs₀ Variants.none m main hostOps0 hostOps0_sub (by repeat' constructor) main_chain)
    (fun _ _ => rfl) (hpf m) (fun c => hin m c (st c)) (fun c => hout m c) Q' hQ'

/-- The arguments end as they began. -/
theorem args_kept (r : PUnit × MemSt nD τ sig (Elt Ideal)) (h : Pipeline.RDat.FramePost cfgA (rdat (V m) Inv Out) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(h.arr_in c (0 : Fin 5) rfl).trans (V_arg0 m c), (h.arr_in c (1 : Fin 5) rfl).trans (V_arg1 m c),
    (h.arr_in c (2 : Fin 5) rfl).trans (V_arg2 m c), ((h c).2 main_arg3 (by decide)).trans (V_arg3 m c)⟩

end Cert.KernelIdeal.Att

end
-- ==== Proof.KI.Tile.lean ====
module

public import proofs.«01_k».proof.Proof.KI.Base
public import Idealize.ShloMosaic.Lib.Pointwise
public import Idealize.ShloMosaic.Lib.WordCmp

/-! One tile of the attention, column by column: a column is one query position of one head, a row one key. Every one of the
four column groups of the body runs the same update, told here on the columns themselves. -/

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open scoped BigOperators

/-- The scale of the scores, a quotient of a rational and of the logarithm of two. -/
abbrev kap : EReal := (((3424635 / 33554432) * (Real.log 2)⁻¹ : ℝ) : EReal)

/-- The scaled scores of a tile below the diagonal. -/
def scF {n : ℕ} (K : S256x256.Idx → EReal) (Q : Fin n → Fin 256 → EReal) (k : Fin 256) (c : Fin n) : EReal :=
  (∑ j : Fin 256, K (ix2 k j) * Q c j) * kap

/-- The scores of a diagonal tile: a key after the query of its column is masked. -/
def scD {n : ℕ} (K : S256x256.Idx → EReal) (Q : Fin n → Fin 256 → EReal) (k : Fin 256) (c : Fin n) : EReal :=
  if k.val ≤ c.val % 256 then scF K Q k c else ⊥

/-- The running maximum after a tile. -/
def colM {n : ℕ} (S : Fin 256 → Fin n → EReal) (m : Fin n → EReal) (c : Fin n) : EReal :=
  max (m c) (Finset.univ.fold max ⊥ fun k => S k c)

/-- The weights of a tile against its new maximum. -/
def colP {n : ℕ} (S : Fin 256 → Fin n → EReal) (m : Fin n → EReal) (k : Fin 256) (c : Fin n) : EReal :=
  Ideal.exp2 (S k c - colM S m c)

/-- What the sums so far are scaled by. -/
def colA {n : ℕ} (S : Fin 256 → Fin n → EReal) (m : Fin n → EReal) (c : Fin n) : EReal :=
  Ideal.exp2 (m c - colM S m c)

/-- The running sum of weights after a tile. -/
def colL {n : ℕ} (S : Fin 256 → Fin n → EReal) (m l : Fin n → EReal) (c : Fin n) : EReal :=
  colA S m c * l c + ∑ k, colP S m k c

/-- The running sum of weighted values after a tile. -/
def colV {n : ℕ} (V : S128x256.Idx → EReal) (S : Fin 256 → Fin n → EReal) (m : Fin n → EReal) (a : Fin 128 → Fin n → EReal)
    (d : Fin 128) (c : Fin n) : EReal :=
  a d c * colA S m c + ∑ k, V (ix2 d k) * colP S m k c

theorem word_neginf : Ideal.ofBits FTy.f32 4286578688#32 = ⊥ := by
  simp [Ideal.ofBits, Ideal.ieee]

theorem named_scale (w : BitVec 32) : Named.named (F := Ideal) (φ := .f32) κ "scale_log2e" w = kap := rfl

theorem named_mask (w : BitVec 32) : Named.named (F := Ideal) (φ := .f32) κ "mask" w = ⊥ := rfl

/-- The mask of the diagonal tile, from words to numbers. -/
theorem mask_le (k : Fin 256) (c : Fin 512) (x y : EReal) :
    Scalar.select (IntOp.cmpi .sle (BitVec.ofNat 32 k.val) (IntOp.andi (BitVec.ofNat 32 c.val) 255#32)) x y
      = if k.val ≤ c.val % 256 then x else y := by
  have hk := k.isLt
  have hc := c.isLt
  have e1 : (IntOp.andi (BitVec.ofNat 32 c.val) 255#32) = BitVec.ofNat 32 (c.val % 256) := by
    apply BitVec.eq_of_toNat_eq
    simp only [IntOp.andi, BitVec.toNat_and, BitVec.toNat_ofNat]
    rw [Nat.mod_eq_of_lt (by omega : c.val < 2 ^ 32), Nat.mod_eq_of_lt (by omega : c.val % 256 < 2 ^ 32)]
    exact Nat.and_two_pow_sub_one_eq_mod c.val 8
  rw [e1]
  have hm : c.val % 256 < 256 := Nat.mod_lt _ (by norm_num)
  simp (disch := word_cmp_side) only [hlo_ix]

section
variable (K : Vec Ideal S256x256 .bf16) (Q : Vec Ideal S512x256 .bf16) (V : Vec Ideal S128x256 .bf16)
  (m l : Vec Ideal S1x512 .f32) (a : Vec Ideal S128x512 .f32)

theorem far_m0 : k0_pay20 K Q m = fun x => colM (scF K fun c j => Q (ix2 c j)) (fun c => m (ix2 0 c)) (x 1) := by
  funext x; idx_vars x; obtain rfl : x0 = 0 := Subsingleton.elim _ _
  pointwise [k0_pay15, k0_pay16, k0_pay17, k0_pay18, k0_pay19, k0_pay20, k0_pay21, word_neginf, named_scale, named_mask]
  rfl

theorem far_l0 : k0_pay19 K Q m l = fun x => colL (scF K fun c j => Q (ix2 c j)) (fun c => m (ix2 0 c)) (fun c => l (ix2 0 c)) (x 1) := by
  funext x; idx_vars x; obtain rfl : x0 = 0 := Subsingleton.elim _ _
  pointwise [k0_pay15, k0_pay16, k0_pay17, k0_pay18, k0_pay19, k0_pay20, k0_pay21, word_neginf, named_scale, named_mask]
  rfl

theorem far_v0 : k0_pay21 V (k0_pay17 K Q m) (k0_pay18 K Q m) a = fun x => colV V (scF K fun c j => Q (ix2 c j)) (fun c => m (ix2 0 c)) (fun d c => a (ix2 d c)) (x 0) (x 1) := by
  funext x; idx_vars x
  pointwise [k0_pay15, k0_pay16, k0_pay17, k0_pay18, k0_pay19, k0_pay20, k0_pay21, word_neginf, named_scale, named_mask]
  rfl

theorem far_m1 : k0_pay27 (k0_pay12 K Q) m = fun x => colM (scF K fun c j => Q (ix2 c j)) (fun c => m (ix2 0 c)) (x 1) := by
  funext x; idx_vars x; obtain rfl : x0 = 0 := Subsingleton.elim _ _
  pointwise [k0_pay12, k0_pay22, k0_pay23, k0_pay24, k0_pay25, k0_pay26, k0_pay27, k0_pay28, k0_pay29, word_neginf, named_scale, named_mask]
  rfl

theorem far_l1 : k0_pay26 (k0_pay12 K Q) m l = fun x => colL (scF K fun c j => Q (ix2 c j)) (fun c => m (ix2 0 c)) (fun c => l (ix2 0 c)) (x 1) := by
  funext x; idx_vars x; obtain rfl : x0 = 0 := Subsingleton.elim _ _
  pointwise [k0_pay12, k0_pay22, k0_pay23, k0_pay24, k0_pay25, k0_pay26, k0_pay27, k0_pay28, k0_pay29, word_neginf, named_scale, named_mask]
  rfl

theorem far_v1 : k0_pay29 (k0_pay28 V (k0_pay12 K Q) m a) = fun x => colV V (scF K fun c j => Q (ix2 c j)) (fun c => m (ix2 0 c)) (fun d c => a (ix2 d c)) (x 0) (x 1) := by
  funext x; idx_vars x
  pointwise [k0_pay12, k0_pay22, k0_pay23, k0_pay24, k0_pay25, k0_pay26, k0_pay27, k0_pay28, k0_pay29, word_neginf, named_scale, named_mask]
  rfl

theorem far_m2 : k0_pay35 (k0_pay13 K Q) m = fun x => colM (scF K fun c j => Q (ix2 c j)) (fun c => m (ix2 0 c)) (x 1) := by
  funext x; idx_vars x; obtain rfl : x0 = 0 := Subsingleton.elim _ _
  pointwise [k0_pay13, k0_pay30, k0_pay31, k0_pay32, k0_pay33, k0_pay34, k0_pay35, k0_pay36, word_neginf, named_scale, named_mask]
  rfl

theorem far_l2 : k0_pay34 (k0_pay13 K Q) m l = fun x => colL (scF K fun c j => Q (ix2 c j)) (fun c => m (ix2 0 c)) (fun c => l (ix2 0 c)) (x 1) := by
  funext x; idx_vars x; obtain rfl : x0 = 0 := Subsingleton.elim _ _
  pointwise [k0_pay13, k0_pay30, k0_pay31, k0_pay32, k0_pay33, k0_pay34, k0_pay35, k0_pay36, word_neginf, named_scale, named_mask]
  rfl

theorem far_v2 : k0_pay36 V (k0_pay13 K Q) m a = fun x => colV V (scF K fun c j => Q (ix2 c j)) (fun c => m (ix2 0 c)) (fun d c => a (ix2 d c)) (x 0) (x 1) := by
  funext x; idx_vars x
  pointwise [k0_pay13, k0_pay30, k0_pay31, k0_pay32, k0_pay33, k0_pay34, k0_pay35, k0_pay36, word_neginf, named_scale, named_mask]
  rfl

theorem far_m3 : k0_pay8 (k0_pay37 (k0_pay14 K Q)) m = fun x => colM (scF K fun c j => Q (ix2 c j)) (fun c => m (ix2 0 c)) (x 1) := by
  funext x; idx_vars x; obtain rfl : x0 = 0 := Subsingleton.elim _ _
  pointwise [k0_pay14, k0_pay37, k0_pay4, k0_pay5, k0_pay6, k0_pay7, k0_pay8, k0_pay9, word_neginf, named_scale, named_mask]
  rfl

theorem far_l3 : k0_pay7 (k0_pay37 (k0_pay14 K Q)) m l = fun x => colL (scF K fun c j => Q (ix2 c j)) (fun c => m (ix2 0 c)) (fun c => l (ix2 0 c)) (x 1) := by
  funext x; idx_vars x; obtain rfl : x0 = 0 := Subsingleton.elim _ _
  pointwise [k0_pay14, k0_pay37, k0_pay4, k0_pay5, k0_pay6, k0_pay7, k0_pay8, k0_pay9, word_neginf, named_scale, named_mask]
  rfl

theorem far_v3 : k0_pay9 V (k0_pay37 (k0_pay14 K Q)) m a = fun x => colV V (scF K fun c j => Q (ix2 c j)) (fun c => m (ix2 0 c)) (fun d c => a (ix2 d c)) (x 0) (x 1) := by
  funext x; idx_vars x
  pointwise [k0_pay14, k0_pay37, k0_pay4, k0_pay5, k0_pay6, k0_pay7, k0_pay8, k0_pay9, word_neginf, named_scale, named_mask]
  rfl

theorem diag_m0 : k0_pay47 (k0_pay42 K Q m) = fun x => colM (scD K fun c j => Q (ix2 c j)) (fun c => m (ix2 0 c)) (x 1) := by
  funext x; idx_vars x; obtain rfl : x0 = 0 := Subsingleton.elim _ _
  pointwise [k0_pay41, k0_pay42, k0_pay43, k0_pay44, k0_pay45, k0_pay46, k0_pay47, k0_pay48, word_neginf, named_scale, named_mask, mask_le]
  rfl

theorem diag_l0 : k0_pay46 (k0_pay45 K Q m l) = fun x => colL (scD K fun c j => Q (ix2 c j)) (fun c => m (ix2 0 c)) (fun c => l (ix2 0 c)) (x 1) := by
  funext x; idx_vars x; obtain rfl : x0 = 0 := Subsingleton.elim _ _
  pointwise [k0_pay41, k0_pay42, k0_pay43, k0_pay44, k0_pay45, k0_pay46, k0_pay47, k0_pay48, word_neginf, named_scale, named_mask, mask_le]
  rfl

theorem diag_v0 : k0_pay48 V (k0_pay43 K Q m) (k0_pay44 K Q m) a = fun x => colV V (scD K fun c j => Q (ix2 c j)) (fun c => m (ix2 0 c)) (fun d c => a (ix2 d c)) (x 0) (x 1) := by
  funext x; idx_vars x
  pointwise [k0_pay41, k0_pay42, k0_pay43, k0_pay44, k0_pay45, k0_pay46, k0_pay47, k0_pay48, word_neginf, named_scale, named_mask, mask_le]
  rfl

theorem diag_m1 : k0_pay55 (k0_pay50 (k0_pay38 K Q) m) = fun x => colM (scD K fun c j => Q (ix2 c j)) (fun c => m (ix2 0 c)) (x 1) := by
  funext x; idx_vars x; obtain rfl : x0 = 0 := Subsingleton.elim _ _
  pointwise [k0_pay38, k0_pay49, k0_pay50, k0_pay51, k0_pay52, k0_pay53, k0_pay54, k0_pay55, k0_pay56, word_neginf, named_scale, named_mask, mask_le]
  rfl

theorem diag_l1 : k0_pay54 (k0_pay53 (k0_pay38 K Q) m l) = fun x => colL (scD K fun c j => Q (ix2 c j)) (fun c => m (ix2 0 c)) (fun c => l (ix2 0 c)) (x 1) := by
  funext x; idx_vars x; obtain rfl : x0 = 0 := Subsingleton.elim _ _
  pointwise [k0_pay38, k0_pay49, k0_pay50, k0_pay51, k0_pay52, k0_pay53, k0_pay54, k0_pay55, k0_pay56, word_neginf, named_scale, named_mask, mask_le]
  rfl

theorem diag_v1 : k0_pay56 V (k0_pay51 (k0_pay38 K Q) m) (k0_pay52 (k0_pay38 K Q) m) a = fun x => colV V (scD K fun c j => Q (ix2 c j)) (fun c => m (ix2 0 c)) (fun d c => a (ix2 d c)) (x 0) (x 1) := by
  funext x; idx_vars x
  pointwise [k0_pay38, k0_pay49, k0_pay50, k0_pay51, k0_pay52, k0_pay53, k0_pay54, k0_pay55, k0_pay56, word_neginf, named_scale, named_mask, mask_le]
  rfl

theorem diag_m2 : k0_pay63 (k0_pay58 (k0_pay39 K Q) m) = fun x => colM (scD K fun c j => Q (ix2 c j)) (fun c => m (ix2 0 c)) (x 1) := by
  funext x; idx_vars x; obtain rfl : x0 = 0 := Subsingleton.elim _ _
  pointwise [k0_pay39, k0_pay57, k0_pay58, k0_pay59, k0_pay60, k0_pay61, k0_pay62, k0_pay63, k0_pay64, word_neginf, named_scale, named_mask, mask_le]
  rfl

theorem diag_l2 : k0_pay62 (k0_pay61 (k0_pay39 K Q) m l) = fun x => colL (scD K fun c j => Q (ix2 c j)) (fun c => m (ix2 0 c)) (fun c => l (ix2 0 c)) (x 1) := by
  funext x; idx_vars x; obtain rfl : x0 = 0 := Subsingleton.elim _ _
  pointwise [k0_pay39, k0_pay57, k0_pay58, k0_pay59, k0_pay60, k0_pay61, k0_pay62, k0_pay63, k0_pay64, word_neginf, named_scale, named_mask, mask_le]
  rfl

theorem diag_v2 : k0_pay64 V (k0_pay59 (k0_pay39 K Q) m) (k0_pay60 (k0_pay39 K Q) m) a = fun x => colV V (scD K fun c j => Q (ix2 c j)) (fun c => m (ix2 0 c)) (fun d c => a (ix2 d c)) (x 0) (x 1) := by
  funext x; idx_vars x
  pointwise [k0_pay39, k0_pay57, k0_pay58, k0_pay59, k0_pay60, k0_pay61, k0_pay62, k0_pay63, k0_pay64, word_neginf, named_scale, named_mask, mask_le]
  rfl

theorem diag_m3 : k0_pay70 (k0_pay66 (k0_pay40 K Q) m) = fun x => colM (scD K fun c j => Q (ix2 c j)) (fun c => m (ix2 0 c)) (x 1) := by
  funext x; idx_vars x; obtain rfl : x0 = 0 := Subsingleton.elim _ _
  pointwise [k0_pay40, k0_pay65, k0_pay66, k0_pay67, k0_pay68, k0_pay69, k0_pay70, k0_pay71, word_neginf, named_scale, named_mask, mask_le]
  rfl

theorem diag_l3 : k0_pay69 (k0_pay40 K Q) m l = fun x => colL (scD K fun c j => Q (ix2 c j)) (fun c => m (ix2 0 c)) (fun c => l (ix2 0 c)) (x 1) := by
  funext x; idx_vars x; obtain rfl : x0 = 0 := Subsingleton.elim _ _
  pointwise [k0_pay40, k0_pay65, k0_pay66, k0_pay67, k0_pay68, k0_pay69, k0_pay70, k0_pay71, word_neginf, named_scale, named_mask, mask_le]
  rfl

theorem diag_v3 : k0_pay71 V (k0_pay67 (k0_pay40 K Q) m) (k0_pay68 (k0_pay40 K Q) m) a = fun x => colV V (scD K fun c j => Q (ix2 c j)) (fun c => m (ix2 0 c)) (fun d c => a (ix2 d c)) (x 0) (x 1) := by
  funext x; idx_vars x
  pointwise [k0_pay40, k0_pay65, k0_pay66, k0_pay67, k0_pay68, k0_pay69, k0_pay70, k0_pay71, word_neginf, named_scale, named_mask, mask_le]
  rfl

end

end Cert.KernelIdeal.Att

end
-- ==== Proof.KI.Pieces.lean ====
module

public import proofs.«01_k».proof.Proof.KI.Tile

/-! Reading back what the body stores: the three running arrays are written in four groups of 512 columns, the output block in
four groups of 128 columns; the blocks are loaded in the same groups. -/

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open scoped BigOperators

/-- Column `c` of the group that starts at `o`. -/
abbrev at_ {n N : ℕ} (o : ℕ) (h : o + n ≤ N) (c : Fin n) : Fin N := ⟨o + c.val, by have := c.isLt; omega⟩

section
variable {n N : ℕ} (f : Fin n → Fin N)

theorem scF_at (K : S256x256.Idx → EReal) (Q : Fin n → Fin 256 → EReal) (q : Fin N → Fin 256 → EReal)
    (hQ : ∀ c j, Q c j = q (f c) j) : scF K Q = fun k c => scF K q k (f c) := by
  obtain rfl : Q = fun c j => q (f c) j := funext fun c => funext fun j => hQ c j
  rfl

theorem scD_at (K : S256x256.Idx → EReal) (Q : Fin n → Fin 256 → EReal) (q : Fin N → Fin 256 → EReal)
    (hQ : ∀ c j, Q c j = q (f c) j) (hf : ∀ c, (f c).val % 256 = c.val % 256) :
    scD K Q = fun k c => scD K q k (f c) := by
  obtain rfl : Q = fun c j => q (f c) j := funext fun c => funext fun j => hQ c j
  funext k c
  simp only [scD, hf]
  rfl

theorem colM_at (S : Fin 256 → Fin N → EReal) (m : Fin n → EReal) (M : Fin N → EReal) (hm : ∀ c, m c = M (f c)) (c : Fin n) :
    colM (fun k c => S k (f c)) m c = colM S M (f c) := by
  obtain rfl : m = fun c => M (f c) := funext hm
  rfl

theorem colL_at (S : Fin 256 → Fin N → EReal) (m l : Fin n → EReal) (M L : Fin N → EReal) (hm : ∀ c, m c = M (f c))
    (hl : ∀ c, l c = L (f c)) (c : Fin n) :
    colL (fun k c => S k (f c)) m l c = colL S M L (f c) := by
  obtain rfl : m = fun c => M (f c) := funext hm
  obtain rfl : l = fun c => L (f c) := funext hl
  rfl

theorem colV_at (V : S128x256.Idx → EReal) (S : Fin 256 → Fin N → EReal) (m : Fin n → EReal) (a : Fin 128 → Fin n → EReal)
    (M : Fin N → EReal) (A : Fin 128 → Fin N → EReal) (hm : ∀ c, m c = M (f c))
    (ha : ∀ d c, a d c = A d (f c)) (d : Fin 128) (c : Fin n) :
    colV V (fun k c => S k (f c)) m a d c = colV V S M A d (f c) := by
  obtain rfl : m = fun c => M (f c) := funext hm
  obtain rfl : a = fun d c => A d (f c) := funext fun d => funext fun c => ha d c
  rfl

end

section
variable {κ : Kind} {sp : Space}

/-- A row read back after its four groups of columns are written. -/
theorem rows4 (v : View sig κ sp S1x2048 .f32) (f : v.ty.Contents (Elt Ideal)) (w0 w1 w2 w3 : S1x512.Idx → EReal)
    (G : Fin 2048 → EReal) (L : List (View.Piece (Elt Ideal) S1x2048 .f32)) (i0 i1 i2 i3)
    (h0 : ∀ c : Fin 512, w0 (ix2 0 c) = G (at_ 0 (by omega) c)) (h1 : ∀ c : Fin 512, w1 (ix2 0 c) = G (at_ 512 (by omega) c))
    (h2 : ∀ c : Fin 512, w2 (ix2 0 c) = G (at_ 1024 (by omega) c)) (h3 : ∀ c : Fin 512, w3 (ix2 0 c) = G (at_ 1536 (by omega) c))
    (y : S1x2048.Idx) :
    v.read (Elt Ideal) (v.writes (Elt Ideal) f (⟨Rect.unit ![0, 1536] S1x512.size i3, w3⟩ :: ⟨Rect.unit ![0, 1024] S1x512.size i2, w2⟩
      :: ⟨Rect.unit ![0, 512] S1x512.size i1, w1⟩ :: ⟨Rect.unit ![0, 0] S1x512.size i0, w0⟩ :: L)) y = G (y 1) := by
  idx_vars y
  obtain rfl : y0 = 0 := Subsingleton.elim _ _
  have hy := y1.isLt
  by_cases c3 : 1536 ≤ y1.val
  · rw [View.read_writes_cons_hit_of_coords v f _ _ _ (ix2 (0 : Fin 1) (⟨y1.val - 1536, by omega⟩ : Fin 512)) _ (fun a => by
      match a with
      | ⟨0, _⟩ => rfl
      | ⟨1, _⟩ => show y1.val = 1536 + 1 * (y1.val - 1536); omega)]
    exact (h3 _).trans (congrArg G (Fin.ext (by show 1536 + (y1.val - 1536) = y1.val; omega)))
  rw [View.read_writes_cons_miss_of_axis v f _ _ _ 1 1536 512 rfl rfl rfl (Or.inl (by show y1.val < 1536; omega))]
  by_cases c2 : 1024 ≤ y1.val
  · rw [View.read_writes_cons_hit_of_coords v f _ _ _ (ix2 (0 : Fin 1) (⟨y1.val - 1024, by omega⟩ : Fin 512)) _ (fun a => by
      match a with
      | ⟨0, _⟩ => rfl
      | ⟨1, _⟩ => show y1.val = 1024 + 1 * (y1.val - 1024); omega)]
    exact (h2 _).trans (congrArg G (Fin.ext (by show 1024 + (y1.val - 1024) = y1.val; omega)))
  rw [View.read_writes_cons_miss_of_axis v f _ _ _ 1 1024 512 rfl rfl rfl (Or.inl (by show y1.val < 1024; omega))]
  by_cases c1 : 512 ≤ y1.val
  · rw [View.read_writes_cons_hit_of_coords v f _ _ _ (ix2 (0 : Fin 1) (⟨y1.val - 512, by omega⟩ : Fin 512)) _ (fun a => by
      match a with
      | ⟨0, _⟩ => rfl
      | ⟨1, _⟩ => show y1.val = 512 + 1 * (y1.val - 512); omega)]
    exact (h1 _).trans (congrArg G (Fin.ext (by show 512 + (y1.val - 512) = y1.val; omega)))
  rw [View.read_writes_cons_miss_of_axis v f _ _ _ 1 512 512 rfl rfl rfl (Or.inl (by show y1.val < 512; omega))]
  rw [View.read_writes_cons_hit_of_coords v f _ _ _ (ix2 (0 : Fin 1) (⟨y1.val, by omega⟩ : Fin 512)) _ (fun a => by
      match a with
      | ⟨0, _⟩ => rfl
      | ⟨1, _⟩ => show y1.val = 0 + 1 * y1.val; omega)]
  exact (h0 _).trans (congrArg G (Fin.ext (by show 0 + y1.val = y1.val; omega)))

/-- A matrix of 128 rows read back after its four groups of columns are written. -/
theorem mats4 (v : View sig κ sp S128x2048 .f32) (f : v.ty.Contents (Elt Ideal)) (w0 w1 w2 w3 : S128x512.Idx → EReal)
    (G : Fin 128 → Fin 2048 → EReal) (L : List (View.Piece (Elt Ideal) S128x2048 .f32)) (i0 i1 i2 i3)
    (h0 : ∀ (d : Fin 128) (c : Fin 512), w0 (ix2 d c) = G d (at_ 0 (by omega) c)) (h1 : ∀ (d : Fin 128) (c : Fin 512), w1 (ix2 d c) = G d (at_ 512 (by omega) c))
    (h2 : ∀ (d : Fin 128) (c : Fin 512), w2 (ix2 d c) = G d (at_ 1024 (by omega) c)) (h3 : ∀ (d : Fin 128) (c : Fin 512), w3 (ix2 d c) = G d (at_ 1536 (by omega) c))
    (y : S128x2048.Idx) :
    v.read (Elt Ideal) (v.writes (Elt Ideal) f (⟨Rect.unit ![0, 1536] S128x512.size i3, w3⟩ :: ⟨Rect.unit ![0, 1024] S128x512.size i2, w2⟩
      :: ⟨Rect.unit ![0, 512] S128x512.size i1, w1⟩ :: ⟨Rect.unit ![0, 0] S128x512.size i0, w0⟩ :: L)) y = G (y 0) (y 1) := by
  idx_vars y
  have hy := y1.isLt
  by_cases c3 : 1536 ≤ y1.val
  · rw [View.read_writes_cons_hit_of_coords v f _ _ _ (ix2 (y0 : Fin 128) (⟨y1.val - 1536, by omega⟩ : Fin 512)) _ (fun a => by
      match a with
      | ⟨0, _⟩ => show y0.val = 0 + 1 * y0.val; omega
      | ⟨1, _⟩ => show y1.val = 1536 + 1 * (y1.val - 1536); omega)]
    exact (h3 _ _).trans (congrArg (G y0) (Fin.ext (by show 1536 + (y1.val - 1536) = y1.val; omega)))
  rw [View.read_writes_cons_miss_of_axis v f _ _ _ 1 1536 512 rfl rfl rfl (Or.inl (by show y1.val < 1536; omega))]
  by_cases c2 : 1024 ≤ y1.val
  · rw [View.read_writes_cons_hit_of_coords v f _ _ _ (ix2 (y0 : Fin 128) (⟨y1.val - 1024, by omega⟩ : Fin 512)) _ (fun a => by
      match a with
      | ⟨0, _⟩ => show y0.val = 0 + 1 * y0.val; omega
      | ⟨1, _⟩ => show y1.val = 1024 + 1 * (y1.val - 1024); omega)]
    exact (h2 _ _).trans (congrArg (G y0) (Fin.ext (by show 1024 + (y1.val - 1024) = y1.val; omega)))
  rw [View.read_writes_cons_miss_of_axis v f _ _ _ 1 1024 512 rfl rfl rfl (Or.inl (by show y1.val < 1024; omega))]
  by_cases c1 : 512 ≤ y1.val
  · rw [View.read_writes_cons_hit_of_coords v f _ _ _ (ix2 (y0 : Fin 128) (⟨y1.val - 512, by omega⟩ : Fin 512)) _ (fun a => by
      match a with
      | ⟨0, _⟩ => show y0.val = 0 + 1 * y0.val; omega
      | ⟨1, _⟩ => show y1.val = 512 + 1 * (y1.val - 512); omega)]
    exact (h1 _ _).trans (congrArg (G y0) (Fin.ext (by show 512 + (y1.val - 512) = y1.val; omega)))
  rw [View.read_writes_cons_miss_of_axis v f _ _ _ 1 512 512 rfl rfl rfl (Or.inl (by show y1.val < 512; omega))]
  rw [View.read_writes_cons_hit_of_coords v f _ _ _ (ix2 (y0 : Fin 128) (⟨y1.val, by omega⟩ : Fin 512)) _ (fun a => by
      match a with
      | ⟨0, _⟩ => show y0.val = 0 + 1 * y0.val; omega
      | ⟨1, _⟩ => show y1.val = 0 + 1 * y1.val; omega)]
  exact (h0 _ _).trans (congrArg (G y0) (Fin.ext (by show 0 + y1.val = y1.val; omega)))

/-- The output block read back after its four groups of columns are written. -/
theorem outs4 (v : View sig κ sp S256x512 .bf16) (f : v.ty.Contents (Elt Ideal)) (w0 w1 w2 w3 : S256x128.Idx → EReal)
    (G : Fin 256 → Fin 512 → EReal) (L : List (View.Piece (Elt Ideal) S256x512 .bf16)) (i0 i1 i2 i3)
    (h0 : ∀ (d : Fin 256) (c : Fin 128), w0 (ix2 d c) = G d (at_ 0 (by omega) c)) (h1 : ∀ (d : Fin 256) (c : Fin 128), w1 (ix2 d c) = G d (at_ 128 (by omega) c))
    (h2 : ∀ (d : Fin 256) (c : Fin 128), w2 (ix2 d c) = G d (at_ 256 (by omega) c)) (h3 : ∀ (d : Fin 256) (c : Fin 128), w3 (ix2 d c) = G d (at_ 384 (by omega) c))
    (y : S256x512.Idx) :
    v.read (Elt Ideal) (v.writes (Elt Ideal) f (⟨Rect.unit ![0, 384] S256x128.size i3, w3⟩ :: ⟨Rect.unit ![0, 256] S256x128.size i2, w2⟩
      :: ⟨Rect.unit ![0, 128] S256x128.size i1, w1⟩ :: ⟨Rect.unit ![0, 0] S256x128.size i0, w0⟩ :: L)) y = G (y 0) (y 1) := by
  idx_vars y
  have hy := y1.isLt
  by_cases c3 : 384 ≤ y1.val
  · rw [View.read_writes_cons_hit_of_coords v f _ _ _ (ix2 (y0 : Fin 256) (⟨y1.val - 384, by omega⟩ : Fin 128)) _ (fun a => by
      match a with
      | ⟨0, _⟩ => show y0.val = 0 + 1 * y0.val; omega
      | ⟨1, _⟩ => show y1.val = 384 + 1 * (y1.val - 384); omega)]
    exact (h3 _ _).trans (congrArg (G y0) (Fin.ext (by show 384 + (y1.val - 384) = y1.val; omega)))
  rw [View.read_writes_cons_miss_of_axis v f _ _ _ 1 384 128 rfl rfl rfl (Or.inl (by show y1.val < 384; omega))]
  by_cases c2 : 256 ≤ y1.val
  · rw [View.read_writes_cons_hit_of_coords v f _ _ _ (ix2 (y0 : Fin 256) (⟨y1.val - 256, by omega⟩ : Fin 128)) _ (fun a => by
      match a with
      | ⟨0, _⟩ => show y0.val = 0 + 1 * y0.val; omega
      | ⟨1, _⟩ => show y1.val = 256 + 1 * (y1.val - 256); omega)]
    exact (h2 _ _).trans (congrArg (G y0) (Fin.ext (by show 256 + (y1.val - 256) = y1.val; omega)))
  rw [View.read_writes_cons_miss_of_axis v f _ _ _ 1 256 128 rfl rfl rfl (Or.inl (by show y1.val < 256; omega))]
  by_cases c1 : 128 ≤ y1.val
  · rw [View.read_writes_cons_hit_of_coords v f _ _ _ (ix2 (y0 : Fin 256) (⟨y1.val - 128, by omega⟩ : Fin 128)) _ (fun a => by
      match a with
      | ⟨0, _⟩ => show y0.val = 0 + 1 * y0.val; omega
      | ⟨1, _⟩ => show y1.val = 128 + 1 * (y1.val - 128); omega)]
    exact (h1 _ _).trans (congrArg (G y0) (Fin.ext (by show 128 + (y1.val - 128) = y1.val; omega)))
  rw [View.read_writes_cons_miss_of_axis v f _ _ _ 1 128 128 rfl rfl rfl (Or.inl (by show y1.val < 128; omega))]
  rw [View.read_writes_cons_hit_of_coords v f _ _ _ (ix2 (y0 : Fin 256) (⟨y1.val, by omega⟩ : Fin 128)) _ (fun a => by
      match a with
      | ⟨0, _⟩ => show y0.val = 0 + 1 * y0.val; omega
      | ⟨1, _⟩ => show y1.val = 0 + 1 * y1.val; omega)]
  exact (h0 _ _).trans (congrArg (G y0) (Fin.ext (by show 0 + y1.val = y1.val; omega)))

/-- What is read back of columns no later write has touched, over a fill of the whole array with one number. -/
theorem read_fill {s : Shape} (v : View sig κ sp s .f32) (f : v.ty.Contents (Elt Ideal)) (a : Fin s.rank) (o : ℕ) (z : EReal)
    (w : s.Idx → EReal) (hw : ∀ x, w x = z) (off : Fin s.rank → ℕ) (hoff : ∀ b, off b = 0) (ib : ∀ b, off b + s.size b ≤ s.size b)
    (y : s.Idx) (hy : o ≤ (y a).val) :
    ∀ L : List (View.Piece (Elt Ideal) s .f32), (∀ p ∈ L, p.1.stride a = 1 ∧ p.1.off a + p.1.size a ≤ o) →
      v.read (Elt Ideal) (v.writes (Elt Ideal) f (L ++ [⟨Rect.unit off s.size ib, w⟩])) y = z
  | [], _ => by
      rw [List.nil_append, View.read_writes_cons_hit_of_coords v f _ _ _ y y (fun b => by
        show (y b).val = off b + 1 * (y b).val
        rw [hoff]; omega)]
      exact hw y
  | p :: L, h => by
      rw [List.cons_append, View.read_writes_cons_miss_of_axis v f p _ y a (p.1.off a) (p.1.size a) rfl
        (h p List.mem_cons_self).1 rfl (Or.inr ((h p List.mem_cons_self).2.trans hy))]
      exact read_fill v f a o z w hw off hoff ib y hy L fun q hq => h q (List.mem_cons_of_mem _ hq)

end

/-- A load of whole rows of the query block. -/
theorem ldQ_at (a4 : MQ) (x0 : S2048x256.Idx → EReal) (o : ℕ) (ib) (ho : o + 512 ≤ 2048) (c : Fin 512) (j : Fin 256) :
    View.readAt (Elt Ideal) a4.view (Rect.unit (s := S2048x256) ![o, 0] S512x256.size ib).toLoadRect (a4.view.rep (Val := Elt Ideal) x0) (ix2 c j)
      = x0 (ix2 (at_ o ho c) j) := by
  rw [View.readAt_rep]
  refine congrArg x0 (funext fun a => Fin.ext ?_)
  match a with
  | ⟨0, _⟩ => show o + 1 * c.val = o + c.val; omega
  | ⟨1, _⟩ => show 0 + 1 * j.val = j.val; omega

theorem ldK_eq (a5 : MK) (x1 : S256x256.Idx → EReal) (ib) :
    View.readAt (Elt Ideal) a5.view (Rect.unit ![0, 0] S256x256.size ib).toLoadRect (a5.view.rep (Val := Elt Ideal) x1) = x1 := by
  rw [View.readAt_rep]
  funext y
  refine congrArg x1 (funext fun a => Fin.ext ?_)
  match a with
  | ⟨0, _⟩ => show 0 + 1 * (y 0).val = (y 0).val; omega
  | ⟨1, _⟩ => show 0 + 1 * (y 1).val = (y 1).val; omega

theorem ldV_eq (a6 : MV) (x2 : S128x256.Idx → EReal) (ib) :
    View.readAt (Elt Ideal) a6.view (Rect.unit ![0, 0] S128x256.size ib).toLoadRect (a6.view.rep (Val := Elt Ideal) x2) = x2 := by
  rw [View.readAt_rep]
  funext y
  refine congrArg x2 (funext fun a => Fin.ext ?_)
  match a with
  | ⟨0, _⟩ => show 0 + 1 * (y 0).val = (y 0).val; omega
  | ⟨1, _⟩ => show 0 + 1 * (y 1).val = (y 1).val; omega

theorem ldW_at (a7 : MW) (x3 : S4x256x128.Idx → EReal) (g : ℕ) (hg : g < 4) (ib) (d : Fin 256) (n : Fin 128) :
    View.readAt (Elt Ideal) a7.view (Rect.unit (s := S4x256x128) ![g, 0, 0] S1x256x128.size ib).toLoadRect (a7.view.rep (Val := Elt Ideal) x3)
      (ix3 (0 : Fin 1) d n) = x3 (ix3 (⟨g, hg⟩ : Fin 4) d n) := by
  rw [View.readAt_rep]
  refine congrArg x3 (funext fun a => Fin.ext ?_)
  match a with
  | ⟨0, _⟩ => show g + 1 * 0 = g; omega
  | ⟨1, _⟩ => show 0 + 1 * d.val = d.val; omega
  | ⟨2, _⟩ => show 0 + 1 * n.val = n.val; omega

/-- A load of part of a row read through a view whose contents are known. -/
theorem ldRow_at {κ : Kind} {sp : Space} (v : View sig κ sp S1x2048 .f32) (f : v.ty.Contents (Elt Ideal)) (G : Fin 2048 → EReal)
    (hG : ∀ y, v.read (Elt Ideal) f y = G (y 1)) (n o : ℕ) (ib) (ho : o + n ≤ 2048) (c : Fin n) :
    View.readAt (Elt Ideal) v (Rect.unit (s := S1x2048) ![0, o] (⟨2, ![1, n]⟩ : Shape).size ib).toLoadRect f (ix2 (0 : Fin 1) c) = G (at_ o ho c) := by
  rw [View.readAt_apply, hG]
  refine congrArg G (Fin.ext ?_)
  show o + 1 * c.val = o + c.val; omega

theorem ldMat_at {κ : Kind} {sp : Space} (v : View sig κ sp S128x2048 .f32) (f : v.ty.Contents (Elt Ideal)) (G : Fin 128 → Fin 2048 → EReal)
    (hG : ∀ y, v.read (Elt Ideal) f y = G (y 0) (y 1)) (n o : ℕ) (ib) (ho : o + n ≤ 2048) (d : Fin 128) (c : Fin n) :
    View.readAt (Elt Ideal) v (Rect.unit (s := S128x2048) ![0, o] (⟨2, ![128, n]⟩ : Shape).size ib).toLoadRect f (ix2 d c) = G d (at_ o ho c) := by
  rw [View.readAt_apply, hG]
  refine congrArg₂ G (Fin.ext ?_) (Fin.ext ?_)
  · show 0 + 1 * d.val = d.val; omega
  · show o + 1 * c.val = o + c.val; omega

end Cert.KernelIdeal.Att

end
-- ==== Proof.KI.Vals.lean ====
module

public import proofs.«01_k».proof.Proof.KI.Run
public import proofs.«01_k».proof.Proof.KI.Pieces

/-! What each case of the body leaves, as the column updates: the running maximum, the running sum of weights, the running sum
of weighted values and, on the diagonal, the output block. -/

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open scoped BigOperators

/-- The scores of a tile below the diagonal, on the 2048 columns of a query block. -/
abbrev SF (x0 : S2048x256.Idx → EReal) (x1 : S256x256.Idx → EReal) : Fin 256 → Fin 2048 → EReal :=
  scF x1 fun c j => x0 (ix2 c j)

/-- The scores of a diagonal tile. -/
abbrev SD (x0 : S2048x256.Idx → EReal) (x1 : S256x256.Idx → EReal) : Fin 256 → Fin 2048 → EReal :=
  scD x1 fun c j => x0 (ix2 c j)

/-- The output block: each head's weighted values over its sum of weights, then the two heads of a pair through the pair's
matrix. -/
def outB (A : Fin 128 → Fin 2048 → EReal) (L : Fin 2048 → EReal) (x3 : S4x256x128.Idx → EReal) (r : Fin 256) (n : Fin 512) : EReal :=
  (∑ d : Fin 128, Ideal.div (A d ⟨512 * (n.val / 128) + r.val, by omega⟩) (L ⟨512 * (n.val / 128) + r.val, by omega⟩)
      * x3 (ix3 (⟨n.val / 128, by omega⟩ : Fin 4) (⟨d.val, by omega⟩ : Fin 256) (⟨n.val % 128, by omega⟩ : Fin 128)))
    + ∑ d : Fin 128, Ideal.div (A d ⟨512 * (n.val / 128) + 256 + r.val, by omega⟩) (L ⟨512 * (n.val / 128) + 256 + r.val, by omega⟩)
      * x3 (ix3 (⟨n.val / 128, by omega⟩ : Fin 4) (⟨128 + d.val, by omega⟩ : Fin 256) (⟨n.val % 128, by omega⟩ : Fin 128))

section
variable (x0 : S2048x256.Idx → EReal) (x1 K : S256x256.Idx → EReal) (x2 V : S128x256.Idx → EReal) (Q : S512x256.Idx → EReal)
  (m l : S1x512.Idx → EReal) (a : S128x512.Idx → EReal) (M L : Fin 2048 → EReal) (A : Fin 128 → Fin 2048 → EReal)
  (o : ℕ) (ho : o + 512 ≤ 2048) (hK : K = x1) (hV : V = x2) (hQ : ∀ c j, Q (ix2 c j) = x0 (ix2 (at_ o ho c) j))
  (hm : ∀ c, m (ix2 0 c) = M (at_ o ho c)) (hl : ∀ c, l (ix2 0 c) = L (at_ o ho c)) (ha : ∀ d c, a (ix2 d c) = A d (at_ o ho c))
include hK hQ hm

theorem pieceM_F (c : Fin 512) :
    colM (scF K fun c j => Q (ix2 c j)) (fun c => m (ix2 0 c)) c = colM (SF x0 x1) M (at_ o ho c) := by
  subst hK
  rw [scF_at (at_ o ho) _ _ (fun c j => x0 (ix2 c j)) hQ]
  exact colM_at _ _ _ M hm c

include hl in
theorem pieceL_F (c : Fin 512) :
    colL (scF K fun c j => Q (ix2 c j)) (fun c => m (ix2 0 c)) (fun c => l (ix2 0 c)) c = colL (SF x0 x1) M L (at_ o ho c) := by
  subst hK
  rw [scF_at (at_ o ho) _ _ (fun c j => x0 (ix2 c j)) hQ]
  exact colL_at _ _ _ _ M L hm hl c

include hV ha in
theorem pieceV_F (d : Fin 128) (c : Fin 512) :
    colV V (scF K fun c j => Q (ix2 c j)) (fun c => m (ix2 0 c)) (fun d c => a (ix2 d c)) d c = colV x2 (SF x0 x1) M A d (at_ o ho c) := by
  subst hK hV
  rw [scF_at (at_ o ho) _ _ (fun c j => x0 (ix2 c j)) hQ]
  exact colV_at _ _ _ _ _ M A hm ha d c

variable (hm256 : o % 256 = 0)
include hm256

theorem pieceM_D (c : Fin 512) :
    colM (scD K fun c j => Q (ix2 c j)) (fun c => m (ix2 0 c)) c = colM (SD x0 x1) M (at_ o ho c) := by
  subst hK
  rw [scD_at (at_ o ho) _ _ (fun c j => x0 (ix2 c j)) hQ (fun c => by show (o + c.val) % 256 = _; omega)]
  exact colM_at _ _ _ M hm c

include hl in
theorem pieceL_D (c : Fin 512) :
    colL (scD K fun c j => Q (ix2 c j)) (fun c => m (ix2 0 c)) (fun c => l (ix2 0 c)) c = colL (SD x0 x1) M L (at_ o ho c) := by
  subst hK
  rw [scD_at (at_ o ho) _ _ (fun c j => x0 (ix2 c j)) hQ (fun c => by show (o + c.val) % 256 = _; omega)]
  exact colL_at _ _ _ _ M L hm hl c

include hV ha in
theorem pieceV_D (d : Fin 128) (c : Fin 512) :
    colV V (scD K fun c j => Q (ix2 c j)) (fun c => m (ix2 0 c)) (fun d c => a (ix2 d c)) d c = colV x2 (SD x0 x1) M A d (at_ o ho c) := by
  subst hK hV
  rw [scD_at (at_ o ho) _ _ (fun c j => x0 (ix2 c j)) hQ (fun c => by show (o + c.val) % 256 = _; omega)]
  exact colV_at _ _ _ _ _ M A hm ha d c

end

section
variable {s : Shape} {κ : Kind} {sp : Space} (v : View sig κ sp s .f32) (f : v.ty.Contents (Elt Ideal)) (a : Fin s.rank) (o : ℕ) (z : EReal)
  (w : s.Idx → EReal) (hw : ∀ x, w x = z) (off : Fin s.rank → ℕ) (hoff : ∀ b, off b = 0) (ib : ∀ b, off b + s.size b ≤ s.size b)
  (y : s.Idx) (hy : o ≤ (y a).val) (p q r : View.Piece (Elt Ideal) s .f32)
include hw hoff hy

theorem fill0 : v.read (Elt Ideal) (v.writes (Elt Ideal) f [⟨Rect.unit off s.size ib, w⟩]) y = z :=
  read_fill v f a o z w hw off hoff ib y hy [] (by simp)

theorem fill1 (hp : p.1.stride a = 1 ∧ p.1.off a + p.1.size a ≤ o) :
    v.read (Elt Ideal) (v.writes (Elt Ideal) f [p, ⟨Rect.unit off s.size ib, w⟩]) y = z :=
  read_fill v f a o z w hw off hoff ib y hy [p] (by simpa using hp)

theorem fill2 (hp : p.1.stride a = 1 ∧ p.1.off a + p.1.size a ≤ o) (hq : q.1.stride a = 1 ∧ q.1.off a + q.1.size a ≤ o) :
    v.read (Elt Ideal) (v.writes (Elt Ideal) f [p, q, ⟨Rect.unit off s.size ib, w⟩]) y = z :=
  read_fill v f a o z w hw off hoff ib y hy [p, q] (by
    intro x hx
    rcases List.mem_cons.1 hx with rfl | hx
    · exact hp
    · obtain rfl := List.mem_singleton.1 hx; exact hq)

theorem fill3 (hp : p.1.stride a = 1 ∧ p.1.off a + p.1.size a ≤ o) (hq : q.1.stride a = 1 ∧ q.1.off a + q.1.size a ≤ o)
    (hr : r.1.stride a = 1 ∧ r.1.off a + r.1.size a ≤ o) :
    v.read (Elt Ideal) (v.writes (Elt Ideal) f [p, q, r, ⟨Rect.unit off s.size ib, w⟩]) y = z :=
  read_fill v f a o z w hw off hoff ib y hy [p, q, r] (by
    intro x hx
    rcases List.mem_cons.1 hx with rfl | hx
    · exact hp
    rcases List.mem_cons.1 hx with rfl | hx
    · exact hq
    · obtain rfl := List.mem_singleton.1 hx; exact hr)

end

theorem pay1_eq (x : S1x2048.Idx) : k0_pay1 (F := Ideal) x = (⊥ : EReal) := by
  idx_vars x; pointwise [k0_pay1, named_mask]
theorem pay2_eq (x : S1x2048.Idx) : k0_pay2 (F := Ideal) x = (0 : EReal) := by
  idx_vars x; pointwise [k0_pay2]
theorem pay3_eq (x : S128x2048.Idx) : k0_pay3 (F := Ideal) x = (0 : EReal) := by
  idx_vars x; pointwise [k0_pay3]

theorem read_sc0 (f : (View.whole cc0_scratch0).ty.Contents (Elt Ideal)) (y : S1x2048.Idx) : View.read (Elt Ideal) (View.whole cc0_scratch0) f y = f y := rfl
theorem read_sc1 (f : (View.whole cc0_scratch1).ty.Contents (Elt Ideal)) (y : S1x2048.Idx) : View.read (Elt Ideal) (View.whole cc0_scratch1) f y = f y := rfl
theorem read_sc2 (f : (View.whole cc0_scratch2).ty.Contents (Elt Ideal)) (y : S128x2048.Idx) : View.read (Elt Ideal) (View.whole cc0_scratch2) f y = f y := rfl

theorem row_eq (m : S1x2048.Idx → EReal) (y : S1x2048.Idx) : m y = (fun c : Fin 2048 => m (ix2 0 c)) (y 1) := by
  idx_vars y; obtain rfl : y0 = 0 := Subsingleton.elim _ _; rfl
theorem mat_eq (m : S128x2048.Idx → EReal) (y : S128x2048.Idx) : m y = (fun (d : Fin 128) (c : Fin 2048) => m (ix2 d c)) (y 0) (y 1) := by
  exact congrArg m (eq_ix2 y)

theorem rd_mS (m : S1x2048.Idx → EReal) (y : S1x2048.Idx) :
    View.read (Elt Ideal) mS.view m y = (fun c : Fin 2048 => m (ix2 0 c)) (y 1) := row_eq m y
theorem rd_lS (m : S1x2048.Idx → EReal) (y : S1x2048.Idx) :
    View.read (Elt Ideal) lS.view m y = (fun c : Fin 2048 => m (ix2 0 c)) (y 1) := row_eq m y
theorem rd_aS (m : S128x2048.Idx → EReal) (y : S128x2048.Idx) :
    View.read (Elt Ideal) aS.view m y = (fun (d : Fin 128) (c : Fin 2048) => m (ix2 d c)) (y 0) (y 1) := mat_eq m y

section
variable (A0 A1 : Vec Ideal S128x256 .f32) (L0 L1 : Vec Ideal S1x256 .f32) (W : Vec Ideal S1x256x128 .bf16)
/-- Two heads' weighted values over their sums, through the matrix of the pair. -/
def outV (d : Fin 256) (c : Fin 128) : EReal :=
  (∑ k : Fin 128, Ideal.div (A0 (ix2 k d)) (L0 (ix2 0 d)) * W (ix3 (0 : Fin 1) (⟨k.val, by omega⟩ : Fin 256) c))
    + ∑ k : Fin 128, Ideal.div (A1 (ix2 k d)) (L1 (ix2 0 d)) * W (ix3 (0 : Fin 1) (⟨128 + k.val, by omega⟩ : Fin 256) c)

theorem out_0 (d : Fin 256) (c : Fin 128) :
    k0_pay80 (k0_pay72 A0 L0) (k0_pay73 A1 L1) W (ix2 d c) = outV A0 A1 L0 L1 W d c := by
  pointwise [k0_pay80, k0_pay72, k0_pay73]
  rfl

theorem out_1 (d : Fin 256) (c : Fin 128) :
    k0_pay81 (k0_pay74 A0 L0) (k0_pay75 A1 L1) W (ix2 d c) = outV A0 A1 L0 L1 W d c := by
  pointwise [k0_pay81, k0_pay74, k0_pay75]
  rfl

theorem out_2 (d : Fin 256) (c : Fin 128) :
    k0_pay10 (k0_pay76 A0 L0) (k0_pay77 A1 L1) W (ix2 d c) = outV A0 A1 L0 L1 W d c := by
  pointwise [k0_pay10, k0_pay76, k0_pay77]
  rfl

theorem out_3 (d : Fin 256) (c : Fin 128) :
    k0_pay11 (k0_pay78 A0 L0) (k0_pay79 A1 L1) W (ix2 d c) = outV A0 A1 L0 L1 W d c := by
  pointwise [k0_pay11, k0_pay78, k0_pay79]
  rfl

theorem outP (A : Fin 128 → Fin 2048 → EReal) (L : Fin 2048 → EReal) (x3 : S4x256x128.Idx → EReal) (g : ℕ) (hg : g < 4)
    (hA0 : ∀ (d : Fin 128) (c : Fin 256), A0 (ix2 d c) = A d (at_ (512 * g) (by omega) c))
    (hL0 : ∀ c : Fin 256, L0 (ix2 0 c) = L (at_ (512 * g) (by omega) c))
    (hA1 : ∀ (d : Fin 128) (c : Fin 256), A1 (ix2 d c) = A d (at_ (512 * g + 256) (by omega) c))
    (hL1 : ∀ c : Fin 256, L1 (ix2 0 c) = L (at_ (512 * g + 256) (by omega) c))
    (hW : ∀ (d : Fin 256) (n : Fin 128), W (ix3 (0 : Fin 1) d n) = x3 (ix3 (⟨g, hg⟩ : Fin 4) d n)) (d : Fin 256) (c : Fin 128) :
    outV A0 A1 L0 L1 W d c = outB A L x3 d (at_ (128 * g) (by omega) c) := by
  have hc := c.isLt
  have e1 : (128 * g + c.val) / 128 = g := by omega
  have e2 : (128 * g + c.val) % 128 = c.val := by omega
  unfold outV outB
  simp only [hA0, hL0, hA1, hL1, hW, at_, e1, e2]

end

end Cert.KernelIdeal.Att

end
-- ==== Proof.KI.VFar.lean ====
module

public import proofs.«01_k».proof.Proof.KI.Vals

/-! What each case of the body leaves, as the column updates: the running maximum, the running sum of weights, the running sum
of weighted values and, on the diagonal, the output block. -/

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open scoped BigOperators

section
variable (t : Dev nD) (i : grid0.Coords) (a4 : MQ) (h4 : a4.IsWhole) (a5 : MK) (h5 : a5.IsWhole) (a6 : MV) (h6 : a6.IsWhole)
    (a7 : MW) (h7 : a7.IsWhole) (a8 : MO) (h8 : a8.IsWhole) (T0 T1 : S136.Idx → BitVec 32)
    (x0 : S2048x256.Idx → EReal) (x1 : S256x256.Idx → EReal) (x2 : S128x256.Idx → EReal) (x3 : S4x256x128.Idx → EReal)
    (m0 l0 : S1x2048.Idx → EReal) (s0 : S128x2048.Idx → EReal) (hi : ¬ IsInit T1 i) (hf : IsFar T0 T1 i) (hd : ¬ IsDiag T0 T1 i)

theorem runFar_mH (y : S1x2048.Idx) : View.read (Elt Ideal) (View.whole cc0_scratch0) ((View.whole cc0_scratch0).writes (Elt Ideal) (View.whole cc0_scratch0).junk (runFar.sl.HS0_4 a4 a5 x0 x1 m0)) y = (colM (SF x0 x1) (fun c => m0 (ix2 0 c))) (y 1) := by
  unfold runFar.sl.HS0_4
  refine rows4 mS.view _ _ _ _ _ (colM (SF x0 x1) (fun c => m0 (ix2 0 c))) [] _ _ _ _ ?_ ?_ ?_ ?_ y
  · intro c
    exact (congrFun (far_m0 _ _ _) (ix2 0 c)).trans (pieceM_F x0 x1 _ _ _ (fun c => m0 (ix2 0 c)) 0 (by decide) (ldK_eq a5 x1 _) (ldQ_at a4 x0 0 _ (by decide)) (fun c => ldRow_at mS.view m0 (fun c => m0 (ix2 0 c)) (rd_mS m0) 512 0 _ (by decide) c) c)
  · intro c
    exact (congrFun (far_m1 _ _ _) (ix2 0 c)).trans (pieceM_F x0 x1 _ _ _ (fun c => m0 (ix2 0 c)) 512 (by decide) (ldK_eq a5 x1 _) (ldQ_at a4 x0 512 _ (by decide)) (fun c => ldRow_at mS.view m0 (fun c => m0 (ix2 0 c)) (rd_mS m0) 512 512 _ (by decide) c) c)
  · intro c
    exact (congrFun (far_m2 _ _ _) (ix2 0 c)).trans (pieceM_F x0 x1 _ _ _ (fun c => m0 (ix2 0 c)) 1024 (by decide) (ldK_eq a5 x1 _) (ldQ_at a4 x0 1024 _ (by decide)) (fun c => ldRow_at mS.view m0 (fun c => m0 (ix2 0 c)) (rd_mS m0) 512 1024 _ (by decide) c) c)
  · intro c
    exact (congrFun (far_m3 _ _ _) (ix2 0 c)).trans (pieceM_F x0 x1 _ _ _ (fun c => m0 (ix2 0 c)) 1536 (by decide) (ldK_eq a5 x1 _) (ldQ_at a4 x0 1536 _ (by decide)) (fun c => ldRow_at mS.view m0 (fun c => m0 (ix2 0 c)) (rd_mS m0) 512 1536 _ (by decide) c) c)

theorem runFar_lH (y : S1x2048.Idx) : View.read (Elt Ideal) (View.whole cc0_scratch1) ((View.whole cc0_scratch1).writes (Elt Ideal) (View.whole cc0_scratch1).junk (runFar.sl.HS1_4 a4 a5 x0 x1 m0 l0)) y = (colL (SF x0 x1) (fun c => m0 (ix2 0 c)) (fun c => l0 (ix2 0 c))) (y 1) := by
  unfold runFar.sl.HS1_4
  refine rows4 lS.view _ _ _ _ _ (colL (SF x0 x1) (fun c => m0 (ix2 0 c)) (fun c => l0 (ix2 0 c))) [] _ _ _ _ ?_ ?_ ?_ ?_ y
  · intro c
    exact (congrFun (far_l0 _ _ _ _) (ix2 0 c)).trans (pieceL_F x0 x1 _ _ _ _ (fun c => m0 (ix2 0 c)) (fun c => l0 (ix2 0 c)) 0 (by decide) (ldK_eq a5 x1 _) (ldQ_at a4 x0 0 _ (by decide)) (fun c => ldRow_at mS.view m0 (fun c => m0 (ix2 0 c)) (rd_mS m0) 512 0 _ (by decide) c) (fun c => ldRow_at lS.view l0 (fun c => l0 (ix2 0 c)) (rd_lS l0) 512 0 _ (by decide) c) c)
  · intro c
    exact (congrFun (far_l1 _ _ _ _) (ix2 0 c)).trans (pieceL_F x0 x1 _ _ _ _ (fun c => m0 (ix2 0 c)) (fun c => l0 (ix2 0 c)) 512 (by decide) (ldK_eq a5 x1 _) (ldQ_at a4 x0 512 _ (by decide)) (fun c => ldRow_at mS.view m0 (fun c => m0 (ix2 0 c)) (rd_mS m0) 512 512 _ (by decide) c) (fun c => ldRow_at lS.view l0 (fun c => l0 (ix2 0 c)) (rd_lS l0) 512 512 _ (by decide) c) c)
  · intro c
    exact (congrFun (far_l2 _ _ _ _) (ix2 0 c)).trans (pieceL_F x0 x1 _ _ _ _ (fun c => m0 (ix2 0 c)) (fun c => l0 (ix2 0 c)) 1024 (by decide) (ldK_eq a5 x1 _) (ldQ_at a4 x0 1024 _ (by decide)) (fun c => ldRow_at mS.view m0 (fun c => m0 (ix2 0 c)) (rd_mS m0) 512 1024 _ (by decide) c) (fun c => ldRow_at lS.view l0 (fun c => l0 (ix2 0 c)) (rd_lS l0) 512 1024 _ (by decide) c) c)
  · intro c
    exact (congrFun (far_l3 _ _ _ _) (ix2 0 c)).trans (pieceL_F x0 x1 _ _ _ _ (fun c => m0 (ix2 0 c)) (fun c => l0 (ix2 0 c)) 1536 (by decide) (ldK_eq a5 x1 _) (ldQ_at a4 x0 1536 _ (by decide)) (fun c => ldRow_at mS.view m0 (fun c => m0 (ix2 0 c)) (rd_mS m0) 512 1536 _ (by decide) c) (fun c => ldRow_at lS.view l0 (fun c => l0 (ix2 0 c)) (rd_lS l0) 512 1536 _ (by decide) c) c)

theorem runFar_vH (y : S128x2048.Idx) : View.read (Elt Ideal) (View.whole cc0_scratch2) ((View.whole cc0_scratch2).writes (Elt Ideal) (View.whole cc0_scratch2).junk (runFar.sl.HS2_4 a4 a5 a6 x0 x1 x2 m0 s0)) y = (colV x2 (SF x0 x1) (fun c => m0 (ix2 0 c)) (fun d c => s0 (ix2 d c))) (y 0) (y 1) := by
  unfold runFar.sl.HS2_4
  refine mats4 aS.view _ _ _ _ _ (colV x2 (SF x0 x1) (fun c => m0 (ix2 0 c)) (fun d c => s0 (ix2 d c))) [] _ _ _ _ ?_ ?_ ?_ ?_ y
  · intro d c
    exact (congrFun (far_v0 _ _ _ _ _) (ix2 d c)).trans (pieceV_F x0 x1 _ x2 _ _ _ _ (fun c => m0 (ix2 0 c)) (fun d c => s0 (ix2 d c)) 0 (by decide) (ldK_eq a5 x1 _) (ldV_eq a6 x2 _) (ldQ_at a4 x0 0 _ (by decide)) (fun c => ldRow_at mS.view m0 (fun c => m0 (ix2 0 c)) (rd_mS m0) 512 0 _ (by decide) c) (fun d c => ldMat_at aS.view s0 (fun d c => s0 (ix2 d c)) (rd_aS s0) 512 0 _ (by decide) d c) d c)
  · intro d c
    exact (congrFun (far_v1 _ _ _ _ _) (ix2 d c)).trans (pieceV_F x0 x1 _ x2 _ _ _ _ (fun c => m0 (ix2 0 c)) (fun d c => s0 (ix2 d c)) 512 (by decide) (ldK_eq a5 x1 _) (ldV_eq a6 x2 _) (ldQ_at a4 x0 512 _ (by decide)) (fun c => ldRow_at mS.view m0 (fun c => m0 (ix2 0 c)) (rd_mS m0) 512 512 _ (by decide) c) (fun d c => ldMat_at aS.view s0 (fun d c => s0 (ix2 d c)) (rd_aS s0) 512 512 _ (by decide) d c) d c)
  · intro d c
    exact (congrFun (far_v2 _ _ _ _ _) (ix2 d c)).trans (pieceV_F x0 x1 _ x2 _ _ _ _ (fun c => m0 (ix2 0 c)) (fun d c => s0 (ix2 d c)) 1024 (by decide) (ldK_eq a5 x1 _) (ldV_eq a6 x2 _) (ldQ_at a4 x0 1024 _ (by decide)) (fun c => ldRow_at mS.view m0 (fun c => m0 (ix2 0 c)) (rd_mS m0) 512 1024 _ (by decide) c) (fun d c => ldMat_at aS.view s0 (fun d c => s0 (ix2 d c)) (rd_aS s0) 512 1024 _ (by decide) d c) d c)
  · intro d c
    exact (congrFun (far_v3 _ _ _ _ _) (ix2 d c)).trans (pieceV_F x0 x1 _ x2 _ _ _ _ (fun c => m0 (ix2 0 c)) (fun d c => s0 (ix2 d c)) 1536 (by decide) (ldK_eq a5 x1 _) (ldV_eq a6 x2 _) (ldQ_at a4 x0 1536 _ (by decide)) (fun c => ldRow_at mS.view m0 (fun c => m0 (ix2 0 c)) (rd_mS m0) 512 1536 _ (by decide) c) (fun d c => ldMat_at aS.view s0 (fun d c => s0 (ix2 d c)) (rd_aS s0) 512 1536 _ (by decide) d c) d c)

theorem runFar_m (y : S1x2048.Idx) : (runFar t i a4 h4 a5 h5 a6 h6 a7 h7 a8 h8 T0 T1 x0 x1 x2 x3 m0 l0 s0 hi hf hd).1 y = (colM (SF x0 x1) (fun c => m0 (ix2 0 c))) (y 1) := by
  delta runFar
  dsimp only
  exact (read_sc0 _ y).symm.trans (runFar_mH a4 a5 x0 x1 m0 y)

theorem runFar_l (y : S1x2048.Idx) : (runFar t i a4 h4 a5 h5 a6 h6 a7 h7 a8 h8 T0 T1 x0 x1 x2 x3 m0 l0 s0 hi hf hd).2.1 y = (colL (SF x0 x1) (fun c => m0 (ix2 0 c)) (fun c => l0 (ix2 0 c))) (y 1) := by
  delta runFar
  dsimp only
  exact (read_sc1 _ y).symm.trans (runFar_lH a4 a5 x0 x1 m0 l0 y)

theorem runFar_v (y : S128x2048.Idx) : (runFar t i a4 h4 a5 h5 a6 h6 a7 h7 a8 h8 T0 T1 x0 x1 x2 x3 m0 l0 s0 hi hf hd).2.2.1 y = (colV x2 (SF x0 x1) (fun c => m0 (ix2 0 c)) (fun d c => s0 (ix2 d c))) (y 0) (y 1) := by
  delta runFar
  dsimp only
  exact (read_sc2 _ y).symm.trans (runFar_vH a4 a5 a6 x0 x1 x2 m0 s0 y)

end

end Cert.KernelIdeal.Att

end
-- ==== Proof.KI.VDiag.lean ====
module

public import proofs.«01_k».proof.Proof.KI.Vals

/-! What each case of the body leaves, as the column updates: the running maximum, the running sum of weights, the running sum
of weighted values and, on the diagonal, the output block. -/

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open scoped BigOperators

section
variable (t : Dev nD) (i : grid0.Coords) (a4 : MQ) (h4 : a4.IsWhole) (a5 : MK) (h5 : a5.IsWhole) (a6 : MV) (h6 : a6.IsWhole)
    (a7 : MW) (h7 : a7.IsWhole) (a8 : MO) (h8 : a8.IsWhole) (T0 T1 : S136.Idx → BitVec 32)
    (x0 : S2048x256.Idx → EReal) (x1 : S256x256.Idx → EReal) (x2 : S128x256.Idx → EReal) (x3 : S4x256x128.Idx → EReal)
    (m0 l0 : S1x2048.Idx → EReal) (s0 : S128x2048.Idx → EReal) (hi : ¬ IsInit T1 i) (hf : ¬ IsFar T0 T1 i) (hd : IsDiag T0 T1 i)

theorem runDiag_mH (y : S1x2048.Idx) : View.read (Elt Ideal) (View.whole cc0_scratch0) ((View.whole cc0_scratch0).writes (Elt Ideal) (View.whole cc0_scratch0).junk (runDiag.sl.HS0_4 a4 a5 x0 x1 m0)) y = (colM (SD x0 x1) (fun c => m0 (ix2 0 c))) (y 1) := by
  unfold runDiag.sl.HS0_4
  refine rows4 mS.view _ _ _ _ _ (colM (SD x0 x1) (fun c => m0 (ix2 0 c))) [] _ _ _ _ ?_ ?_ ?_ ?_ y
  · intro c
    exact (congrFun (diag_m0 _ _ _) (ix2 0 c)).trans (pieceM_D x0 x1 _ _ _ (fun c => m0 (ix2 0 c)) 0 (by decide) (ldK_eq a5 x1 _) (ldQ_at a4 x0 0 _ (by decide)) (fun c => ldRow_at mS.view m0 (fun c => m0 (ix2 0 c)) (rd_mS m0) 512 0 _ (by decide) c) (by decide) c)
  · intro c
    exact (congrFun (diag_m1 _ _ _) (ix2 0 c)).trans (pieceM_D x0 x1 _ _ _ (fun c => m0 (ix2 0 c)) 512 (by decide) (ldK_eq a5 x1 _) (ldQ_at a4 x0 512 _ (by decide)) (fun c => ldRow_at mS.view m0 (fun c => m0 (ix2 0 c)) (rd_mS m0) 512 512 _ (by decide) c) (by decide) c)
  · intro c
    exact (congrFun (diag_m2 _ _ _) (ix2 0 c)).trans (pieceM_D x0 x1 _ _ _ (fun c => m0 (ix2 0 c)) 1024 (by decide) (ldK_eq a5 x1 _) (ldQ_at a4 x0 1024 _ (by decide)) (fun c => ldRow_at mS.view m0 (fun c => m0 (ix2 0 c)) (rd_mS m0) 512 1024 _ (by decide) c) (by decide) c)
  · intro c
    exact (congrFun (diag_m3 _ _ _) (ix2 0 c)).trans (pieceM_D x0 x1 _ _ _ (fun c => m0 (ix2 0 c)) 1536 (by decide) (ldK_eq a5 x1 _) (ldQ_at a4 x0 1536 _ (by decide)) (fun c => ldRow_at mS.view m0 (fun c => m0 (ix2 0 c)) (rd_mS m0) 512 1536 _ (by decide) c) (by decide) c)

theorem runDiag_lH (y : S1x2048.Idx) : View.read (Elt Ideal) (View.whole cc0_scratch1) ((View.whole cc0_scratch1).writes (Elt Ideal) (View.whole cc0_scratch1).junk (runDiag.sl.HS1_4 a4 a5 x0 x1 m0 l0)) y = (colL (SD x0 x1) (fun c => m0 (ix2 0 c)) (fun c => l0 (ix2 0 c))) (y 1) := by
  unfold runDiag.sl.HS1_4
  refine rows4 lS.view _ _ _ _ _ (colL (SD x0 x1) (fun c => m0 (ix2 0 c)) (fun c => l0 (ix2 0 c))) [] _ _ _ _ ?_ ?_ ?_ ?_ y
  · intro c
    exact (congrFun (diag_l0 _ _ _ _) (ix2 0 c)).trans (pieceL_D x0 x1 _ _ _ _ (fun c => m0 (ix2 0 c)) (fun c => l0 (ix2 0 c)) 0 (by decide) (ldK_eq a5 x1 _) (ldQ_at a4 x0 0 _ (by decide)) (fun c => ldRow_at mS.view m0 (fun c => m0 (ix2 0 c)) (rd_mS m0) 512 0 _ (by decide) c) (fun c => ldRow_at lS.view l0 (fun c => l0 (ix2 0 c)) (rd_lS l0) 512 0 _ (by decide) c) (by decide) c)
  · intro c
    exact (congrFun (diag_l1 _ _ _ _) (ix2 0 c)).trans (pieceL_D x0 x1 _ _ _ _ (fun c => m0 (ix2 0 c)) (fun c => l0 (ix2 0 c)) 512 (by decide) (ldK_eq a5 x1 _) (ldQ_at a4 x0 512 _ (by decide)) (fun c => ldRow_at mS.view m0 (fun c => m0 (ix2 0 c)) (rd_mS m0) 512 512 _ (by decide) c) (fun c => ldRow_at lS.view l0 (fun c => l0 (ix2 0 c)) (rd_lS l0) 512 512 _ (by decide) c) (by decide) c)
  · intro c
    exact (congrFun (diag_l2 _ _ _ _) (ix2 0 c)).trans (pieceL_D x0 x1 _ _ _ _ (fun c => m0 (ix2 0 c)) (fun c => l0 (ix2 0 c)) 1024 (by decide) (ldK_eq a5 x1 _) (ldQ_at a4 x0 1024 _ (by decide)) (fun c => ldRow_at mS.view m0 (fun c => m0 (ix2 0 c)) (rd_mS m0) 512 1024 _ (by decide) c) (fun c => ldRow_at lS.view l0 (fun c => l0 (ix2 0 c)) (rd_lS l0) 512 1024 _ (by decide) c) (by decide) c)
  · intro c
    exact (congrFun (diag_l3 _ _ _ _) (ix2 0 c)).trans (pieceL_D x0 x1 _ _ _ _ (fun c => m0 (ix2 0 c)) (fun c => l0 (ix2 0 c)) 1536 (by decide) (ldK_eq a5 x1 _) (ldQ_at a4 x0 1536 _ (by decide)) (fun c => ldRow_at mS.view m0 (fun c => m0 (ix2 0 c)) (rd_mS m0) 512 1536 _ (by decide) c) (fun c => ldRow_at lS.view l0 (fun c => l0 (ix2 0 c)) (rd_lS l0) 512 1536 _ (by decide) c) (by decide) c)

theorem runDiag_vH (y : S128x2048.Idx) : View.read (Elt Ideal) (View.whole cc0_scratch2) ((View.whole cc0_scratch2).writes (Elt Ideal) (View.whole cc0_scratch2).junk (runDiag.sl.HS2_4 a4 a5 a6 x0 x1 x2 m0 s0)) y = (colV x2 (SD x0 x1) (fun c => m0 (ix2 0 c)) (fun d c => s0 (ix2 d c))) (y 0) (y 1) := by
  unfold runDiag.sl.HS2_4
  refine mats4 aS.view _ _ _ _ _ (colV x2 (SD x0 x1) (fun c => m0 (ix2 0 c)) (fun d c => s0 (ix2 d c))) [] _ _ _ _ ?_ ?_ ?_ ?_ y
  · intro d c
    exact (congrFun (diag_v0 _ _ _ _ _) (ix2 d c)).trans (pieceV_D x0 x1 _ x2 _ _ _ _ (fun c => m0 (ix2 0 c)) (fun d c => s0 (ix2 d c)) 0 (by decide) (ldK_eq a5 x1 _) (ldV_eq a6 x2 _) (ldQ_at a4 x0 0 _ (by decide)) (fun c => ldRow_at mS.view m0 (fun c => m0 (ix2 0 c)) (rd_mS m0) 512 0 _ (by decide) c) (fun d c => ldMat_at aS.view s0 (fun d c => s0 (ix2 d c)) (rd_aS s0) 512 0 _ (by decide) d c) (by decide) d c)
  · intro d c
    exact (congrFun (diag_v1 _ _ _ _ _) (ix2 d c)).trans (pieceV_D x0 x1 _ x2 _ _ _ _ (fun c => m0 (ix2 0 c)) (fun d c => s0 (ix2 d c)) 512 (by decide) (ldK_eq a5 x1 _) (ldV_eq a6 x2 _) (ldQ_at a4 x0 512 _ (by decide)) (fun c => ldRow_at mS.view m0 (fun c => m0 (ix2 0 c)) (rd_mS m0) 512 512 _ (by decide) c) (fun d c => ldMat_at aS.view s0 (fun d c => s0 (ix2 d c)) (rd_aS s0) 512 512 _ (by decide) d c) (by decide) d c)
  · intro d c
    exact (congrFun (diag_v2 _ _ _ _ _) (ix2 d c)).trans (pieceV_D x0 x1 _ x2 _ _ _ _ (fun c => m0 (ix2 0 c)) (fun d c => s0 (ix2 d c)) 1024 (by decide) (ldK_eq a5 x1 _) (ldV_eq a6 x2 _) (ldQ_at a4 x0 1024 _ (by decide)) (fun c => ldRow_at mS.view m0 (fun c => m0 (ix2 0 c)) (rd_mS m0) 512 1024 _ (by decide) c) (fun d c => ldMat_at aS.view s0 (fun d c => s0 (ix2 d c)) (rd_aS s0) 512 1024 _ (by decide) d c) (by decide) d c)
  · intro d c
    exact (congrFun (diag_v3 _ _ _ _ _) (ix2 d c)).trans (pieceV_D x0 x1 _ x2 _ _ _ _ (fun c => m0 (ix2 0 c)) (fun d c => s0 (ix2 d c)) 1536 (by decide) (ldK_eq a5 x1 _) (ldV_eq a6 x2 _) (ldQ_at a4 x0 1536 _ (by decide)) (fun c => ldRow_at mS.view m0 (fun c => m0 (ix2 0 c)) (rd_mS m0) 512 1536 _ (by decide) c) (fun d c => ldMat_at aS.view s0 (fun d c => s0 (ix2 d c)) (rd_aS s0) 512 1536 _ (by decide) d c) (by decide) d c)

theorem runDiag_m (y : S1x2048.Idx) : (runDiag t i a4 h4 a5 h5 a6 h6 a7 h7 a8 h8 T0 T1 x0 x1 x2 x3 m0 l0 s0 hi hf hd).2.1 y = (colM (SD x0 x1) (fun c => m0 (ix2 0 c))) (y 1) := by
  delta runDiag
  dsimp only
  exact (read_sc0 _ y).symm.trans (runDiag_mH a4 a5 x0 x1 m0 y)

theorem runDiag_l (y : S1x2048.Idx) : (runDiag t i a4 h4 a5 h5 a6 h6 a7 h7 a8 h8 T0 T1 x0 x1 x2 x3 m0 l0 s0 hi hf hd).2.2.1 y = (colL (SD x0 x1) (fun c => m0 (ix2 0 c)) (fun c => l0 (ix2 0 c))) (y 1) := by
  delta runDiag
  dsimp only
  exact (read_sc1 _ y).symm.trans (runDiag_lH a4 a5 x0 x1 m0 l0 y)

theorem runDiag_v (y : S128x2048.Idx) : (runDiag t i a4 h4 a5 h5 a6 h6 a7 h7 a8 h8 T0 T1 x0 x1 x2 x3 m0 l0 s0 hi hf hd).2.2.2.1 y = (colV x2 (SD x0 x1) (fun c => m0 (ix2 0 c)) (fun d c => s0 (ix2 d c))) (y 0) (y 1) := by
  delta runDiag
  dsimp only
  exact (read_sc2 _ y).symm.trans (runDiag_vH a4 a5 a6 x0 x1 x2 m0 s0 y)

theorem runDiag_o (y : S256x512.Idx) : a8.view.read (Elt Ideal) (a8.view.writes (Elt Ideal) a8.view.junk (runDiag t i a4 h4 a5 h5 a6 h6 a7 h7 a8 h8 T0 T1 x0 x1 x2 x3 m0 l0 s0 hi hf hd).1) y
    = outB (colV x2 (SD x0 x1) (fun c => m0 (ix2 0 c)) (fun d c => s0 (ix2 d c))) (colL (SD x0 x1) (fun c => m0 (ix2 0 c)) (fun c => l0 (ix2 0 c))) x3 (y 0) (y 1) := by
  delta runDiag
  dsimp only
  unfold runDiag.sl.HO4_4
  refine outs4 a8.view _ _ _ _ _ (outB (colV x2 (SD x0 x1) (fun c => m0 (ix2 0 c)) (fun d c => s0 (ix2 d c))) (colL (SD x0 x1) (fun c => m0 (ix2 0 c)) (fun c => l0 (ix2 0 c))) x3) [] _ _ _ _ ?_ ?_ ?_ ?_ y
  · intro d c
    have e : (runDiag.sl.v220 a4 a5 a6 a7 x0 x1 x2 x3 m0 l0 s0) (ix2 d c) = outV (runDiag.sl.v175 a4 a5 a6 x0 x1 x2 m0 s0) (runDiag.sl.v180 a4 a5 a6 x0 x1 x2 m0 s0) (runDiag.sl.v176 a4 a5 x0 x1 m0 l0) (runDiag.sl.v181 a4 a5 x0 x1 m0 l0) (View.readAt (Elt Ideal) a7.view (Rect.unit (s := S4x256x128) ![0, 0, 0] S1x256x128.size inb_S4x256x128_S1x256x128_0_0_0).toLoadRect (a7.view.rep (Val := Elt Ideal) x3)) d c := by
      pointwise [runDiag.sl.v220, runDiag.sl.v219, runDiag.sl.v216, runDiag.sl.v215, runDiag.sl.v218, runDiag.sl.v177, runDiag.sl.v178, runDiag.sl.v179, runDiag.sl.v182, runDiag.sl.v183, runDiag.sl.v184, runDiag.sl.cst_116]; rfl
    refine e.trans ?_
    refine outP _ _ _ _ _ (colV x2 (SD x0 x1) (fun c => m0 (ix2 0 c)) (fun d c => s0 (ix2 d c))) (colL (SD x0 x1) (fun c => m0 (ix2 0 c)) (fun c => l0 (ix2 0 c))) x3 0 (by decide) (fun d c => ?_) (fun c => ?_) (fun d c => ?_) (fun c => ?_) (ldW_at a7 x3 0 (by decide) _) d c
    · unfold runDiag.sl.v175
      exact ldMat_at aS.view _ _ (runDiag_vH a4 a5 a6 x0 x1 x2 m0 s0) 256 0 _ (by decide) d c
    · unfold runDiag.sl.v176
      exact ldRow_at lS.view _ _ (runDiag_lH a4 a5 x0 x1 m0 l0) 256 0 _ (by decide) c
    · unfold runDiag.sl.v180
      exact ldMat_at aS.view _ _ (runDiag_vH a4 a5 a6 x0 x1 x2 m0 s0) 256 256 _ (by decide) d c
    · unfold runDiag.sl.v181
      exact ldRow_at lS.view _ _ (runDiag_lH a4 a5 x0 x1 m0 l0) 256 256 _ (by decide) c
  · intro d c
    have e : (runDiag.sl.v227 a4 a5 a6 a7 x0 x1 x2 x3 m0 l0 s0) (ix2 d c) = outV (runDiag.sl.v185 a4 a5 a6 x0 x1 x2 m0 s0) (runDiag.sl.v190 a4 a5 a6 x0 x1 x2 m0 s0) (runDiag.sl.v186 a4 a5 x0 x1 m0 l0) (runDiag.sl.v191 a4 a5 x0 x1 m0 l0) (View.readAt (Elt Ideal) a7.view (Rect.unit (s := S4x256x128) ![1, 0, 0] S1x256x128.size inb_S4x256x128_S1x256x128_1_0_0).toLoadRect (a7.view.rep (Val := Elt Ideal) x3)) d c := by
      pointwise [runDiag.sl.v227, runDiag.sl.v226, runDiag.sl.v223, runDiag.sl.v222, runDiag.sl.v225, runDiag.sl.v187, runDiag.sl.v188, runDiag.sl.v189, runDiag.sl.v192, runDiag.sl.v193, runDiag.sl.v194, runDiag.sl.cst_116]; rfl
    refine e.trans ?_
    refine outP _ _ _ _ _ (colV x2 (SD x0 x1) (fun c => m0 (ix2 0 c)) (fun d c => s0 (ix2 d c))) (colL (SD x0 x1) (fun c => m0 (ix2 0 c)) (fun c => l0 (ix2 0 c))) x3 1 (by decide) (fun d c => ?_) (fun c => ?_) (fun d c => ?_) (fun c => ?_) (ldW_at a7 x3 1 (by decide) _) d c
    · unfold runDiag.sl.v185
      exact ldMat_at aS.view _ _ (runDiag_vH a4 a5 a6 x0 x1 x2 m0 s0) 256 512 _ (by decide) d c
    · unfold runDiag.sl.v186
      exact ldRow_at lS.view _ _ (runDiag_lH a4 a5 x0 x1 m0 l0) 256 512 _ (by decide) c
    · unfold runDiag.sl.v190
      exact ldMat_at aS.view _ _ (runDiag_vH a4 a5 a6 x0 x1 x2 m0 s0) 256 768 _ (by decide) d c
    · unfold runDiag.sl.v191
      exact ldRow_at lS.view _ _ (runDiag_lH a4 a5 x0 x1 m0 l0) 256 768 _ (by decide) c
  · intro d c
    have e : (k0_pay10 (runDiag.sl.v199 a4 a5 a6 x0 x1 x2 m0 l0 s0) (runDiag.sl.v204 a4 a5 a6 x0 x1 x2 m0 l0 s0) (View.readAt (Elt Ideal) a7.view (Rect.unit (s := S4x256x128) ![2, 0, 0] S1x256x128.size inb_S4x256x128_S1x256x128_2_0_0).toLoadRect (a7.view.rep (Val := Elt Ideal) x3))) (ix2 d c) = outV (runDiag.sl.v195 a4 a5 a6 x0 x1 x2 m0 s0) (runDiag.sl.v200 a4 a5 a6 x0 x1 x2 m0 s0) (runDiag.sl.v196 a4 a5 x0 x1 m0 l0) (runDiag.sl.v201 a4 a5 x0 x1 m0 l0) (View.readAt (Elt Ideal) a7.view (Rect.unit (s := S4x256x128) ![2, 0, 0] S1x256x128.size inb_S4x256x128_S1x256x128_2_0_0).toLoadRect (a7.view.rep (Val := Elt Ideal) x3)) d c := by
      exact out_2 _ _ _ _ _ d c
    refine e.trans ?_
    refine outP _ _ _ _ _ (colV x2 (SD x0 x1) (fun c => m0 (ix2 0 c)) (fun d c => s0 (ix2 d c))) (colL (SD x0 x1) (fun c => m0 (ix2 0 c)) (fun c => l0 (ix2 0 c))) x3 2 (by decide) (fun d c => ?_) (fun c => ?_) (fun d c => ?_) (fun c => ?_) (ldW_at a7 x3 2 (by decide) _) d c
    · unfold runDiag.sl.v195
      exact ldMat_at aS.view _ _ (runDiag_vH a4 a5 a6 x0 x1 x2 m0 s0) 256 1024 _ (by decide) d c
    · unfold runDiag.sl.v196
      exact ldRow_at lS.view _ _ (runDiag_lH a4 a5 x0 x1 m0 l0) 256 1024 _ (by decide) c
    · unfold runDiag.sl.v200
      exact ldMat_at aS.view _ _ (runDiag_vH a4 a5 a6 x0 x1 x2 m0 s0) 256 1280 _ (by decide) d c
    · unfold runDiag.sl.v201
      exact ldRow_at lS.view _ _ (runDiag_lH a4 a5 x0 x1 m0 l0) 256 1280 _ (by decide) c
  · intro d c
    have e : (k0_pay11 (runDiag.sl.v209 a4 a5 a6 x0 x1 x2 m0 l0 s0) (runDiag.sl.v214 a4 a5 a6 x0 x1 x2 m0 l0 s0) (View.readAt (Elt Ideal) a7.view (Rect.unit (s := S4x256x128) ![3, 0, 0] S1x256x128.size inb_S4x256x128_S1x256x128_3_0_0).toLoadRect (a7.view.rep (Val := Elt Ideal) x3))) (ix2 d c) = outV (runDiag.sl.v205 a4 a5 a6 x0 x1 x2 m0 s0) (runDiag.sl.v210 a4 a5 a6 x0 x1 x2 m0 s0) (runDiag.sl.v206 a4 a5 x0 x1 m0 l0) (runDiag.sl.v211 a4 a5 x0 x1 m0 l0) (View.readAt (Elt Ideal) a7.view (Rect.unit (s := S4x256x128) ![3, 0, 0] S1x256x128.size inb_S4x256x128_S1x256x128_3_0_0).toLoadRect (a7.view.rep (Val := Elt Ideal) x3)) d c := by
      exact out_3 _ _ _ _ _ d c
    refine e.trans ?_
    refine outP _ _ _ _ _ (colV x2 (SD x0 x1) (fun c => m0 (ix2 0 c)) (fun d c => s0 (ix2 d c))) (colL (SD x0 x1) (fun c => m0 (ix2 0 c)) (fun c => l0 (ix2 0 c))) x3 3 (by decide) (fun d c => ?_) (fun c => ?_) (fun d c => ?_) (fun c => ?_) (ldW_at a7 x3 3 (by decide) _) d c
    · unfold runDiag.sl.v205
      exact ldMat_at aS.view _ _ (runDiag_vH a4 a5 a6 x0 x1 x2 m0 s0) 256 1536 _ (by decide) d c
    · unfold runDiag.sl.v206
      exact ldRow_at lS.view _ _ (runDiag_lH a4 a5 x0 x1 m0 l0) 256 1536 _ (by decide) c
    · unfold runDiag.sl.v210
      exact ldMat_at aS.view _ _ (runDiag_vH a4 a5 a6 x0 x1 x2 m0 s0) 256 1792 _ (by decide) d c
    · unfold runDiag.sl.v211
      exact ldRow_at lS.view _ _ (runDiag_lH a4 a5 x0 x1 m0 l0) 256 1792 _ (by decide) c

end

end Cert.KernelIdeal.Att

end
-- ==== Proof.KI.VInitFar.lean ====
module

public import proofs.«01_k».proof.Proof.KI.Vals

/-! What each case of the body leaves, as the column updates: the running maximum, the running sum of weights, the running sum
of weighted values and, on the diagonal, the output block. -/

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open scoped BigOperators

section
variable (t : Dev nD) (i : grid0.Coords) (a4 : MQ) (h4 : a4.IsWhole) (a5 : MK) (h5 : a5.IsWhole) (a6 : MV) (h6 : a6.IsWhole)
    (a7 : MW) (h7 : a7.IsWhole) (a8 : MO) (h8 : a8.IsWhole) (T0 T1 : S136.Idx → BitVec 32)
    (x0 : S2048x256.Idx → EReal) (x1 : S256x256.Idx → EReal) (x2 : S128x256.Idx → EReal) (x3 : S4x256x128.Idx → EReal)
    (hi : IsInit T1 i) (hf : IsFar T0 T1 i) (hd : ¬ IsDiag T0 T1 i)

theorem runInitFar_mH (y : S1x2048.Idx) : View.read (Elt Ideal) (View.whole cc0_scratch0) ((View.whole cc0_scratch0).writes (Elt Ideal) (View.whole cc0_scratch0).junk (runInitFar.sl.HS0_5 a4 a5 x0 x1)) y = (colM (SF x0 x1) (fun _ => ⊥)) (y 1) := by
  have hm0 : ∀ c : Fin 512, runInitFar.sl.v25 (ix2 (0 : Fin 1) c) = (⊥ : EReal) := by
    intro c
    unfold runInitFar.sl.v25 runInitFar.sl.HS0_1
    rw [View.readCov, View.readAt_apply]
    exact fill0 mS.view _ 1 0 ⊥ _ pay1_eq _ (by decide) _ _ (Nat.le_add_right _ _)
  have hm1 : ∀ c : Fin 512, runInitFar.sl.v56 a4 a5 x0 x1 (ix2 (0 : Fin 1) c) = (⊥ : EReal) := by
    intro c
    unfold runInitFar.sl.v56 runInitFar.sl.HS0_2 runInitFar.sl.HS0_1
    rw [View.readCov, View.readAt_apply]
    exact fill1 mS.view _ 1 512 ⊥ _ pay1_eq _ (by decide) _ _ (Nat.le_add_right _ _) _ ⟨rfl, Nat.le_of_ble_eq_true rfl⟩
  have hm2 : ∀ c : Fin 512, runInitFar.sl.v87 a4 a5 x0 x1 (ix2 (0 : Fin 1) c) = (⊥ : EReal) := by
    intro c
    unfold runInitFar.sl.v87 runInitFar.sl.HS0_3 runInitFar.sl.HS0_2 runInitFar.sl.HS0_1
    rw [View.readCov, View.readAt_apply]
    exact fill2 mS.view _ 1 1024 ⊥ _ pay1_eq _ (by decide) _ _ (Nat.le_add_right _ _) _ _ ⟨rfl, Nat.le_of_ble_eq_true rfl⟩ ⟨rfl, Nat.le_of_ble_eq_true rfl⟩
  have hm3 : ∀ c : Fin 512, runInitFar.sl.v118 a4 a5 x0 x1 (ix2 (0 : Fin 1) c) = (⊥ : EReal) := by
    intro c
    unfold runInitFar.sl.v118 runInitFar.sl.HS0_4 runInitFar.sl.HS0_3 runInitFar.sl.HS0_2 runInitFar.sl.HS0_1
    rw [View.readCov, View.readAt_apply]
    exact fill3 mS.view _ 1 1536 ⊥ _ pay1_eq _ (by decide) _ _ (Nat.le_add_right _ _) _ _ _ ⟨rfl, Nat.le_of_ble_eq_true rfl⟩ ⟨rfl, Nat.le_of_ble_eq_true rfl⟩ ⟨rfl, Nat.le_of_ble_eq_true rfl⟩
  unfold runInitFar.sl.HS0_5 runInitFar.sl.HS0_4 runInitFar.sl.HS0_3 runInitFar.sl.HS0_2 runInitFar.sl.HS0_1
  refine rows4 mS.view _ _ _ _ _ (colM (SF x0 x1) (fun _ => ⊥)) _ _ _ _ _ ?_ ?_ ?_ ?_ y
  · intro c
    exact (congrFun (far_m0 _ _ _) (ix2 0 c)).trans (pieceM_F x0 x1 _ _ _ (fun _ => ⊥) 0 (by decide) (ldK_eq a5 x1 _) (ldQ_at a4 x0 0 _ (by decide)) hm0 c)
  · intro c
    exact (congrFun (far_m1 _ _ _) (ix2 0 c)).trans (pieceM_F x0 x1 _ _ _ (fun _ => ⊥) 512 (by decide) (ldK_eq a5 x1 _) (ldQ_at a4 x0 512 _ (by decide)) hm1 c)
  · intro c
    exact (congrFun (far_m2 _ _ _) (ix2 0 c)).trans (pieceM_F x0 x1 _ _ _ (fun _ => ⊥) 1024 (by decide) (ldK_eq a5 x1 _) (ldQ_at a4 x0 1024 _ (by decide)) hm2 c)
  · intro c
    exact (congrFun (far_m3 _ _ _) (ix2 0 c)).trans (pieceM_F x0 x1 _ _ _ (fun _ => ⊥) 1536 (by decide) (ldK_eq a5 x1 _) (ldQ_at a4 x0 1536 _ (by decide)) hm3 c)

theorem runInitFar_lH (y : S1x2048.Idx) : View.read (Elt Ideal) (View.whole cc0_scratch1) ((View.whole cc0_scratch1).writes (Elt Ideal) (View.whole cc0_scratch1).junk (runInitFar.sl.HS1_5 a4 a5 x0 x1)) y = (colL (SF x0 x1) (fun _ => ⊥) (fun _ => 0)) (y 1) := by
  have hm0 : ∀ c : Fin 512, runInitFar.sl.v25 (ix2 (0 : Fin 1) c) = (⊥ : EReal) := by
    intro c
    unfold runInitFar.sl.v25 runInitFar.sl.HS0_1
    rw [View.readCov, View.readAt_apply]
    exact fill0 mS.view _ 1 0 ⊥ _ pay1_eq _ (by decide) _ _ (Nat.le_add_right _ _)
  have hm1 : ∀ c : Fin 512, runInitFar.sl.v56 a4 a5 x0 x1 (ix2 (0 : Fin 1) c) = (⊥ : EReal) := by
    intro c
    unfold runInitFar.sl.v56 runInitFar.sl.HS0_2 runInitFar.sl.HS0_1
    rw [View.readCov, View.readAt_apply]
    exact fill1 mS.view _ 1 512 ⊥ _ pay1_eq _ (by decide) _ _ (Nat.le_add_right _ _) _ ⟨rfl, Nat.le_of_ble_eq_true rfl⟩
  have hm2 : ∀ c : Fin 512, runInitFar.sl.v87 a4 a5 x0 x1 (ix2 (0 : Fin 1) c) = (⊥ : EReal) := by
    intro c
    unfold runInitFar.sl.v87 runInitFar.sl.HS0_3 runInitFar.sl.HS0_2 runInitFar.sl.HS0_1
    rw [View.readCov, View.readAt_apply]
    exact fill2 mS.view _ 1 1024 ⊥ _ pay1_eq _ (by decide) _ _ (Nat.le_add_right _ _) _ _ ⟨rfl, Nat.le_of_ble_eq_true rfl⟩ ⟨rfl, Nat.le_of_ble_eq_true rfl⟩
  have hm3 : ∀ c : Fin 512, runInitFar.sl.v118 a4 a5 x0 x1 (ix2 (0 : Fin 1) c) = (⊥ : EReal) := by
    intro c
    unfold runInitFar.sl.v118 runInitFar.sl.HS0_4 runInitFar.sl.HS0_3 runInitFar.sl.HS0_2 runInitFar.sl.HS0_1
    rw [View.readCov, View.readAt_apply]
    exact fill3 mS.view _ 1 1536 ⊥ _ pay1_eq _ (by decide) _ _ (Nat.le_add_right _ _) _ _ _ ⟨rfl, Nat.le_of_ble_eq_true rfl⟩ ⟨rfl, Nat.le_of_ble_eq_true rfl⟩ ⟨rfl, Nat.le_of_ble_eq_true rfl⟩
  have hl0 : ∀ c : Fin 512, runInitFar.sl.v34 (ix2 (0 : Fin 1) c) = (0 : EReal) := by
    intro c
    unfold runInitFar.sl.v34 runInitFar.sl.HS1_1
    rw [View.readCov, View.readAt_apply]
    exact fill0 lS.view _ 1 0 0 _ pay2_eq _ (by decide) _ _ (Nat.le_add_right _ _)
  have hl1 : ∀ c : Fin 512, runInitFar.sl.v65 a4 a5 x0 x1 (ix2 (0 : Fin 1) c) = (0 : EReal) := by
    intro c
    unfold runInitFar.sl.v65 runInitFar.sl.HS1_2 runInitFar.sl.HS1_1
    rw [View.readCov, View.readAt_apply]
    exact fill1 lS.view _ 1 512 0 _ pay2_eq _ (by decide) _ _ (Nat.le_add_right _ _) _ ⟨rfl, Nat.le_of_ble_eq_true rfl⟩
  have hl2 : ∀ c : Fin 512, runInitFar.sl.v96 a4 a5 x0 x1 (ix2 (0 : Fin 1) c) = (0 : EReal) := by
    intro c
    unfold runInitFar.sl.v96 runInitFar.sl.HS1_3 runInitFar.sl.HS1_2 runInitFar.sl.HS1_1
    rw [View.readCov, View.readAt_apply]
    exact fill2 lS.view _ 1 1024 0 _ pay2_eq _ (by decide) _ _ (Nat.le_add_right _ _) _ _ ⟨rfl, Nat.le_of_ble_eq_true rfl⟩ ⟨rfl, Nat.le_of_ble_eq_true rfl⟩
  have hl3 : ∀ c : Fin 512, runInitFar.sl.v127 a4 a5 x0 x1 (ix2 (0 : Fin 1) c) = (0 : EReal) := by
    intro c
    unfold runInitFar.sl.v127 runInitFar.sl.HS1_4 runInitFar.sl.HS1_3 runInitFar.sl.HS1_2 runInitFar.sl.HS1_1
    rw [View.readCov, View.readAt_apply]
    exact fill3 lS.view _ 1 1536 0 _ pay2_eq _ (by decide) _ _ (Nat.le_add_right _ _) _ _ _ ⟨rfl, Nat.le_of_ble_eq_true rfl⟩ ⟨rfl, Nat.le_of_ble_eq_true rfl⟩ ⟨rfl, Nat.le_of_ble_eq_true rfl⟩
  unfold runInitFar.sl.HS1_5 runInitFar.sl.HS1_4 runInitFar.sl.HS1_3 runInitFar.sl.HS1_2 runInitFar.sl.HS1_1
  refine rows4 lS.view _ _ _ _ _ (colL (SF x0 x1) (fun _ => ⊥) (fun _ => 0)) _ _ _ _ _ ?_ ?_ ?_ ?_ y
  · intro c
    exact (congrFun (far_l0 _ _ _ _) (ix2 0 c)).trans (pieceL_F x0 x1 _ _ _ _ (fun _ => ⊥) (fun _ => 0) 0 (by decide) (ldK_eq a5 x1 _) (ldQ_at a4 x0 0 _ (by decide)) hm0 hl0 c)
  · intro c
    exact (congrFun (far_l1 _ _ _ _) (ix2 0 c)).trans (pieceL_F x0 x1 _ _ _ _ (fun _ => ⊥) (fun _ => 0) 512 (by decide) (ldK_eq a5 x1 _) (ldQ_at a4 x0 512 _ (by decide)) hm1 hl1 c)
  · intro c
    exact (congrFun (far_l2 _ _ _ _) (ix2 0 c)).trans (pieceL_F x0 x1 _ _ _ _ (fun _ => ⊥) (fun _ => 0) 1024 (by decide) (ldK_eq a5 x1 _) (ldQ_at a4 x0 1024 _ (by decide)) hm2 hl2 c)
  · intro c
    exact (congrFun (far_l3 _ _ _ _) (ix2 0 c)).trans (pieceL_F x0 x1 _ _ _ _ (fun _ => ⊥) (fun _ => 0) 1536 (by decide) (ldK_eq a5 x1 _) (ldQ_at a4 x0 1536 _ (by decide)) hm3 hl3 c)

theorem runInitFar_vH (y : S128x2048.Idx) : View.read (Elt Ideal) (View.whole cc0_scratch2) ((View.whole cc0_scratch2).writes (Elt Ideal) (View.whole cc0_scratch2).junk (runInitFar.sl.HS2_5 a4 a5 a6 x0 x1 x2)) y = (colV x2 (SF x0 x1) (fun _ => ⊥) (fun _ _ => 0)) (y 0) (y 1) := by
  have hm0 : ∀ c : Fin 512, runInitFar.sl.v25 (ix2 (0 : Fin 1) c) = (⊥ : EReal) := by
    intro c
    unfold runInitFar.sl.v25 runInitFar.sl.HS0_1
    rw [View.readCov, View.readAt_apply]
    exact fill0 mS.view _ 1 0 ⊥ _ pay1_eq _ (by decide) _ _ (Nat.le_add_right _ _)
  have hm1 : ∀ c : Fin 512, runInitFar.sl.v56 a4 a5 x0 x1 (ix2 (0 : Fin 1) c) = (⊥ : EReal) := by
    intro c
    unfold runInitFar.sl.v56 runInitFar.sl.HS0_2 runInitFar.sl.HS0_1
    rw [View.readCov, View.readAt_apply]
    exact fill1 mS.view _ 1 512 ⊥ _ pay1_eq _ (by decide) _ _ (Nat.le_add_right _ _) _ ⟨rfl, Nat.le_of_ble_eq_true rfl⟩
  have hm2 : ∀ c : Fin 512, runInitFar.sl.v87 a4 a5 x0 x1 (ix2 (0 : Fin 1) c) = (⊥ : EReal) := by
    intro c
    unfold runInitFar.sl.v87 runInitFar.sl.HS0_3 runInitFar.sl.HS0_2 runInitFar.sl.HS0_1
    rw [View.readCov, View.readAt_apply]
    exact fill2 mS.view _ 1 1024 ⊥ _ pay1_eq _ (by decide) _ _ (Nat.le_add_right _ _) _ _ ⟨rfl, Nat.le_of_ble_eq_true rfl⟩ ⟨rfl, Nat.le_of_ble_eq_true rfl⟩
  have hm3 : ∀ c : Fin 512, runInitFar.sl.v118 a4 a5 x0 x1 (ix2 (0 : Fin 1) c) = (⊥ : EReal) := by
    intro c
    unfold runInitFar.sl.v118 runInitFar.sl.HS0_4 runInitFar.sl.HS0_3 runInitFar.sl.HS0_2 runInitFar.sl.HS0_1
    rw [View.readCov, View.readAt_apply]
    exact fill3 mS.view _ 1 1536 ⊥ _ pay1_eq _ (by decide) _ _ (Nat.le_add_right _ _) _ _ _ ⟨rfl, Nat.le_of_ble_eq_true rfl⟩ ⟨rfl, Nat.le_of_ble_eq_true rfl⟩ ⟨rfl, Nat.le_of_ble_eq_true rfl⟩
  have hv0 : ∀ (d : Fin 128) (c : Fin 512), runInitFar.sl.v45 (ix2 d c) = (0 : EReal) := by
    intro d c
    unfold runInitFar.sl.v45 runInitFar.sl.HS2_1
    rw [View.readCov, View.readAt_apply]
    exact fill0 aS.view _ 1 0 0 _ pay3_eq _ (by decide) _ _ (Nat.le_add_right _ _)
  have hv1 : ∀ (d : Fin 128) (c : Fin 512), runInitFar.sl.v76 a4 a5 a6 x0 x1 x2 (ix2 d c) = (0 : EReal) := by
    intro d c
    unfold runInitFar.sl.v76 runInitFar.sl.HS2_2 runInitFar.sl.HS2_1
    rw [View.readCov, View.readAt_apply]
    exact fill1 aS.view _ 1 512 0 _ pay3_eq _ (by decide) _ _ (Nat.le_add_right _ _) _ ⟨rfl, Nat.le_of_ble_eq_true rfl⟩
  have hv2 : ∀ (d : Fin 128) (c : Fin 512), runInitFar.sl.v107 a4 a5 a6 x0 x1 x2 (ix2 d c) = (0 : EReal) := by
    intro d c
    unfold runInitFar.sl.v107 runInitFar.sl.HS2_3 runInitFar.sl.HS2_2 runInitFar.sl.HS2_1
    rw [View.readCov, View.readAt_apply]
    exact fill2 aS.view _ 1 1024 0 _ pay3_eq _ (by decide) _ _ (Nat.le_add_right _ _) _ _ ⟨rfl, Nat.le_of_ble_eq_true rfl⟩ ⟨rfl, Nat.le_of_ble_eq_true rfl⟩
  have hv3 : ∀ (d : Fin 128) (c : Fin 512), runInitFar.sl.v138 a4 a5 a6 x0 x1 x2 (ix2 d c) = (0 : EReal) := by
    intro d c
    unfold runInitFar.sl.v138 runInitFar.sl.HS2_4 runInitFar.sl.HS2_3 runInitFar.sl.HS2_2 runInitFar.sl.HS2_1
    rw [View.readCov, View.readAt_apply]
    exact fill3 aS.view _ 1 1536 0 _ pay3_eq _ (by decide) _ _ (Nat.le_add_right _ _) _ _ _ ⟨rfl, Nat.le_of_ble_eq_true rfl⟩ ⟨rfl, Nat.le_of_ble_eq_true rfl⟩ ⟨rfl, Nat.le_of_ble_eq_true rfl⟩
  unfold runInitFar.sl.HS2_5 runInitFar.sl.HS2_4 runInitFar.sl.HS2_3 runInitFar.sl.HS2_2 runInitFar.sl.HS2_1
  refine mats4 aS.view _ _ _ _ _ (colV x2 (SF x0 x1) (fun _ => ⊥) (fun _ _ => 0)) _ _ _ _ _ ?_ ?_ ?_ ?_ y
  · intro d c
    exact (congrFun (far_v0 _ _ _ _ _) (ix2 d c)).trans (pieceV_F x0 x1 _ x2 _ _ _ _ (fun _ => ⊥) (fun _ _ => 0) 0 (by decide) (ldK_eq a5 x1 _) (ldV_eq a6 x2 _) (ldQ_at a4 x0 0 _ (by decide)) hm0 hv0 d c)
  · intro d c
    exact (congrFun (far_v1 _ _ _ _ _) (ix2 d c)).trans (pieceV_F x0 x1 _ x2 _ _ _ _ (fun _ => ⊥) (fun _ _ => 0) 512 (by decide) (ldK_eq a5 x1 _) (ldV_eq a6 x2 _) (ldQ_at a4 x0 512 _ (by decide)) hm1 hv1 d c)
  · intro d c
    exact (congrFun (far_v2 _ _ _ _ _) (ix2 d c)).trans (pieceV_F x0 x1 _ x2 _ _ _ _ (fun _ => ⊥) (fun _ _ => 0) 1024 (by decide) (ldK_eq a5 x1 _) (ldV_eq a6 x2 _) (ldQ_at a4 x0 1024 _ (by decide)) hm2 hv2 d c)
  · intro d c
    exact (congrFun (far_v3 _ _ _ _ _) (ix2 d c)).trans (pieceV_F x0 x1 _ x2 _ _ _ _ (fun _ => ⊥) (fun _ _ => 0) 1536 (by decide) (ldK_eq a5 x1 _) (ldV_eq a6 x2 _) (ldQ_at a4 x0 1536 _ (by decide)) hm3 hv3 d c)

theorem runInitFar_m (y : S1x2048.Idx) : (runInitFar t i a4 h4 a5 h5 a6 h6 a7 h7 a8 h8 T0 T1 x0 x1 x2 x3 hi hf hd).1 y = (colM (SF x0 x1) (fun _ => ⊥)) (y 1) := by
  delta runInitFar
  dsimp only
  exact (read_sc0 _ y).symm.trans (runInitFar_mH a4 a5 x0 x1 y)

theorem runInitFar_l (y : S1x2048.Idx) : (runInitFar t i a4 h4 a5 h5 a6 h6 a7 h7 a8 h8 T0 T1 x0 x1 x2 x3 hi hf hd).2.1 y = (colL (SF x0 x1) (fun _ => ⊥) (fun _ => 0)) (y 1) := by
  delta runInitFar
  dsimp only
  exact (read_sc1 _ y).symm.trans (runInitFar_lH a4 a5 x0 x1 y)

theorem runInitFar_v (y : S128x2048.Idx) : (runInitFar t i a4 h4 a5 h5 a6 h6 a7 h7 a8 h8 T0 T1 x0 x1 x2 x3 hi hf hd).2.2.1 y = (colV x2 (SF x0 x1) (fun _ => ⊥) (fun _ _ => 0)) (y 0) (y 1) := by
  delta runInitFar
  dsimp only
  exact (read_sc2 _ y).symm.trans (runInitFar_vH a4 a5 a6 x0 x1 x2 y)

end

end Cert.KernelIdeal.Att

end
-- ==== Proof.KI.VInitDiag.lean ====
module

public import proofs.«01_k».proof.Proof.KI.Vals

/-! What each case of the body leaves, as the column updates: the running maximum, the running sum of weights, the running sum
of weighted values and, on the diagonal, the output block. -/

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open scoped BigOperators

section
variable (t : Dev nD) (i : grid0.Coords) (a4 : MQ) (h4 : a4.IsWhole) (a5 : MK) (h5 : a5.IsWhole) (a6 : MV) (h6 : a6.IsWhole)
    (a7 : MW) (h7 : a7.IsWhole) (a8 : MO) (h8 : a8.IsWhole) (T0 T1 : S136.Idx → BitVec 32)
    (x0 : S2048x256.Idx → EReal) (x1 : S256x256.Idx → EReal) (x2 : S128x256.Idx → EReal) (x3 : S4x256x128.Idx → EReal)
    (hi : IsInit T1 i) (hf : ¬ IsFar T0 T1 i) (hd : IsDiag T0 T1 i)

theorem runInitDiag_mH (y : S1x2048.Idx) : View.read (Elt Ideal) (View.whole cc0_scratch0) ((View.whole cc0_scratch0).writes (Elt Ideal) (View.whole cc0_scratch0).junk (runInitDiag.sl.HS0_5 a4 a5 x0 x1)) y = (colM (SD x0 x1) (fun _ => ⊥)) (y 1) := by
  have hm0 : ∀ c : Fin 512, runInitDiag.sl.v32 (ix2 (0 : Fin 1) c) = (⊥ : EReal) := by
    intro c
    unfold runInitDiag.sl.v32 runInitDiag.sl.HS0_1
    rw [View.readCov, View.readAt_apply]
    exact fill0 mS.view _ 1 0 ⊥ _ pay1_eq _ (by decide) _ _ (Nat.le_add_right _ _)
  have hm1 : ∀ c : Fin 512, runInitDiag.sl.v70 a4 a5 x0 x1 (ix2 (0 : Fin 1) c) = (⊥ : EReal) := by
    intro c
    unfold runInitDiag.sl.v70 runInitDiag.sl.HS0_2 runInitDiag.sl.HS0_1
    rw [View.readCov, View.readAt_apply]
    exact fill1 mS.view _ 1 512 ⊥ _ pay1_eq _ (by decide) _ _ (Nat.le_add_right _ _) _ ⟨rfl, Nat.le_of_ble_eq_true rfl⟩
  have hm2 : ∀ c : Fin 512, runInitDiag.sl.v108 a4 a5 x0 x1 (ix2 (0 : Fin 1) c) = (⊥ : EReal) := by
    intro c
    unfold runInitDiag.sl.v108 runInitDiag.sl.HS0_3 runInitDiag.sl.HS0_2 runInitDiag.sl.HS0_1
    rw [View.readCov, View.readAt_apply]
    exact fill2 mS.view _ 1 1024 ⊥ _ pay1_eq _ (by decide) _ _ (Nat.le_add_right _ _) _ _ ⟨rfl, Nat.le_of_ble_eq_true rfl⟩ ⟨rfl, Nat.le_of_ble_eq_true rfl⟩
  have hm3 : ∀ c : Fin 512, runInitDiag.sl.v146 a4 a5 x0 x1 (ix2 (0 : Fin 1) c) = (⊥ : EReal) := by
    intro c
    unfold runInitDiag.sl.v146 runInitDiag.sl.HS0_4 runInitDiag.sl.HS0_3 runInitDiag.sl.HS0_2 runInitDiag.sl.HS0_1
    rw [View.readCov, View.readAt_apply]
    exact fill3 mS.view _ 1 1536 ⊥ _ pay1_eq _ (by decide) _ _ (Nat.le_add_right _ _) _ _ _ ⟨rfl, Nat.le_of_ble_eq_true rfl⟩ ⟨rfl, Nat.le_of_ble_eq_true rfl⟩ ⟨rfl, Nat.le_of_ble_eq_true rfl⟩
  unfold runInitDiag.sl.HS0_5 runInitDiag.sl.HS0_4 runInitDiag.sl.HS0_3 runInitDiag.sl.HS0_2 runInitDiag.sl.HS0_1
  refine rows4 mS.view _ _ _ _ _ (colM (SD x0 x1) (fun _ => ⊥)) _ _ _ _ _ ?_ ?_ ?_ ?_ y
  · intro c
    exact (congrFun (diag_m0 _ _ _) (ix2 0 c)).trans (pieceM_D x0 x1 _ _ _ (fun _ => ⊥) 0 (by decide) (ldK_eq a5 x1 _) (ldQ_at a4 x0 0 _ (by decide)) hm0 (by decide) c)
  · intro c
    exact (congrFun (diag_m1 _ _ _) (ix2 0 c)).trans (pieceM_D x0 x1 _ _ _ (fun _ => ⊥) 512 (by decide) (ldK_eq a5 x1 _) (ldQ_at a4 x0 512 _ (by decide)) hm1 (by decide) c)
  · intro c
    exact (congrFun (diag_m2 _ _ _) (ix2 0 c)).trans (pieceM_D x0 x1 _ _ _ (fun _ => ⊥) 1024 (by decide) (ldK_eq a5 x1 _) (ldQ_at a4 x0 1024 _ (by decide)) hm2 (by decide) c)
  · intro c
    exact (congrFun (diag_m3 _ _ _) (ix2 0 c)).trans (pieceM_D x0 x1 _ _ _ (fun _ => ⊥) 1536 (by decide) (ldK_eq a5 x1 _) (ldQ_at a4 x0 1536 _ (by decide)) hm3 (by decide) c)

theorem runInitDiag_lH (y : S1x2048.Idx) : View.read (Elt Ideal) (View.whole cc0_scratch1) ((View.whole cc0_scratch1).writes (Elt Ideal) (View.whole cc0_scratch1).junk (runInitDiag.sl.HS1_5 a4 a5 x0 x1)) y = (colL (SD x0 x1) (fun _ => ⊥) (fun _ => 0)) (y 1) := by
  have hm0 : ∀ c : Fin 512, runInitDiag.sl.v32 (ix2 (0 : Fin 1) c) = (⊥ : EReal) := by
    intro c
    unfold runInitDiag.sl.v32 runInitDiag.sl.HS0_1
    rw [View.readCov, View.readAt_apply]
    exact fill0 mS.view _ 1 0 ⊥ _ pay1_eq _ (by decide) _ _ (Nat.le_add_right _ _)
  have hm1 : ∀ c : Fin 512, runInitDiag.sl.v70 a4 a5 x0 x1 (ix2 (0 : Fin 1) c) = (⊥ : EReal) := by
    intro c
    unfold runInitDiag.sl.v70 runInitDiag.sl.HS0_2 runInitDiag.sl.HS0_1
    rw [View.readCov, View.readAt_apply]
    exact fill1 mS.view _ 1 512 ⊥ _ pay1_eq _ (by decide) _ _ (Nat.le_add_right _ _) _ ⟨rfl, Nat.le_of_ble_eq_true rfl⟩
  have hm2 : ∀ c : Fin 512, runInitDiag.sl.v108 a4 a5 x0 x1 (ix2 (0 : Fin 1) c) = (⊥ : EReal) := by
    intro c
    unfold runInitDiag.sl.v108 runInitDiag.sl.HS0_3 runInitDiag.sl.HS0_2 runInitDiag.sl.HS0_1
    rw [View.readCov, View.readAt_apply]
    exact fill2 mS.view _ 1 1024 ⊥ _ pay1_eq _ (by decide) _ _ (Nat.le_add_right _ _) _ _ ⟨rfl, Nat.le_of_ble_eq_true rfl⟩ ⟨rfl, Nat.le_of_ble_eq_true rfl⟩
  have hm3 : ∀ c : Fin 512, runInitDiag.sl.v146 a4 a5 x0 x1 (ix2 (0 : Fin 1) c) = (⊥ : EReal) := by
    intro c
    unfold runInitDiag.sl.v146 runInitDiag.sl.HS0_4 runInitDiag.sl.HS0_3 runInitDiag.sl.HS0_2 runInitDiag.sl.HS0_1
    rw [View.readCov, View.readAt_apply]
    exact fill3 mS.view _ 1 1536 ⊥ _ pay1_eq _ (by decide) _ _ (Nat.le_add_right _ _) _ _ _ ⟨rfl, Nat.le_of_ble_eq_true rfl⟩ ⟨rfl, Nat.le_of_ble_eq_true rfl⟩ ⟨rfl, Nat.le_of_ble_eq_true rfl⟩
  have hl0 : ∀ c : Fin 512, runInitDiag.sl.v41 (ix2 (0 : Fin 1) c) = (0 : EReal) := by
    intro c
    unfold runInitDiag.sl.v41 runInitDiag.sl.HS1_1
    rw [View.readCov, View.readAt_apply]
    exact fill0 lS.view _ 1 0 0 _ pay2_eq _ (by decide) _ _ (Nat.le_add_right _ _)
  have hl1 : ∀ c : Fin 512, runInitDiag.sl.v79 a4 a5 x0 x1 (ix2 (0 : Fin 1) c) = (0 : EReal) := by
    intro c
    unfold runInitDiag.sl.v79 runInitDiag.sl.HS1_2 runInitDiag.sl.HS1_1
    rw [View.readCov, View.readAt_apply]
    exact fill1 lS.view _ 1 512 0 _ pay2_eq _ (by decide) _ _ (Nat.le_add_right _ _) _ ⟨rfl, Nat.le_of_ble_eq_true rfl⟩
  have hl2 : ∀ c : Fin 512, runInitDiag.sl.v117 a4 a5 x0 x1 (ix2 (0 : Fin 1) c) = (0 : EReal) := by
    intro c
    unfold runInitDiag.sl.v117 runInitDiag.sl.HS1_3 runInitDiag.sl.HS1_2 runInitDiag.sl.HS1_1
    rw [View.readCov, View.readAt_apply]
    exact fill2 lS.view _ 1 1024 0 _ pay2_eq _ (by decide) _ _ (Nat.le_add_right _ _) _ _ ⟨rfl, Nat.le_of_ble_eq_true rfl⟩ ⟨rfl, Nat.le_of_ble_eq_true rfl⟩
  have hl3 : ∀ c : Fin 512, runInitDiag.sl.v155 a4 a5 x0 x1 (ix2 (0 : Fin 1) c) = (0 : EReal) := by
    intro c
    unfold runInitDiag.sl.v155 runInitDiag.sl.HS1_4 runInitDiag.sl.HS1_3 runInitDiag.sl.HS1_2 runInitDiag.sl.HS1_1
    rw [View.readCov, View.readAt_apply]
    exact fill3 lS.view _ 1 1536 0 _ pay2_eq _ (by decide) _ _ (Nat.le_add_right _ _) _ _ _ ⟨rfl, Nat.le_of_ble_eq_true rfl⟩ ⟨rfl, Nat.le_of_ble_eq_true rfl⟩ ⟨rfl, Nat.le_of_ble_eq_true rfl⟩
  unfold runInitDiag.sl.HS1_5 runInitDiag.sl.HS1_4 runInitDiag.sl.HS1_3 runInitDiag.sl.HS1_2 runInitDiag.sl.HS1_1
  refine rows4 lS.view _ _ _ _ _ (colL (SD x0 x1) (fun _ => ⊥) (fun _ => 0)) _ _ _ _ _ ?_ ?_ ?_ ?_ y
  · intro c
    exact (congrFun (diag_l0 _ _ _ _) (ix2 0 c)).trans (pieceL_D x0 x1 _ _ _ _ (fun _ => ⊥) (fun _ => 0) 0 (by decide) (ldK_eq a5 x1 _) (ldQ_at a4 x0 0 _ (by decide)) hm0 hl0 (by decide) c)
  · intro c
    exact (congrFun (diag_l1 _ _ _ _) (ix2 0 c)).trans (pieceL_D x0 x1 _ _ _ _ (fun _ => ⊥) (fun _ => 0) 512 (by decide) (ldK_eq a5 x1 _) (ldQ_at a4 x0 512 _ (by decide)) hm1 hl1 (by decide) c)
  · intro c
    exact (congrFun (diag_l2 _ _ _ _) (ix2 0 c)).trans (pieceL_D x0 x1 _ _ _ _ (fun _ => ⊥) (fun _ => 0) 1024 (by decide) (ldK_eq a5 x1 _) (ldQ_at a4 x0 1024 _ (by decide)) hm2 hl2 (by decide) c)
  · intro c
    exact (congrFun (diag_l3 _ _ _ _) (ix2 0 c)).trans (pieceL_D x0 x1 _ _ _ _ (fun _ => ⊥) (fun _ => 0) 1536 (by decide) (ldK_eq a5 x1 _) (ldQ_at a4 x0 1536 _ (by decide)) hm3 hl3 (by decide) c)

theorem runInitDiag_vH (y : S128x2048.Idx) : View.read (Elt Ideal) (View.whole cc0_scratch2) ((View.whole cc0_scratch2).writes (Elt Ideal) (View.whole cc0_scratch2).junk (runInitDiag.sl.HS2_5 a4 a5 a6 x0 x1 x2)) y = (colV x2 (SD x0 x1) (fun _ => ⊥) (fun _ _ => 0)) (y 0) (y 1) := by
  have hm0 : ∀ c : Fin 512, runInitDiag.sl.v32 (ix2 (0 : Fin 1) c) = (⊥ : EReal) := by
    intro c
    unfold runInitDiag.sl.v32 runInitDiag.sl.HS0_1
    rw [View.readCov, View.readAt_apply]
    exact fill0 mS.view _ 1 0 ⊥ _ pay1_eq _ (by decide) _ _ (Nat.le_add_right _ _)
  have hm1 : ∀ c : Fin 512, runInitDiag.sl.v70 a4 a5 x0 x1 (ix2 (0 : Fin 1) c) = (⊥ : EReal) := by
    intro c
    unfold runInitDiag.sl.v70 runInitDiag.sl.HS0_2 runInitDiag.sl.HS0_1
    rw [View.readCov, View.readAt_apply]
    exact fill1 mS.view _ 1 512 ⊥ _ pay1_eq _ (by decide) _ _ (Nat.le_add_right _ _) _ ⟨rfl, Nat.le_of_ble_eq_true rfl⟩
  have hm2 : ∀ c : Fin 512, runInitDiag.sl.v108 a4 a5 x0 x1 (ix2 (0 : Fin 1) c) = (⊥ : EReal) := by
    intro c
    unfold runInitDiag.sl.v108 runInitDiag.sl.HS0_3 runInitDiag.sl.HS0_2 runInitDiag.sl.HS0_1
    rw [View.readCov, View.readAt_apply]
    exact fill2 mS.view _ 1 1024 ⊥ _ pay1_eq _ (by decide) _ _ (Nat.le_add_right _ _) _ _ ⟨rfl, Nat.le_of_ble_eq_true rfl⟩ ⟨rfl, Nat.le_of_ble_eq_true rfl⟩
  have hm3 : ∀ c : Fin 512, runInitDiag.sl.v146 a4 a5 x0 x1 (ix2 (0 : Fin 1) c) = (⊥ : EReal) := by
    intro c
    unfold runInitDiag.sl.v146 runInitDiag.sl.HS0_4 runInitDiag.sl.HS0_3 runInitDiag.sl.HS0_2 runInitDiag.sl.HS0_1
    rw [View.readCov, View.readAt_apply]
    exact fill3 mS.view _ 1 1536 ⊥ _ pay1_eq _ (by decide) _ _ (Nat.le_add_right _ _) _ _ _ ⟨rfl, Nat.le_of_ble_eq_true rfl⟩ ⟨rfl, Nat.le_of_ble_eq_true rfl⟩ ⟨rfl, Nat.le_of_ble_eq_true rfl⟩
  have hv0 : ∀ (d : Fin 128) (c : Fin 512), runInitDiag.sl.v52 (ix2 d c) = (0 : EReal) := by
    intro d c
    unfold runInitDiag.sl.v52 runInitDiag.sl.HS2_1
    rw [View.readCov, View.readAt_apply]
    exact fill0 aS.view _ 1 0 0 _ pay3_eq _ (by decide) _ _ (Nat.le_add_right _ _)
  have hv1 : ∀ (d : Fin 128) (c : Fin 512), runInitDiag.sl.v90 a4 a5 a6 x0 x1 x2 (ix2 d c) = (0 : EReal) := by
    intro d c
    unfold runInitDiag.sl.v90 runInitDiag.sl.HS2_2 runInitDiag.sl.HS2_1
    rw [View.readCov, View.readAt_apply]
    exact fill1 aS.view _ 1 512 0 _ pay3_eq _ (by decide) _ _ (Nat.le_add_right _ _) _ ⟨rfl, Nat.le_of_ble_eq_true rfl⟩
  have hv2 : ∀ (d : Fin 128) (c : Fin 512), runInitDiag.sl.v128 a4 a5 a6 x0 x1 x2 (ix2 d c) = (0 : EReal) := by
    intro d c
    unfold runInitDiag.sl.v128 runInitDiag.sl.HS2_3 runInitDiag.sl.HS2_2 runInitDiag.sl.HS2_1
    rw [View.readCov, View.readAt_apply]
    exact fill2 aS.view _ 1 1024 0 _ pay3_eq _ (by decide) _ _ (Nat.le_add_right _ _) _ _ ⟨rfl, Nat.le_of_ble_eq_true rfl⟩ ⟨rfl, Nat.le_of_ble_eq_true rfl⟩
  have hv3 : ∀ (d : Fin 128) (c : Fin 512), runInitDiag.sl.v166 a4 a5 a6 x0 x1 x2 (ix2 d c) = (0 : EReal) := by
    intro d c
    unfold runInitDiag.sl.v166 runInitDiag.sl.HS2_4 runInitDiag.sl.HS2_3 runInitDiag.sl.HS2_2 runInitDiag.sl.HS2_1
    rw [View.readCov, View.readAt_apply]
    exact fill3 aS.view _ 1 1536 0 _ pay3_eq _ (by decide) _ _ (Nat.le_add_right _ _) _ _ _ ⟨rfl, Nat.le_of_ble_eq_true rfl⟩ ⟨rfl, Nat.le_of_ble_eq_true rfl⟩ ⟨rfl, Nat.le_of_ble_eq_true rfl⟩
  unfold runInitDiag.sl.HS2_5 runInitDiag.sl.HS2_4 runInitDiag.sl.HS2_3 runInitDiag.sl.HS2_2 runInitDiag.sl.HS2_1
  refine mats4 aS.view _ _ _ _ _ (colV x2 (SD x0 x1) (fun _ => ⊥) (fun _ _ => 0)) _ _ _ _ _ ?_ ?_ ?_ ?_ y
  · intro d c
    exact (congrFun (diag_v0 _ _ _ _ _) (ix2 d c)).trans (pieceV_D x0 x1 _ x2 _ _ _ _ (fun _ => ⊥) (fun _ _ => 0) 0 (by decide) (ldK_eq a5 x1 _) (ldV_eq a6 x2 _) (ldQ_at a4 x0 0 _ (by decide)) hm0 hv0 (by decide) d c)
  · intro d c
    exact (congrFun (diag_v1 _ _ _ _ _) (ix2 d c)).trans (pieceV_D x0 x1 _ x2 _ _ _ _ (fun _ => ⊥) (fun _ _ => 0) 512 (by decide) (ldK_eq a5 x1 _) (ldV_eq a6 x2 _) (ldQ_at a4 x0 512 _ (by decide)) hm1 hv1 (by decide) d c)
  · intro d c
    exact (congrFun (diag_v2 _ _ _ _ _) (ix2 d c)).trans (pieceV_D x0 x1 _ x2 _ _ _ _ (fun _ => ⊥) (fun _ _ => 0) 1024 (by decide) (ldK_eq a5 x1 _) (ldV_eq a6 x2 _) (ldQ_at a4 x0 1024 _ (by decide)) hm2 hv2 (by decide) d c)
  · intro d c
    exact (congrFun (diag_v3 _ _ _ _ _) (ix2 d c)).trans (pieceV_D x0 x1 _ x2 _ _ _ _ (fun _ => ⊥) (fun _ _ => 0) 1536 (by decide) (ldK_eq a5 x1 _) (ldV_eq a6 x2 _) (ldQ_at a4 x0 1536 _ (by decide)) hm3 hv3 (by decide) d c)

theorem runInitDiag_m (y : S1x2048.Idx) : (runInitDiag t i a4 h4 a5 h5 a6 h6 a7 h7 a8 h8 T0 T1 x0 x1 x2 x3 hi hf hd).2.1 y = (colM (SD x0 x1) (fun _ => ⊥)) (y 1) := by
  delta runInitDiag
  dsimp only
  exact (read_sc0 _ y).symm.trans (runInitDiag_mH a4 a5 x0 x1 y)

theorem runInitDiag_l (y : S1x2048.Idx) : (runInitDiag t i a4 h4 a5 h5 a6 h6 a7 h7 a8 h8 T0 T1 x0 x1 x2 x3 hi hf hd).2.2.1 y = (colL (SD x0 x1) (fun _ => ⊥) (fun _ => 0)) (y 1) := by
  delta runInitDiag
  dsimp only
  exact (read_sc1 _ y).symm.trans (runInitDiag_lH a4 a5 x0 x1 y)

theorem runInitDiag_v (y : S128x2048.Idx) : (runInitDiag t i a4 h4 a5 h5 a6 h6 a7 h7 a8 h8 T0 T1 x0 x1 x2 x3 hi hf hd).2.2.2.1 y = (colV x2 (SD x0 x1) (fun _ => ⊥) (fun _ _ => 0)) (y 0) (y 1) := by
  delta runInitDiag
  dsimp only
  exact (read_sc2 _ y).symm.trans (runInitDiag_vH a4 a5 a6 x0 x1 x2 y)

theorem runInitDiag_o (y : S256x512.Idx) : a8.view.read (Elt Ideal) (a8.view.writes (Elt Ideal) a8.view.junk (runInitDiag t i a4 h4 a5 h5 a6 h6 a7 h7 a8 h8 T0 T1 x0 x1 x2 x3 hi hf hd).1) y
    = outB (colV x2 (SD x0 x1) (fun _ => ⊥) (fun _ _ => 0)) (colL (SD x0 x1) (fun _ => ⊥) (fun _ => 0)) x3 (y 0) (y 1) := by
  delta runInitDiag
  dsimp only
  unfold runInitDiag.sl.HO4_4
  refine outs4 a8.view _ _ _ _ _ (outB (colV x2 (SD x0 x1) (fun _ => ⊥) (fun _ _ => 0)) (colL (SD x0 x1) (fun _ => ⊥) (fun _ => 0)) x3) [] _ _ _ _ ?_ ?_ ?_ ?_ y
  · intro d c
    have e : (runInitDiag.sl.v220 a4 a5 a6 a7 x0 x1 x2 x3) (ix2 d c) = outV (runInitDiag.sl.v175 a4 a5 a6 x0 x1 x2) (runInitDiag.sl.v180 a4 a5 a6 x0 x1 x2) (runInitDiag.sl.v176 a4 a5 x0 x1) (runInitDiag.sl.v181 a4 a5 x0 x1) (View.readAt (Elt Ideal) a7.view (Rect.unit (s := S4x256x128) ![0, 0, 0] S1x256x128.size inb_S4x256x128_S1x256x128_0_0_0).toLoadRect (a7.view.rep (Val := Elt Ideal) x3)) d c := by
      pointwise [runInitDiag.sl.v220, runInitDiag.sl.v219, runInitDiag.sl.v216, runInitDiag.sl.v215, runInitDiag.sl.v218, runInitDiag.sl.v177, runInitDiag.sl.v178, runInitDiag.sl.v179, runInitDiag.sl.v182, runInitDiag.sl.v183, runInitDiag.sl.v184, runInitDiag.sl.cst_116]; rfl
    refine e.trans ?_
    refine outP _ _ _ _ _ (colV x2 (SD x0 x1) (fun _ => ⊥) (fun _ _ => 0)) (colL (SD x0 x1) (fun _ => ⊥) (fun _ => 0)) x3 0 (by decide) (fun d c => ?_) (fun c => ?_) (fun d c => ?_) (fun c => ?_) (ldW_at a7 x3 0 (by decide) _) d c
    · unfold runInitDiag.sl.v175
      exact ldMat_at aS.view _ _ (runInitDiag_vH a4 a5 a6 x0 x1 x2) 256 0 _ (by decide) d c
    · unfold runInitDiag.sl.v176
      exact ldRow_at lS.view _ _ (runInitDiag_lH a4 a5 x0 x1) 256 0 _ (by decide) c
    · unfold runInitDiag.sl.v180
      exact ldMat_at aS.view _ _ (runInitDiag_vH a4 a5 a6 x0 x1 x2) 256 256 _ (by decide) d c
    · unfold runInitDiag.sl.v181
      exact ldRow_at lS.view _ _ (runInitDiag_lH a4 a5 x0 x1) 256 256 _ (by decide) c
  · intro d c
    have e : (runInitDiag.sl.v227 a4 a5 a6 a7 x0 x1 x2 x3) (ix2 d c) = outV (runInitDiag.sl.v185 a4 a5 a6 x0 x1 x2) (runInitDiag.sl.v190 a4 a5 a6 x0 x1 x2) (runInitDiag.sl.v186 a4 a5 x0 x1) (runInitDiag.sl.v191 a4 a5 x0 x1) (View.readAt (Elt Ideal) a7.view (Rect.unit (s := S4x256x128) ![1, 0, 0] S1x256x128.size inb_S4x256x128_S1x256x128_1_0_0).toLoadRect (a7.view.rep (Val := Elt Ideal) x3)) d c := by
      pointwise [runInitDiag.sl.v227, runInitDiag.sl.v226, runInitDiag.sl.v223, runInitDiag.sl.v222, runInitDiag.sl.v225, runInitDiag.sl.v187, runInitDiag.sl.v188, runInitDiag.sl.v189, runInitDiag.sl.v192, runInitDiag.sl.v193, runInitDiag.sl.v194, runInitDiag.sl.cst_116]; rfl
    refine e.trans ?_
    refine outP _ _ _ _ _ (colV x2 (SD x0 x1) (fun _ => ⊥) (fun _ _ => 0)) (colL (SD x0 x1) (fun _ => ⊥) (fun _ => 0)) x3 1 (by decide) (fun d c => ?_) (fun c => ?_) (fun d c => ?_) (fun c => ?_) (ldW_at a7 x3 1 (by decide) _) d c
    · unfold runInitDiag.sl.v185
      exact ldMat_at aS.view _ _ (runInitDiag_vH a4 a5 a6 x0 x1 x2) 256 512 _ (by decide) d c
    · unfold runInitDiag.sl.v186
      exact ldRow_at lS.view _ _ (runInitDiag_lH a4 a5 x0 x1) 256 512 _ (by decide) c
    · unfold runInitDiag.sl.v190
      exact ldMat_at aS.view _ _ (runInitDiag_vH a4 a5 a6 x0 x1 x2) 256 768 _ (by decide) d c
    · unfold runInitDiag.sl.v191
      exact ldRow_at lS.view _ _ (runInitDiag_lH a4 a5 x0 x1) 256 768 _ (by decide) c
  · intro d c
    have e : (k0_pay10 (runInitDiag.sl.v199 a4 a5 a6 x0 x1 x2) (runInitDiag.sl.v204 a4 a5 a6 x0 x1 x2) (View.readAt (Elt Ideal) a7.view (Rect.unit (s := S4x256x128) ![2, 0, 0] S1x256x128.size inb_S4x256x128_S1x256x128_2_0_0).toLoadRect (a7.view.rep (Val := Elt Ideal) x3))) (ix2 d c) = outV (runInitDiag.sl.v195 a4 a5 a6 x0 x1 x2) (runInitDiag.sl.v200 a4 a5 a6 x0 x1 x2) (runInitDiag.sl.v196 a4 a5 x0 x1) (runInitDiag.sl.v201 a4 a5 x0 x1) (View.readAt (Elt Ideal) a7.view (Rect.unit (s := S4x256x128) ![2, 0, 0] S1x256x128.size inb_S4x256x128_S1x256x128_2_0_0).toLoadRect (a7.view.rep (Val := Elt Ideal) x3)) d c := by
      exact out_2 _ _ _ _ _ d c
    refine e.trans ?_
    refine outP _ _ _ _ _ (colV x2 (SD x0 x1) (fun _ => ⊥) (fun _ _ => 0)) (colL (SD x0 x1) (fun _ => ⊥) (fun _ => 0)) x3 2 (by decide) (fun d c => ?_) (fun c => ?_) (fun d c => ?_) (fun c => ?_) (ldW_at a7 x3 2 (by decide) _) d c
    · unfold runInitDiag.sl.v195
      exact ldMat_at aS.view _ _ (runInitDiag_vH a4 a5 a6 x0 x1 x2) 256 1024 _ (by decide) d c
    · unfold runInitDiag.sl.v196
      exact ldRow_at lS.view _ _ (runInitDiag_lH a4 a5 x0 x1) 256 1024 _ (by decide) c
    · unfold runInitDiag.sl.v200
      exact ldMat_at aS.view _ _ (runInitDiag_vH a4 a5 a6 x0 x1 x2) 256 1280 _ (by decide) d c
    · unfold runInitDiag.sl.v201
      exact ldRow_at lS.view _ _ (runInitDiag_lH a4 a5 x0 x1) 256 1280 _ (by decide) c
  · intro d c
    have e : (k0_pay11 (runInitDiag.sl.v209 a4 a5 a6 x0 x1 x2) (runInitDiag.sl.v214 a4 a5 a6 x0 x1 x2) (View.readAt (Elt Ideal) a7.view (Rect.unit (s := S4x256x128) ![3, 0, 0] S1x256x128.size inb_S4x256x128_S1x256x128_3_0_0).toLoadRect (a7.view.rep (Val := Elt Ideal) x3))) (ix2 d c) = outV (runInitDiag.sl.v205 a4 a5 a6 x0 x1 x2) (runInitDiag.sl.v210 a4 a5 a6 x0 x1 x2) (runInitDiag.sl.v206 a4 a5 x0 x1) (runInitDiag.sl.v211 a4 a5 x0 x1) (View.readAt (Elt Ideal) a7.view (Rect.unit (s := S4x256x128) ![3, 0, 0] S1x256x128.size inb_S4x256x128_S1x256x128_3_0_0).toLoadRect (a7.view.rep (Val := Elt Ideal) x3)) d c := by
      exact out_3 _ _ _ _ _ d c
    refine e.trans ?_
    refine outP _ _ _ _ _ (colV x2 (SD x0 x1) (fun _ => ⊥) (fun _ _ => 0)) (colL (SD x0 x1) (fun _ => ⊥) (fun _ => 0)) x3 3 (by decide) (fun d c => ?_) (fun c => ?_) (fun d c => ?_) (fun c => ?_) (ldW_at a7 x3 3 (by decide) _) d c
    · unfold runInitDiag.sl.v205
      exact ldMat_at aS.view _ _ (runInitDiag_vH a4 a5 a6 x0 x1 x2) 256 1536 _ (by decide) d c
    · unfold runInitDiag.sl.v206
      exact ldRow_at lS.view _ _ (runInitDiag_lH a4 a5 x0 x1) 256 1536 _ (by decide) c
    · unfold runInitDiag.sl.v210
      exact ldMat_at aS.view _ _ (runInitDiag_vH a4 a5 a6 x0 x1 x2) 256 1792 _ (by decide) d c
    · unfold runInitDiag.sl.v211
      exact ldRow_at lS.view _ _ (runInitDiag_lH a4 a5 x0 x1) 256 1792 _ (by decide) c

end

end Cert.KernelIdeal.Att

end
-- ==== Proof.KI.Flow.lean ====
module

public import proofs.«01_k».proof.Proof.KI.Launch
public import proofs.«01_k».proof.Proof.KI.VFar
public import proofs.«01_k».proof.Proof.KI.VDiag
public import proofs.«01_k».proof.Proof.KI.VInitFar
public import proofs.«01_k».proof.Proof.KI.VInitDiag
public import Idealize.ShloMosaic.Lib.Pipeline.ValueKit

/-! The running arrays from tile to tile of a query block, and what every output block holds. -/

@[expose] public section
set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

local notation "𝕄" => MT nD τ sig Unit (Elt Ideal) ℕ (UR sig nD τ) ℕ

/-! ## A query block's tiles, one after the other -/

section
variable {w : ℕ} (S : ℕ → Fin 256 → Fin w → EReal) (Vt : ℕ → S128x256.Idx → EReal)

def rM : ℕ → Fin w → EReal
  | 0 => fun _ => ⊥
  | n + 1 => colM (S n) (rM n)
def rL : ℕ → Fin w → EReal
  | 0 => fun _ => 0
  | n + 1 => colL (S n) (rM S n) (rL n)
def rV : ℕ → Fin 128 → Fin w → EReal
  | 0 => fun _ _ => 0
  | n + 1 => colV (Vt n) (S n) (rM S n) (rV n)
end

/-! ## The blocks -/

/-- Query block `q` of batch `b`. -/
def qT (x : S65536x256.Idx → EReal) (b q : ℕ) : S2048x256.Idx → EReal := fun y =>
  x (ix2 (⟨((b * 16 + q) * 2048 + (y 0).val) % 65536, Nat.mod_lt _ (by decide)⟩ : Fin 65536) (⟨(y 1).val, (y 1).isLt⟩ : Fin 256))
/-- Key block `n` of batch `b`. -/
def kT (x : S8192x256.Idx → EReal) (b n : ℕ) : S256x256.Idx → EReal := fun y =>
  x (ix2 (⟨((b * 16 + n) * 256 + (y 0).val) % 8192, Nat.mod_lt _ (by decide)⟩ : Fin 8192) (⟨(y 1).val, (y 1).isLt⟩ : Fin 256))
/-- Value block `n` of batch `b`. -/
def vT (x : S128x8192.Idx → EReal) (b n : ℕ) : S128x256.Idx → EReal := fun y =>
  x (ix2 (⟨(y 0).val, (y 0).isLt⟩ : Fin 128) (⟨((b * 16 + n) * 256 + (y 1).val) % 8192, Nat.mod_lt _ (by decide)⟩ : Fin 8192))

/-- The scores of tile `n` of query block `q`. -/
def sT (x0 : S65536x256.Idx → EReal) (x1 : S8192x256.Idx → EReal) (b q n : ℕ) : Fin 256 → Fin 2048 → EReal :=
  if n < q then SF (qT x0 b q) (kT x1 b n) else SD (qT x0 b q) (kT x1 b n)

variable (V : (c : Dev nD) → (b : Ref sig .tc) → Buf (Elt Ideal) ((c.tc : Thread nD τ).loc b))

theorem idx_0 (t : Fin cfgA.N) : (cfgA.win (0 : Fin 5)).index t = ![bN t.val * 16 + qN t.val, 0] := (at_all t).1
theorem idx_1 (t : Fin cfgA.N) : (cfgA.win (1 : Fin 5)).index t = ![bN t.val * 16 + kN t.val, 0] := (at_all t).2.1
theorem idx_2 (t : Fin cfgA.N) : (cfgA.win (2 : Fin 5)).index t = ![0, bN t.val * 16 + kN t.val] := (at_all t).2.2.1
theorem idx_3 (t : Fin cfgA.N) : (cfgA.win (3 : Fin 5)).index t = ![0, 0, 0] := rfl
theorem idx_4 (t : Fin cfgA.N) : (cfgA.win (4 : Fin 5)).index t = ![bN t.val * 16 + qN t.val, 0] := (at_all t).2.2.2.1

theorem bN_lt (t : Fin cfgA.N) : bN t.val < 2 := Nat.div_lt_of_lt_mul (show t.val < 136 * 2 from t.isLt)
theorem qL_lt : ∀ n : Fin 136, qL.getD n.val 0 < 16 := by decide
theorem kL_lt : ∀ n : Fin 136, kL.getD n.val 0 < 16 := by decide
theorem qN_lt (n : ℕ) : qN n < 16 := qL_lt ⟨n % 136, Nat.mod_lt _ (by decide)⟩
theorem kN_lt (n : ℕ) : kN n < 16 := kL_lt ⟨n % 136, Nat.mod_lt _ (by decide)⟩

theorem blk_0 (c : Dev nD) (t : Fin cfgA.N) : blk V c (0 : Fin 5) t = qT (V c main_arg0) (bN t.val) (qN t.val) := by
  funext y
  have hb := bN_lt t
  have hq := qN_lt t.val
  have hi := idx_0 t
  unfold qT
  blk_ext [blk, hi]

theorem blk_1 (c : Dev nD) (t : Fin cfgA.N) : blk V c (1 : Fin 5) t = kT (V c main_arg1) (bN t.val) (kN t.val) := by
  funext y
  have hb := bN_lt t
  have hq := kN_lt t.val
  have hi := idx_1 t
  unfold kT
  blk_ext [blk, hi]

theorem blk_2 (c : Dev nD) (t : Fin cfgA.N) : blk V c (2 : Fin 5) t = vT (V c main_arg2) (bN t.val) (kN t.val) := by
  funext y
  have hb := bN_lt t
  have hq := kN_lt t.val
  have hi := idx_2 t
  unfold vT
  blk_ext [blk, hi]

theorem blk_3 (c : Dev nD) (t : Fin cfgA.N) : blk V c (3 : Fin 5) t = V c main_v39 := by
  funext y
  have hi := idx_3 t
  blk_ext [blk, hi]

end Cert.KernelIdeal.Att

end
-- ==== Proof.KI.Steps.lean ====
module

public import proofs.«01_k».proof.Proof.KI.Flow

/-! Every grid point advances the running arrays by one tile, and a diagonal point writes its query block's output. -/

@[expose] public section
set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

local notation "𝕄" => MT nD τ sig Unit (Elt Ideal) ℕ (UR sig nD τ) ℕ

variable (V : (c : Dev nD) → (b : Ref sig .tc) → Buf (Elt Ideal) ((c.tc : Thread nD τ).loc b))

/-- Before point `n`, unless it starts a query block: the running arrays after the block's tiles so far. -/
def Inv (c : Dev nD) (n : ℕ) (m l : S1x2048.Idx → Elt Ideal .f32) (s : S128x2048.Idx → Elt Ideal .f32) : Prop :=
  kN n ≠ 0 → (∀ y, m y = rM (sT (V c main_arg0) (V c main_arg1) (bN n) (qN n)) (kN n) (y 1))
    ∧ (∀ y, l y = rL (sT (V c main_arg0) (V c main_arg1) (bN n) (qN n)) (kN n) (y 1))
    ∧ (∀ y, s y = rV (sT (V c main_arg0) (V c main_arg1) (bN n) (qN n)) (vT (V c main_arg2) (bN n)) (kN n) (y 0) (y 1))

/-- What query block `q` of batch `b` leaves in the output. -/
def oT (c : Dev nD) (b q : ℕ) : Fin 256 → Fin 512 → EReal :=
  outB (rV (sT (V c main_arg0) (V c main_arg1) b q) (vT (V c main_arg2) b) (q + 1))
    (rL (sT (V c main_arg0) (V c main_arg1) b q) (q + 1)) (V c main_v39)

def Out (c : Dev nD) (t : Fin cfgA.N) (X : S256x512.Idx → Elt Ideal .bf16) : Prop :=
  kN t.val = qN t.val → ∀ y, X y = oT V c (bN t.val) (qN t.val) (y 0) (y 1)

theorem facts_at (t : Fin cfgA.N) : (IsInit T1 (crd t) ↔ kN t.val = 0) ∧ (IsFar T0 T1 (crd t) ↔ kN t.val < qN t.val)
    ∧ (IsDiag T0 T1 (crd t) ↔ kN t.val = qN t.val) ∧ kN t.val ≤ qN t.val
    ∧ (kN (t.val + 1) ≠ 0 → kN t.val < qN t.val ∧ kN (t.val + 1) = kN t.val + 1 ∧ qN (t.val + 1) = qN t.val ∧ bN (t.val + 1) = bN t.val) := by
  obtain ⟨-, -, -, -, h1, h2, h3, h4, h5, -⟩ := at_all t
  exact ⟨h1, h2, h3, h4, h5⟩

theorem sT_far (x0 : S65536x256.Idx → EReal) (x1 : S8192x256.Idx → EReal) (b : ℕ) {q n : ℕ} (h : n < q) :
    sT x0 x1 b q n = SF (qT x0 b q) (kT x1 b n) := if_pos h
theorem sT_diag (x0 : S65536x256.Idx → EReal) (x1 : S8192x256.Idx → EReal) (b : ℕ) {q n : ℕ} (h : n = q) :
    sT x0 x1 b q n = SD (qT x0 b q) (kT x1 b n) := if_neg (by omega)

theorem inv_step (c : Dev nD) (t : Fin cfgA.N)
    (hn : kN (t.val + 1) ≠ 0 → kN (t.val + 1) = kN t.val + 1 ∧ qN (t.val + 1) = qN t.val ∧ bN (t.val + 1) = bN t.val)
    (m l : S1x2048.Idx → EReal) (s : S128x2048.Idx → EReal)
    (hm : ∀ y, m y = colM (sT (V c main_arg0) (V c main_arg1) (bN t.val) (qN t.val) (kN t.val))
      (rM (sT (V c main_arg0) (V c main_arg1) (bN t.val) (qN t.val)) (kN t.val)) (y 1))
    (hl : ∀ y, l y = colL (sT (V c main_arg0) (V c main_arg1) (bN t.val) (qN t.val) (kN t.val))
      (rM (sT (V c main_arg0) (V c main_arg1) (bN t.val) (qN t.val)) (kN t.val))
      (rL (sT (V c main_arg0) (V c main_arg1) (bN t.val) (qN t.val)) (kN t.val)) (y 1))
    (hs : ∀ y, s y = colV (vT (V c main_arg2) (bN t.val) (kN t.val)) (sT (V c main_arg0) (V c main_arg1) (bN t.val) (qN t.val) (kN t.val))
      (rM (sT (V c main_arg0) (V c main_arg1) (bN t.val) (qN t.val)) (kN t.val))
      (rV (sT (V c main_arg0) (V c main_arg1) (bN t.val) (qN t.val)) (vT (V c main_arg2) (bN t.val)) (kN t.val)) (y 0) (y 1)) :
    Inv V c (t.val + 1) m l s := by
  intro h
  obtain ⟨e1, e2, e3⟩ := hn h
  rw [e1, e2, e3]
  exact ⟨hm, hl, hs⟩

set_option maxHeartbeats 4000000 in
theorem steps (c : Dev nD) : Steps V (Inv V c) (Out V c) c where
  initFar := fun t hi hf hd => by
    obtain ⟨eI, eF, eD, hle, hn⟩ := facts_at t
    have hk : kN t.val = 0 := eI.mp hi
    have hq : kN t.val < qN t.val := eF.mp hf
    have hT := sT_far (V c main_arg0) (V c main_arg1) (bN t.val) hq
    have hS : SF (blk V c 0 t) (blk V c 1 t) = sT (V c main_arg0) (V c main_arg1) (bN t.val) (qN t.val) (kN t.val) := by
      rw [blk_0, blk_1]; exact hT.symm
    have eM : (fun _ : Fin 2048 => (⊥ : EReal)) = (rM (sT (V c main_arg0) (V c main_arg1) (bN t.val) (qN t.val)) (kN t.val)) := by rw [hk]; rfl
    have eL : (fun _ : Fin 2048 => (0 : EReal)) = (rL (sT (V c main_arg0) (V c main_arg1) (bN t.val) (qN t.val)) (kN t.val)) := by rw [hk]; rfl
    have eA : (fun (_ : Fin 128) (_ : Fin 2048) => (0 : EReal)) = (rV (sT (V c main_arg0) (V c main_arg1) (bN t.val) (qN t.val)) (vT (V c main_arg2) (bN t.val)) (kN t.val)) := by rw [hk]; rfl
    exact inv_step V c t (hn · |>.2) _ _ _
      (fun y => (runInitFar_m c (crd t) (ms0 t) (hs0 t) (ms1 t) (hs1 t) (ms2 t) (hs2 t) (ms3 t) (hs3 t) (ms4 t) (hs4 t) T0 T1 (blk V c 0 t) (blk V c 1 t) (blk V c 2 t) (blk V c 3 t) hi hf hd y).trans (by rw [hS, eM]))
      (fun y => (runInitFar_l c (crd t) (ms0 t) (hs0 t) (ms1 t) (hs1 t) (ms2 t) (hs2 t) (ms3 t) (hs3 t) (ms4 t) (hs4 t) T0 T1 (blk V c 0 t) (blk V c 1 t) (blk V c 2 t) (blk V c 3 t) hi hf hd y).trans (by rw [hS, eM, eL]))
      (fun y => (runInitFar_v c (crd t) (ms0 t) (hs0 t) (ms1 t) (hs1 t) (ms2 t) (hs2 t) (ms3 t) (hs3 t) (ms4 t) (hs4 t) T0 T1 (blk V c 0 t) (blk V c 1 t) (blk V c 2 t) (blk V c 3 t) hi hf hd y).trans (by rw [hS, eM, eA, blk_2]))
  initDiag := fun t hi hf hd => by
    obtain ⟨eI, eF, eD, hle, hn⟩ := facts_at t
    have hk : kN t.val = 0 := eI.mp hi
    have hq : kN t.val = qN t.val := eD.mp hd
    have hT := sT_diag (V c main_arg0) (V c main_arg1) (bN t.val) hq
    have hS : SD (blk V c 0 t) (blk V c 1 t) = sT (V c main_arg0) (V c main_arg1) (bN t.val) (qN t.val) (kN t.val) := by
      rw [blk_0, blk_1]; exact hT.symm
    have eM : (fun _ : Fin 2048 => (⊥ : EReal)) = (rM (sT (V c main_arg0) (V c main_arg1) (bN t.val) (qN t.val)) (kN t.val)) := by rw [hk]; rfl
    have eL : (fun _ : Fin 2048 => (0 : EReal)) = (rL (sT (V c main_arg0) (V c main_arg1) (bN t.val) (qN t.val)) (kN t.val)) := by rw [hk]; rfl
    have eA : (fun (_ : Fin 128) (_ : Fin 2048) => (0 : EReal)) = (rV (sT (V c main_arg0) (V c main_arg1) (bN t.val) (qN t.val)) (vT (V c main_arg2) (bN t.val)) (kN t.val)) := by rw [hk]; rfl
    refine ⟨fun h => absurd hq (Nat.ne_of_lt (hn h).1), fun _ y => (runInitDiag_o c (crd t) (ms0 t) (hs0 t) (ms1 t) (hs1 t) (ms2 t) (hs2 t) (ms3 t) (hs3 t) (ms4 t) (hs4 t) T0 T1 (blk V c 0 t) (blk V c 1 t) (blk V c 2 t) (blk V c 3 t) hi hf hd y).trans ?_⟩
    rw [hS, eM, eA, eL, blk_2, blk_3]; unfold oT; rw [← hq]
    rfl
  far := fun t m0 l0 s0 hI hi hf hd => by
    obtain ⟨eI, eF, eD, hle, hn⟩ := facts_at t
    have hk : kN t.val ≠ 0 := fun h => hi (eI.mpr h)
    obtain ⟨hm, hl, hs⟩ := hI hk
    have hq : kN t.val < qN t.val := eF.mp hf
    have hT := sT_far (V c main_arg0) (V c main_arg1) (bN t.val) hq
    have hS : SF (blk V c 0 t) (blk V c 1 t) = sT (V c main_arg0) (V c main_arg1) (bN t.val) (qN t.val) (kN t.val) := by
      rw [blk_0, blk_1]; exact hT.symm
    have eM : (fun c => m0 (ix2 0 c)) = (rM (sT (V c main_arg0) (V c main_arg1) (bN t.val) (qN t.val)) (kN t.val)) := funext fun c => hm (ix2 0 c)
    have eL : (fun c => l0 (ix2 0 c)) = (rL (sT (V c main_arg0) (V c main_arg1) (bN t.val) (qN t.val)) (kN t.val)) := funext fun c => hl (ix2 0 c)
    have eA : (fun d c => s0 (ix2 d c)) = (rV (sT (V c main_arg0) (V c main_arg1) (bN t.val) (qN t.val)) (vT (V c main_arg2) (bN t.val)) (kN t.val)) := funext fun d => funext fun c => hs (ix2 d c)
    exact inv_step V c t (hn · |>.2) _ _ _
      (fun y => (runFar_m c (crd t) (ms0 t) (hs0 t) (ms1 t) (hs1 t) (ms2 t) (hs2 t) (ms3 t) (hs3 t) (ms4 t) (hs4 t) T0 T1 (blk V c 0 t) (blk V c 1 t) (blk V c 2 t) (blk V c 3 t) m0 l0 s0 hi hf hd y).trans (by rw [hS, eM]))
      (fun y => (runFar_l c (crd t) (ms0 t) (hs0 t) (ms1 t) (hs1 t) (ms2 t) (hs2 t) (ms3 t) (hs3 t) (ms4 t) (hs4 t) T0 T1 (blk V c 0 t) (blk V c 1 t) (blk V c 2 t) (blk V c 3 t) m0 l0 s0 hi hf hd y).trans (by rw [hS, eM, eL]))
      (fun y => (runFar_v c (crd t) (ms0 t) (hs0 t) (ms1 t) (hs1 t) (ms2 t) (hs2 t) (ms3 t) (hs3 t) (ms4 t) (hs4 t) T0 T1 (blk V c 0 t) (blk V c 1 t) (blk V c 2 t) (blk V c 3 t) m0 l0 s0 hi hf hd y).trans (by rw [hS, eM, eA, blk_2]))
  diag := fun t m0 l0 s0 hI hi hf hd => by
    obtain ⟨eI, eF, eD, hle, hn⟩ := facts_at t
    have hk : kN t.val ≠ 0 := fun h => hi (eI.mpr h)
    obtain ⟨hm, hl, hs⟩ := hI hk
    have hq : kN t.val = qN t.val := eD.mp hd
    have hT := sT_diag (V c main_arg0) (V c main_arg1) (bN t.val) hq
    have hS : SD (blk V c 0 t) (blk V c 1 t) = sT (V c main_arg0) (V c main_arg1) (bN t.val) (qN t.val) (kN t.val) := by
      rw [blk_0, blk_1]; exact hT.symm
    have eM : (fun c => m0 (ix2 0 c)) = (rM (sT (V c main_arg0) (V c main_arg1) (bN t.val) (qN t.val)) (kN t.val)) := funext fun c => hm (ix2 0 c)
    have eL : (fun c => l0 (ix2 0 c)) = (rL (sT (V c main_arg0) (V c main_arg1) (bN t.val) (qN t.val)) (kN t.val)) := funext fun c => hl (ix2 0 c)
    have eA : (fun d c => s0 (ix2 d c)) = (rV (sT (V c main_arg0) (V c main_arg1) (bN t.val) (qN t.val)) (vT (V c main_arg2) (bN t.val)) (kN t.val)) := funext fun d => funext fun c => hs (ix2 d c)
    refine ⟨fun h => absurd hq (Nat.ne_of_lt (hn h).1), fun _ y => (runDiag_o c (crd t) (ms0 t) (hs0 t) (ms1 t) (hs1 t) (ms2 t) (hs2 t) (ms3 t) (hs3 t) (ms4 t) (hs4 t) T0 T1 (blk V c 0 t) (blk V c 1 t) (blk V c 2 t) (blk V c 3 t) m0 l0 s0 hi hf hd y).trans ?_⟩
    rw [hS, eM, eA, eL, blk_2, blk_3]; unfold oT; rw [← hq]
    rfl
  out := fun t h X e => absurd e (Nat.ne_of_lt h)
  zero := fun m l s h => absurd (by decide) h

end Cert.KernelIdeal.Att

end
-- ==== Proof.KI.Value.lean ====
module

public import proofs.«01_k».proof.Proof.KI.Steps

/-! The output array of the idealized program after its run. -/

@[expose] public section
set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

local notation "𝕄" => MT nD τ sig Unit (Elt Ideal) ℕ (UR sig nD τ) ℕ

variable (m : (ℓ : Loc nD τ sig) → Buf (Elt Ideal) ℓ)

/-- The output array: each block what its query block leaves. -/
def outG (c : Dev nD) : Buf (Elt Ideal) ((c.tc : Thread nD τ).loc main_v40) := fun j : S8192x512.Idx =>
  oT (V m) c ((j 0).val / 4096) ((j 0).val % 4096 / 256) (⟨(j 0).val % 256, Nat.mod_lt _ (by decide)⟩ : Fin 256) (⟨(j 1).val, (j 1).isLt⟩ : Fin 512)

theorem oT_congr (V : (c : Dev nD) → (b : Ref sig .tc) → Buf (Elt Ideal) ((c.tc : Thread nD τ).loc b)) (c : Dev nD) {b b' q q' : ℕ}
    {r r' : Fin 256} {n n' : Fin 512} (hb : b = b') (hq : q = q') (hr : r.val = r'.val) (hn : n.val = n'.val) :
    oT V c b q r n = oT V c b' q' r' n' := by
  subst hb hq
  obtain rfl := Fin.ext hr
  obtain rfl := Fin.ext hn
  rfl

theorem out_val (r : PUnit × MemSt nD τ sig (Elt Ideal)) (c : Dev nD)
    (h : Pipeline.RDat.FramePost cfgA (rdat (V m) (Inv (V m) c) (Out (V m) c)) (V m) r) :
    r.2.mem ((c.tc : Thread nD τ).loc main_v40) = outG m c := by
  obtain ⟨after, hL, hA⟩ := h.exists_exact c
  refine (hA (4 : Fin 5)).trans ?_
  refine Pipeline.Dat.arrAt_eq_of_emb (cfg := cfgA) (c := c) ((rdat (V m) (Inv (V m) c) (Out (V m) c) c).withAfter after) (4 : Fin 5) (outG m c) ?_ ?_
  · intro t hf y
    have hX : Out (V m) c t (after (4 : Fin 5) t) := (dat (V m) (Inv (V m) c) c).toRRel_leaves (w := (4 : Fin 5)) rfl (hL (4 : Fin 5) t hf)
    have hq : kN t.val = qN t.val := (at_all t).2.2.2.2.2.2.2.2.2 hf
    have hb := bN_lt t
    have hq16 := qN_lt t.val
    have hi := idx_4 t
    blk_simp
    refine (hX hq y).trans ?_
    unfold outG
    have h0 : (y 0).val < 256 := (y 0).isLt
    have h1 : (y 1).val < 512 := (y 1).isLt
    have e0 : (((cfgA.win (4 : Fin 5)).blk t).view.emb y 0).val = (bN t.val * 16 + qN t.val) * 256 + (y 0).val := by blk_simp [hi]
    have e1 : (((cfgA.win (4 : Fin 5)).blk t).view.emb y 1).val = (y 1).val := by blk_simp [hi]
    refine oT_congr _ c ?_ ?_ ?_ ?_
    · rw [e0]; omega
    · rw [e0]; omega
    · show (y 0).val = _ % 256
      rw [e0]; omega
    · exact e1.symm
  · intro i
    have h0 : (i 0).val < 8192 := (i 0).isLt
    have h1 : (i 1).val < 512 := (i 1).isLt
    obtain ⟨t, hf, hb, hq⟩ := flush_at ⟨(i 0).val / 4096, by omega⟩ ⟨(i 0).val % 4096 / 256, by omega⟩
    refine ⟨t, hf, ?_⟩
    have hi := idx_4 t
    rw [hb, hq] at hi
    mem_blk [hi]
    dsimp only
    omega

theorem steps_all (c c' : Dev nD) : Steps (V m) (Inv (V m) c) (Out (V m) c) c' := by
  obtain rfl : c = c' := Subsingleton.elim c c'
  exact steps (V m) c

/-- The idealized program's run: the output array, the arguments as they began, every counter at zero. -/
theorem run (g : Dev nD → PrngReg) :
    θ_run (defs (F := Ideal)) (onTc (τ := τ) (main (F := Ideal))) ⟨m, fun _ => 0, g⟩ (fun r => (∀ c : Dev nD,
      r.2.mem ((c.tc : Thread nD τ).loc main_v40) = outG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  launch m g (steps_all m (default : Dev nD)) _ fun r h => ⟨fun c => ⟨by
    obtain rfl : c = default := Subsingleton.elim c _
    exact out_val m r _ h.1, args_kept m r h.1 c⟩, h.2⟩

end Cert.KernelIdeal.Att

end
-- ==== Proof.KI.Soft.lean ====
module

public import Idealize.ShloMosaic.PureOps.Ideal
public import Mathlib.Analysis.SpecialFunctions.Pow.Real
public import Mathlib.Data.EReal.Inv
public import Mathlib.Algebra.BigOperators.Fin

/-! Softmax with a running maximum, over the extended reals: the recurrence over tiles of keys leaves the plain softmax sums. -/

@[expose] public section

set_option Elab.async false

noncomputable section

namespace Cert.Soft

open Idealize.ShloMosaic
open scoped BigOperators

/-! ## Exponentials -/

theorem exp2_nonneg (x : EReal) : 0 ≤ Ideal.exp2 x := by
  induction x with
  | bot => exact le_refl _
  | top => exact le_top
  | coe r => exact EReal.coe_nonneg.2 (Real.rpow_nonneg (by norm_num) _)

theorem exp2_ne_top {x : EReal} (h : x ≠ ⊤) : Ideal.exp2 x ≠ ⊤ := by
  induction x with
  | bot => exact EReal.zero_ne_top
  | top => exact absurd rfl h
  | coe r => exact EReal.coe_ne_top _

theorem sub_ne_top {s m : EReal} (h : s ≤ m) : s - m ≠ ⊤ := by
  induction m with
  | bot => obtain rfl := le_bot_iff.1 h; simp
  | top => rw [EReal.sub_top]; exact bot_ne_top
  | coe r =>
    induction s with
    | bot => simp
    | top => exact absurd h (by simp)
    | coe t => rw [← EReal.coe_sub]; exact EReal.coe_ne_top _

theorem exp2_bot : Ideal.exp2 ⊥ = 0 := rfl
theorem exp_bot : Ideal.exp ⊥ = 0 := rfl
theorem exp_coe (r : ℝ) : Ideal.exp (r : EReal) = (Real.exp r : EReal) := rfl
theorem exp2_coe (r : ℝ) : Ideal.exp2 (r : EReal) = (Real.rpow 2 r : EReal) := rfl

/-- Raising the maximum rescales a weight. -/
theorem exp2_step {s m m' : EReal} (h1 : s ≤ m) (h2 : m ≤ m') :
    Ideal.exp2 (m - m') * Ideal.exp2 (s - m) = Ideal.exp2 (s - m') := by
  induction m' with
  | top => rw [EReal.sub_top, EReal.sub_top, exp2_bot, zero_mul]
  | bot =>
    obtain rfl := le_bot_iff.1 h2; obtain rfl := le_bot_iff.1 h1
    simp [exp2_bot]
  | coe c =>
    induction m with
    | top => exact absurd h2 (by simp)
    | bot =>
      obtain rfl := le_bot_iff.1 h1
      simp [exp2_bot]
    | coe b =>
      induction s with
      | top => exact absurd h1 (by simp)
      | bot => simp [exp2_bot]
      | coe a =>
        rw [← EReal.coe_sub, ← EReal.coe_sub, ← EReal.coe_sub, exp2_coe, exp2_coe, exp2_coe, ← EReal.coe_mul]
        congr 1
        have := Real.rpow_add (show (0 : ℝ) < 2 by norm_num) (b - c) (a - b)
        rw [show b - c + (a - b) = a - c by ring] at this
        exact this.symm

theorem mul_sum_nonneg {ι : Type} (S : Finset ι) (f : ι → EReal) {a : EReal} (h0 : 0 ≤ a) (ht : a ≠ ⊤) :
    a * ∑ i ∈ S, f i = ∑ i ∈ S, a * f i := by
  classical
  induction S using Finset.induction_on with
  | empty => simp
  | insert i S hi ih => rw [Finset.sum_insert hi, Finset.sum_insert hi, EReal.left_distrib_of_nonneg_of_ne_top h0 ht, ih]

/-! ## The recurrence of one column -/

section
variable (s : ℕ → Fin 256 → EReal) (v : ℕ → Fin 256 → EReal)

/-- The running maximum. -/
def cM : ℕ → EReal
  | 0 => ⊥
  | n + 1 => max (cM n) (Finset.univ.fold max ⊥ fun k => s n k)
/-- The running sum of weights. -/
def cL : ℕ → EReal
  | 0 => 0
  | n + 1 => Ideal.exp2 (cM s n - cM s (n + 1)) * cL n + ∑ k, Ideal.exp2 (s n k - cM s (n + 1))
/-- The running sum of weighted values. -/
def cV : ℕ → EReal
  | 0 => 0
  | n + 1 => cV n * Ideal.exp2 (cM s n - cM s (n + 1)) + ∑ k, v n k * Ideal.exp2 (s n k - cM s (n + 1))

theorem cM_mono (n : ℕ) : cM s n ≤ cM s (n + 1) := le_max_left _ _

theorem fold_max_le {ι : Type} (T : Finset ι) (f : ι → EReal) (x : EReal) :
    T.fold max ⊥ f ≤ x ↔ ∀ i ∈ T, f i ≤ x := by
  rw [Finset.fold_max_le]; simp

theorem le_cM (n : ℕ) : ∀ j < n, ∀ k, s j k ≤ cM s n := by
  induction n with
  | zero => intro j hj; omega
  | succ n ih =>
    intro j hj k
    rcases Nat.lt_succ_iff_lt_or_eq.1 hj with h | rfl
    · exact (ih j h k).trans (cM_mono s n)
    · exact ((fold_max_le _ _ _).1 (le_refl _) k (Finset.mem_univ k)).trans (le_max_right _ _)

theorem cM_le (n : ℕ) (x : EReal) (h : ∀ j < n, ∀ k, s j k ≤ x) : cM s n ≤ x := by
  induction n with
  | zero => exact bot_le
  | succ n ih =>
    exact max_le (ih fun j hj => h j (by omega)) ((fold_max_le _ _ _).2 fun k _ => h n (by omega) k)

theorem cL_eq (n : ℕ) : cL s n = ∑ j ∈ Finset.range n, ∑ k, Ideal.exp2 (s j k - cM s n) := by
  induction n with
  | zero => simp [cL]
  | succ n ih =>
    rw [Finset.sum_range_succ]
    show Ideal.exp2 (cM s n - cM s (n + 1)) * cL s n + _ = _
    rw [ih, mul_sum_nonneg _ _ (exp2_nonneg _) (exp2_ne_top (sub_ne_top (cM_mono s n)))]
    congr 1
    refine Finset.sum_congr rfl fun j hj => ?_
    rw [mul_sum_nonneg _ _ (exp2_nonneg _) (exp2_ne_top (sub_ne_top (cM_mono s n)))]
    exact Finset.sum_congr rfl fun k _ => exp2_step (le_cM s n j (Finset.mem_range.1 hj) k) (cM_mono s n)

theorem cV_eq (n : ℕ) : cV s v n = ∑ j ∈ Finset.range n, ∑ k, v j k * Ideal.exp2 (s j k - cM s n) := by
  induction n with
  | zero => simp [cV]
  | succ n ih =>
    rw [Finset.sum_range_succ]
    show cV s v n * Ideal.exp2 (cM s n - cM s (n + 1)) + _ = _
    rw [ih, mul_comm, mul_sum_nonneg _ _ (exp2_nonneg _) (exp2_ne_top (sub_ne_top (cM_mono s n)))]
    congr 1
    refine Finset.sum_congr rfl fun j hj => ?_
    rw [mul_sum_nonneg _ _ (exp2_nonneg _) (exp2_ne_top (sub_ne_top (cM_mono s n)))]
    refine Finset.sum_congr rfl fun k _ => ?_
    rw [mul_left_comm, exp2_step (le_cM s n j (Finset.mem_range.1 hj) k) (cM_mono s n)]
end

/-! ## Against the plain softmax -/

theorem exp2_log (a b : ℝ) :
    Ideal.exp2 ((a : EReal) * ((Real.log 2)⁻¹ : ℝ) - (b : EReal) * ((Real.log 2)⁻¹ : ℝ)) = Ideal.exp ((a : EReal) - (b : EReal)) := by
  rw [← EReal.coe_mul, ← EReal.coe_mul, ← EReal.coe_sub, ← EReal.coe_sub, exp_coe, exp2_coe]
  congr 1
  have h2 : Real.log 2 ≠ 0 := (Real.log_pos (by norm_num)).ne'
  have : Real.rpow 2 (a * (Real.log 2)⁻¹ - b * (Real.log 2)⁻¹) = Real.exp (Real.log 2 * (a * (Real.log 2)⁻¹ - b * (Real.log 2)⁻¹)) :=
    Real.rpow_def_of_pos (by norm_num) _
  rw [this]
  congr 1
  field_simp

theorem log_inv_pos : (0 : ℝ) < (Real.log 2)⁻¹ := inv_pos.2 (Real.log_pos (by norm_num))

/-- What the two forms share: `t` the scores of the 4096 keys, of which the first 256·n may be seen. -/
structure Scores (t : Fin 4096 → EReal) (s : ℕ → Fin 256 → EReal) (n : ℕ) : Prop where
  pos : 0 < n
  le : n ≤ 16
  top : ∀ k, t k ≠ ⊤
  first : t 0 ≠ ⊥
  seen : ∀ j, (hj : j < n) → ∀ k : Fin 256, s j k = t ⟨j * 256 + k.val, by omega⟩ * ((Real.log 2)⁻¹ : ℝ)
  hidden : ∀ k : Fin 4096, n * 256 ≤ k.val → t k = ⊥

section
variable {t : Fin 4096 → EReal} {s : ℕ → Fin 256 → EReal} {n : ℕ} (h : Scores t s n)
include h

theorem max_real : ∃ M : ℝ, Finset.univ.fold max ⊥ t = M := by
  have hb : Finset.univ.fold max ⊥ t ≠ ⊥ := fun e =>
    h.first (le_bot_iff.1 (e ▸ (fold_max_le Finset.univ t _).1 (le_refl _) 0 (Finset.mem_univ _)))
  have ht : Finset.univ.fold max ⊥ t ≠ ⊤ := by
    have : Finset.univ.fold max ⊥ t < ⊤ := by
      rw [Finset.fold_max_lt]
      exact ⟨bot_lt_top, fun k _ => lt_top_iff_ne_top.2 (h.top k)⟩
    exact this.ne
  exact ⟨_, (EReal.coe_toReal ht hb).symm⟩

theorem cM_scale {M : ℝ} (hM : Finset.univ.fold max ⊥ t = M) : cM s n = (M : EReal) * ((Real.log 2)⁻¹ : ℝ) := by
  have hr : (0 : EReal) < ((Real.log 2)⁻¹ : ℝ) := EReal.coe_pos.2 log_inv_pos
  apply le_antisymm
  · refine cM_le s n _ fun j hj k => ?_
    rw [h.seen j hj k]
    refine mul_le_mul_of_nonneg_right ?_ hr.le
    rw [← hM]
    exact (fold_max_le Finset.univ t _).1 (le_refl _) _ (Finset.mem_univ _)
  · have key : ∀ k, t k * ((Real.log 2)⁻¹ : ℝ) ≤ cM s n := by
      intro k
      by_cases hk : n * 256 ≤ k.val
      · rw [h.hidden k hk, EReal.bot_mul_coe_of_pos log_inv_pos]; exact bot_le
      · have hj : k.val / 256 < n := by omega
        have := le_cM s n (k.val / 256) hj ⟨k.val % 256, Nat.mod_lt _ (by decide)⟩
        rw [h.seen _ hj] at this
        have e : (⟨k.val / 256 * 256 + k.val % 256, by omega⟩ : Fin 4096) = k := Fin.ext (by simp; omega)
        simp only [e] at this
        exact this
    have hL : ((Real.log 2 : ℝ) : EReal) * ((Real.log 2)⁻¹ : ℝ) = 1 := by
      rw [← EReal.coe_mul, mul_inv_cancel₀ (Real.log_pos (by norm_num)).ne']; rfl
    have hl : (0 : EReal) ≤ (Real.log 2 : ℝ) := EReal.coe_nonneg.2 (Real.log_pos (by norm_num)).le
    have : (M : EReal) ≤ cM s n * (Real.log 2 : ℝ) := by
      rw [← hM, fold_max_le]
      intro k _
      have := mul_le_mul_of_nonneg_right (key k) hl
      rwa [mul_assoc, mul_comm (((Real.log 2)⁻¹ : ℝ) : EReal), hL, mul_one] at this
    have := mul_le_mul_of_nonneg_right this hr.le
    rwa [mul_assoc, hL, mul_one] at this

theorem weight {M : ℝ} (hM : Finset.univ.fold max ⊥ t = M) (j : ℕ) (hj : j < n) (k : Fin 256) :
    Ideal.exp2 (s j k - cM s n) = Ideal.exp (t ⟨j * 256 + k.val, by have := h.le; omega⟩ - M) := by
  rw [cM_scale h hM, h.seen j hj k]
  generalize ht : t ⟨j * 256 + k.val, by have := h.le; omega⟩ = x
  induction x with
  | top => exact absurd ht (h.top _)
  | bot =>
    rw [EReal.bot_mul_coe_of_pos log_inv_pos, EReal.bot_sub, EReal.bot_sub, exp2_bot, exp_bot]
  | coe a => exact exp2_log a M

omit h in
/-- A sum over the keys, tile by tile. -/
theorem sum_tiles (hn : n ≤ 16) (f : Fin 4096 → EReal) (hz : ∀ k : Fin 4096, n * 256 ≤ k.val → f k = 0)
    (g : ℕ → Fin 256 → EReal) (hg : ∀ j, (hj : j < n) → ∀ k : Fin 256, g j k = f ⟨j * 256 + k.val, by omega⟩) :
    ∑ k, f k = ∑ j ∈ Finset.range n, ∑ k, g j k := by
  have e1 : ∑ k, f k = ∑ p : Fin 16 × Fin 256, f (finProdFinEquiv p) := (Equiv.sum_comp (finProdFinEquiv (m := 16) (n := 256)) f).symm
  rw [e1, Fintype.sum_prod_type]
  have e2 : ∀ j : Fin 16, ∑ k : Fin 256, f (finProdFinEquiv (j, k)) = if j.val < n then ∑ k, g j.val k else 0 := by
    intro j
    split
    · rename_i hj
      refine Finset.sum_congr rfl fun k _ => ?_
      rw [hg _ hj k]
      congr 1
      exact Fin.ext (by simp [finProdFinEquiv]; omega)
    · rename_i hj
      refine Finset.sum_eq_zero fun k _ => hz _ ?_
      simp [finProdFinEquiv]; omega
  rw [Finset.sum_congr rfl fun j _ => e2 j, Fin.sum_univ_eq_sum_range (fun j => if j < n then ∑ k, g j k else 0) 16,
    ← Finset.sum_filter]
  refine Finset.sum_congr ?_ fun _ _ => rfl
  ext j; simp; omega

theorem cL_soft {M : ℝ} (hM : Finset.univ.fold max ⊥ t = M) : cL s n = ∑ k, Ideal.exp (t k - M) := by
  rw [cL_eq, sum_tiles h.le (fun k => Ideal.exp (t k - M)) (fun k hk => ?_) _ fun j hj k => weight h hM j hj k]
  simp [h.hidden k hk, exp_bot]

theorem cV_soft {M : ℝ} (hM : Finset.univ.fold max ⊥ t = M) (v : Fin 4096 → EReal) (w : ℕ → Fin 256 → EReal)
    (hw : ∀ j, (hj : j < n) → ∀ k : Fin 256, w j k = v ⟨j * 256 + k.val, by have := h.le; omega⟩) :
    cV s w n = ∑ k, v k * Ideal.exp (t k - M) := by
  rw [cV_eq, sum_tiles h.le (fun k => v k * Ideal.exp (t k - M)) (fun k hk => ?_) _ fun j hj k => ?_]
  · simp [h.hidden k hk, exp_bot]
  · rw [weight h hM j hj k, hw j hj k]

theorem sum_pos {M : ℝ} (hM : Finset.univ.fold max ⊥ t = M) : ∃ L : ℝ, 0 < L ∧ ∑ k, Ideal.exp (t k - M) = (L : EReal) := by
  have hr : ∀ k, ∃ r : ℝ, 0 ≤ r ∧ Ideal.exp (t k - M) = (r : EReal) ∧ (t k ≠ ⊥ → 0 < r) := by
    intro k
    generalize ht : t k = x
    induction x with
    | top => exact absurd ht (h.top _)
    | bot => exact ⟨0, le_refl _, by simp [exp_bot], fun e => absurd rfl e⟩
    | coe a => exact ⟨Real.exp (a - M), (Real.exp_pos _).le, by rw [← EReal.coe_sub, exp_coe], fun _ => Real.exp_pos _⟩
  choose r h0 he hp using hr
  refine ⟨∑ k, r k, ?_, ?_⟩
  · exact Finset.sum_pos' (fun k _ => h0 k) ⟨0, Finset.mem_univ _, hp 0 h.first⟩
  · rw [Finset.sum_congr rfl fun k _ => he k]
    exact (map_sum (⟨⟨((↑) : ℝ → EReal), rfl⟩, EReal.coe_add⟩ : ℝ →+ EReal) _ _).symm

/-- The quotient the tiled recurrence forms is the plain softmax average of the values. -/
theorem soft (v : Fin 4096 → EReal) (w : ℕ → Fin 256 → EReal)
    (hw : ∀ j, (hj : j < n) → ∀ k : Fin 256, w j k = v ⟨j * 256 + k.val, by have := h.le; omega⟩) :
    Ideal.div (cV s w n) (cL s n)
      = ∑ k, v k * Ideal.div (Ideal.exp (t k - Finset.univ.fold max ⊥ t)) (∑ i, Ideal.exp (t i - Finset.univ.fold max ⊥ t)) := by
  obtain ⟨M, hM⟩ := max_real h
  rw [cV_soft h hM v w hw, cL_soft h hM, hM]
  obtain ⟨L, hL, eL⟩ := sum_pos h hM
  rw [eL]
  have h0 : (L : EReal) ≠ 0 := by exact_mod_cast hL.ne'
  have hi : ((L : EReal))⁻¹ = ((L⁻¹ : ℝ) : EReal) := (EReal.coe_inv L).symm
  simp only [Ideal.div, if_neg h0, hi]
  rw [mul_comm, mul_sum_nonneg _ _ (EReal.coe_nonneg.2 (inv_pos.2 hL).le) (EReal.coe_ne_top _)]
  exact Finset.sum_congr rfl fun k _ => by rw [mul_comm, mul_assoc]
end

end Cert.Soft

end
-- ==== Proof.KI.Weights.lean ====
module

public import proofs.«01_k».proof.Proof.KI.Launch
public import Idealize.ShloMosaic.Lib.StableHlo.ReadAt
public import Idealize.ShloMosaic.Lib.Pointwise

/-! The block-diagonal value weights that the host lays out for the call, read at an entry. -/

@[expose] public section

set_option maxRecDepth 16384
set_option Elab.async false

noncomputable section

namespace Cert.KernelIdeal.Att

open Cert.KernelIdeal Cert.KernelIdeal.Gen
open Idealize.ShloMosaic Idealize.ShloMosaic.StableHlo
open Idealize.ShloMosaic.TcCoe Idealize.ShloMosaic.Tactic
open Idealize.SL.Sem
open scoped BigOperators

variable (m : (ℓ : Loc nD τ sig) → Buf (Elt Ideal) ℓ) (c : Dev nD)

/-- The value weights of head pair `g` on the diagonal of a 256 × 128 block: the even head's on top at the left, the odd head's below at
the right. -/
def wB (x3 : S128x1024.Idx → EReal) (g : Fin 4) (e : Fin 256) (n : Fin 128) : EReal :=
  if e.val < 128 then
    if n.val < 64 then x3 (ix2 (⟨e.val % 128, Nat.mod_lt _ (by decide)⟩ : Fin 128) (⟨(g.val * 256 + 64 + n.val) % 1024, Nat.mod_lt _ (by decide)⟩ : Fin 1024)) else 0
  else
    if n.val < 64 then 0 else x3 (ix2 (⟨e.val % 128, Nat.mod_lt _ (by decide)⟩ : Fin 128) (⟨(g.val * 256 + 128 + n.val) % 1024, Nat.mod_lt _ (by decide)⟩ : Fin 1024))

section
variable (x3 : S128x1024.Idx → EReal) (g : Fin 4) (e : Fin 256) (n : Fin 128)

theorem wB_top (he : e.val < 128) (hn : n.val < 64) (a : Fin 128) (b : Fin 1024) (ha : a.val = e.val) (hb : b.val = g.val * 256 + 64 + n.val) :
    x3 (ix2 a b) = wB x3 g e n := by
  have hg : g.val < 4 := g.isLt
  unfold wB
  rw [if_pos he, if_pos hn]
  exact congrArg₂ (fun a b => x3 (ix2 a b)) (Fin.ext (by rw [ha]; show _ = e.val % 128; omega)) (Fin.ext (by rw [hb]; show _ = (g.val * 256 + 64 + n.val) % 1024; omega))

theorem wB_low (he : ¬ e.val < 128) (hn : ¬ n.val < 64) (a : Fin 128) (b : Fin 1024) (ha : a.val = e.val - 128) (hb : b.val = g.val * 256 + 128 + n.val) :
    x3 (ix2 a b) = wB x3 g e n := by
  have hg : g.val < 4 := g.isLt
  have he' : e.val < 256 := e.isLt
  unfold wB
  rw [if_neg he, if_neg hn]
  exact congrArg₂ (fun a b => x3 (ix2 a b)) (Fin.ext (by rw [ha]; show _ = e.val % 128; omega)) (Fin.ext (by rw [hb]; show _ = (g.val * 256 + 128 + n.val) % 1024; omega))

theorem wB_right (he : e.val < 128) (hn : ¬ n.val < 64) : 0 = wB x3 g e n := by unfold wB; rw [if_pos he, if_neg hn]
theorem wB_left (he : ¬ e.val < 128) (hn : n.val < 64) : 0 = wB x3 g e n := by unfold wB; rw [if_neg he, if_pos hn]
end

theorem w_at (g : Fin 4) (e : Fin 256) (n : Fin 128) :
    V m c main_v39 (ix3 g e n) = wB (m ((c.tc : Thread nD τ).loc main_arg3)) g e n := by
  after_reads_at
  have hg : g.val < 4 := g.isLt
  have he : e.val < 256 := e.isLt
  have hn : n.val < 128 := n.isLt
  split
  · rename_i h0
    after_reads_at
    split
    · rename_i h1
      after_reads_at
      split
      · exact wB_top (m ((c.tc : Thread nD τ).loc main_arg3)) g e n h1 (by assumption) _ _ (by first | rfl | (dsimp only; omega)) (by dsimp only; omega)
      · exact wB_right _ g e n h1 (by assumption)
    · rename_i h1
      after_reads_at
      split
      · exact wB_left _ g e n h1 (by assumption)
      · exact wB_low (m ((c.tc : Thread nD τ).loc main_arg3)) g e n h1 (by assumption) _ _ (by first | rfl | (dsimp only; omega)) (by dsimp only; omega)
  split
  · rename_i h0 h0'
    after_reads_at
    split
    · rename_i h1
      after_reads_at
      split
      · exact wB_top (m ((c.tc : Thread nD τ).loc main_arg3)) g e n h1 (by assumption) _ _ (by first | rfl | (dsimp only; omega)) (by dsimp only; omega)
      · exact wB_right _ g e n h1 (by assumption)
    · rename_i h1
      after_reads_at
      split
      · exact wB_left _ g e n h1 (by assumption)
      · exact wB_low (m ((c.tc : Thread nD τ).loc main_arg3)) g e n h1 (by assumption) _ _ (by first | rfl | (dsimp only; omega)) (by dsimp only; omega)
  split
  · rename_i h0 h0' h0''
    after_reads_at
    split
    · rename_i h1
      after_reads_at
      split
      · exact wB_top (m ((c.tc : Thread nD τ).loc main_arg3)) g e n h1 (by assumption) _ _ (by first | rfl | (dsimp only; omega)) (by dsimp only; omega)
      · exact wB_right _ g e n h1 (by assumption)
    · rename_i h1
      after_reads_at
      split
      · exact wB_left _ g e n h1 (by assumption)
      · exact wB_low (m ((c.tc : Thread nD τ).loc main_arg3)) g e n h1 (by assumption) _ _ (by first | rfl | (dsimp only; omega)) (by dsimp only; omega)
  rename_i h0 h0' h0''
  after_reads_at
  split
  · rename_i h1
    after_reads_at
    split
    · exact wB_top (m ((c.tc : Thread nD τ).loc main_arg3)) g e n h1 (by assumption) _ _ (by first | rfl | (dsimp only; omega)) (by dsimp only; omega)
    · exact wB_right _ g e n h1 (by assumption)
  · rename_i h1
    after_reads_at
    split
    · exact wB_left _ g e n h1 (by assumption)
    · exact wB_low (m ((c.tc : Thread nD τ).loc main_arg3)) g e n h1 (by assumption) _ _ (by first | rfl | (dsimp only; omega)) (by dsimp only; omega)

end Cert.KernelIdeal.Att

end
-- ==== Proof.RI.Read.lean ====
module

public import proofs.«01_k».proof.Proof.Gen.ReferenceIdeal.Read
public import Idealize.ShloMosaic.Lib.WordCmp

/-! The plain attention, read at an element of its result. -/

@[expose] public section

set_option Elab.async false
set_option maxRecDepth 16384

noncomputable section

namespace Cert.ReferenceIdeal.Plain

open Cert.ReferenceIdeal Cert.ReferenceIdeal.Gen Cert.ReferenceIdeal.Read
open Idealize.ShloMosaic Idealize.ShloMosaic.TcCoe Idealize.ShloMosaic.ValueIdx
open scoped BigOperators

variable (x0 : S65536x256.Idx → EReal) (x1 : S8192x256.Idx → EReal) (x2 : S128x8192.Idx → EReal) (x3 : S128x1024.Idx → EReal)

/-- The row of the queries that holds position `p` of head `h`. -/
def row (b p h : ℕ) : Fin 65536 := ⟨(((b * 16 + p / 256) * 8 + h) * 256 + p % 256) % 65536, Nat.mod_lt _ (by decide)⟩
/-- The row of the keys that holds position `k`. -/
def krow (b k : ℕ) : Fin 8192 := ⟨(b * 4096 + k) % 8192, Nat.mod_lt _ (by decide)⟩

theorem row_eq (b p h j : ℕ) (hb : b < 2) (hp : p < 4096) (hh : h < 8) (hj : j < 256) :
    ((((((b * 4096 + p) * 8 + h) * 256 + j) / 8388608 * 16 + (((b * 4096 + p) * 8 + h) * 256 + j) / 524288 % 16) * 8
        + (((b * 4096 + p) * 8 + h) * 256 + j) / 256 % 8) * 256 + (((b * 4096 + p) * 8 + h) * 256 + j) / 2048 % 256)
      = ((b * 16 + p / 256) * 8 + h) * 256 + p % 256 := by
  have e1 : (((b * 4096 + p) * 8 + h) * 256 + j) / 8388608 = b := by omega
  have e2 : (((b * 4096 + p) * 8 + h) * 256 + j) / 524288 % 16 = p / 256 := by omega
  have e3 : (((b * 4096 + p) * 8 + h) * 256 + j) / 256 % 8 = h := by omega
  have e4 : (((b * 4096 + p) * 8 + h) * 256 + j) / 2048 % 256 = p % 256 := by omega
  rw [e1, e2, e3, e4]

theorem q_all (b : Fin 2) (p : Fin 4096) (h : Fin 8) (j : Fin 256) :
    val_main_v3 (F := Ideal) x0 (ix4 b p h j) = x0 (ix2 (row b.val p.val h.val) j) := by
  rw [val_main_v3_apply, val_main_v2_apply, val_main_v1_apply, val_main_v0_apply]
  refine congrArg x0 (funext fun a => Fin.ext ?_)
  have e := row_eq b.val p.val h.val j.val b.isLt p.isLt h.isLt j.isLt
  match a with
  | ⟨0, _⟩ =>
    simp only [idx_main_v1, idx_main_v2, idx_main_v3, row, ix2, ix4]
    rw [e]; omega
  | ⟨1, _⟩ =>
    simp only [idx_main_v1, idx_main_v2, idx_main_v3, row, ix2, ix4]
    omega

theorem q_lat (b : Fin 2) (p : Fin 4096) (h : Fin 8) (j : Fin 128) :
    val_main_v4 (F := Ideal) x0 (ix4 b p h j) = x0 (ix2 (row b.val p.val h.val) ⟨j.val, by omega⟩) := by
  rw [val_main_v4_apply]
  refine Eq.trans ?_ (q_all x0 b p h ⟨j.val, by omega⟩)
  exact congrArg _ (funext fun a => Fin.ext (by match a with | ⟨0, _⟩ => rfl | ⟨1, _⟩ => rfl | ⟨2, _⟩ => rfl | ⟨3, _⟩ => rfl))

theorem q_rope (b : Fin 2) (p : Fin 4096) (h : Fin 8) (j : Fin 128) :
    val_main_v5 (F := Ideal) x0 (ix4 b p h j) = x0 (ix2 (row b.val p.val h.val) ⟨128 + j.val, by omega⟩) := by
  rw [val_main_v5_apply]
  refine Eq.trans ?_ (q_all x0 b p h ⟨128 + j.val, by omega⟩)
  exact congrArg _ (funext fun a => Fin.ext (by match a with | ⟨0, _⟩ => rfl | ⟨1, _⟩ => rfl | ⟨2, _⟩ => rfl | ⟨3, _⟩ => (first | rfl | (simp [idx_main_v5]; omega))))

theorem k_all (b : Fin 2) (k : Fin 4096) (j : Fin 256) :
    val_main_v7 (F := Ideal) x1 (ix3 b k j) = x1 (ix2 (krow b.val k.val) j) := by
  rw [val_main_v7_apply, val_main_v6_apply]
  have hb : b.val < 2 := b.isLt
  have hk : k.val < 4096 := k.isLt
  have hj : j.val < 256 := j.isLt
  refine congrArg x1 (funext fun a => Fin.ext ?_)
  match a with
  | ⟨0, _⟩ => simp only [idx_main_v7, krow, ix2, ix3]; omega
  | ⟨1, _⟩ => simp only [idx_main_v7, krow, ix2, ix3]; omega

theorem k_lat (b : Fin 2) (k : Fin 4096) (j : Fin 128) :
    val_main_v8 (F := Ideal) x1 (ix3 b k j) = x1 (ix2 (krow b.val k.val) ⟨j.val, by omega⟩) := by
  rw [val_main_v8_apply]
  refine Eq.trans ?_ (k_all x1 b k ⟨j.val, by omega⟩)
  exact congrArg _ (funext fun a => Fin.ext (by match a with | ⟨0, _⟩ => rfl | ⟨1, _⟩ => rfl | ⟨2, _⟩ => rfl))

theorem k_rope (b : Fin 2) (k : Fin 4096) (j : Fin 128) :
    val_main_v9 (F := Ideal) x1 (ix3 b k j) = x1 (ix2 (krow b.val k.val) ⟨128 + j.val, by omega⟩) := by
  rw [val_main_v9_apply]
  refine Eq.trans ?_ (k_all x1 b k ⟨128 + j.val, by omega⟩)
  exact congrArg _ (funext fun a => Fin.ext (by match a with | ⟨0, _⟩ => rfl | ⟨1, _⟩ => rfl | ⟨2, _⟩ => (first | rfl | (simp [idx_main_v9]; omega))))

theorem v_all (b : Fin 2) (k : Fin 4096) (d : Fin 128) :
    val_main_v12 (F := Ideal) x2 (ix3 b k d) = x2 (ix2 d (krow b.val k.val)) := by
  rw [val_main_v12_apply, val_main_v11_apply, val_main_v10_apply]
  have hb : b.val < 2 := b.isLt
  have hk : k.val < 4096 := k.isLt
  have hj : d.val < 128 := d.isLt
  refine congrArg x2 (funext fun a => Fin.ext ?_)
  match a with
  | ⟨0, _⟩ => simp only [idx_main_v11, idx_main_v12, krow, ix2, ix3]; omega
  | ⟨1, _⟩ => simp only [idx_main_v11, idx_main_v12, krow, ix2, ix3]; omega

theorem w_all (d : Fin 128) (h : Fin 8) (v : Fin 64) :
    val_main_v41 (F := Ideal) x3 (ix3 d h v) = x3 (ix2 d ⟨h.val * 128 + 64 + v.val, by omega⟩) := by
  rw [val_main_v41_apply, val_main_v40_apply]
  have hb : h.val < 8 := h.isLt
  have hk : v.val < 64 := v.isLt
  have hj : d.val < 128 := d.isLt
  refine congrArg x3 (funext fun a => Fin.ext ?_)
  match a with
  | ⟨0, _⟩ => simp only [idx_main_v40, idx_main_v41, ix2, ix3]; omega
  | ⟨1, _⟩ => simp only [idx_main_v40, idx_main_v41, ix2, ix3]; omega

/-- The scale of the scores. -/
abbrev sc : EReal := Ideal.ofBits .f32 0x3DD105EC#32

/-- The masked, scaled score of query position `p` of head `h` against key position `k`. -/
def tR (b p h : ℕ) (k : Fin 4096) : EReal :=
  if k.val ≤ p then
    ((∑ j : Fin 128, x1 (ix2 (krow b k.val) ⟨j.val, by omega⟩) * x0 (ix2 (row b p h) ⟨j.val, by omega⟩))
      + ∑ j : Fin 128, x1 (ix2 (krow b k.val) ⟨128 + j.val, by omega⟩) * x0 (ix2 (row b p h) ⟨128 + j.val, by omega⟩)) * sc
  else ⊥

theorem word_neginf : Ideal.ofBits FTy.f32 0xFF800000#32 = ⊥ := by
  simp [Ideal.ofBits, Ideal.ieee]

theorem score (b : Fin 2) (h : Fin 8) (p k : Fin 4096) :
    val_main_v18 (F := Ideal) x0 x1 (ix4 b h p k)
      = (∑ j : Fin 128, x1 (ix2 (krow b.val k.val) ⟨j.val, by omega⟩) * x0 (ix2 (row b.val p.val h.val) ⟨j.val, by omega⟩))
      + ∑ j : Fin 128, x1 (ix2 (krow b.val k.val) ⟨128 + j.val, by omega⟩) * x0 (ix2 (row b.val p.val h.val) ⟨128 + j.val, by omega⟩) := by
  have e1 : val_main_v15 (F := Ideal) x0 x1 (ix4 b h p k)
      = ∑ j : Fin 128, x1 (ix2 (krow b.val k.val) ⟨j.val, by omega⟩) * x0 (ix2 (row b.val p.val h.val) ⟨j.val, by omega⟩) := by
    rw [val_main_v15_apply, val_main_v14_apply]
    refine Finset.sum_congr rfl fun j _ => ?_
    rw [← k_lat x1, ← q_lat x0]
    congr 2
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl | ⟨2, _⟩ => rfl | ⟨3, _⟩ => rfl)
  have e2 : val_main_v17 (F := Ideal) x0 x1 (ix4 b h p k)
      = ∑ j : Fin 128, x1 (ix2 (krow b.val k.val) ⟨128 + j.val, by omega⟩) * x0 (ix2 (row b.val p.val h.val) ⟨128 + j.val, by omega⟩) := by
    rw [val_main_v17_apply, val_main_v16_apply]
    refine Finset.sum_congr rfl fun j _ => ?_
    rw [← k_rope x1, ← q_rope x0]
    congr 2
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl | ⟨2, _⟩ => rfl | ⟨3, _⟩ => rfl)
  rw [val_main_v18_apply, e1, e2]
  rfl

theorem masked (b : Fin 2) (h : Fin 8) (p k : Fin 4096) :
    val_main_v26 (F := Ideal) x0 x1 (ix4 b h p k) = tR x0 x1 b.val p.val h.val k := by
  rw [val_main_v26_apply, val_main_v25_apply, score, val_main_call0_v1_apply, val_main_v23_apply, val_main_v21_apply, val_main_v22_apply,
    val_main_v19_apply, val_main_v20_apply, val_main_v13_apply, val_main_v13_apply, val_main_call0_v2_apply, val_main_call0_v0_apply,
    val_main_cst_0_apply, val_main_v24_apply, val_main_cst_apply]
  unfold tR
  have ec : IntOp.cmpi CmpIPredicate.sle (BitVec.ofNat 32 k.val) (BitVec.ofNat 32 p.val) = if k.val ≤ p.val then 1#1 else 0#1 := by
    have hk : k.val < 4096 := k.isLt
    have hp : p.val < 4096 := p.isLt
    simp (disch := word_cmp_side) only [hlo_ix]
    by_cases hkp : k.val ≤ p.val <;> simp [hkp]
  show Scalar.select (IntOp.cmpi CmpIPredicate.sle (BitVec.ofNat 32 k.val) (BitVec.ofNat 32 p.val)) _ (Ideal.ofBits .f32 0xFF800000#32) = _
  rw [ec, word_neginf]
  by_cases hkp : k.val ≤ p.val
  · rw [if_pos hkp, if_pos hkp]; rfl
  · rw [if_neg hkp, if_neg hkp]; rfl

/-- The greatest score of a row. -/
theorem rowmax (b : Fin 2) (h : Fin 8) (p : Fin 4096) :
    val_main_v29 (F := Ideal) x0 x1 (ix3 b h p) = Finset.univ.fold max ⊥ (tR x0 x1 b.val p.val h.val) := by
  have e : val_main_v27 (F := Ideal) x0 x1 (ix3 b h p) = Finset.univ.fold max ⊥ (tR x0 x1 b.val p.val h.val) := by
    unfold val_main_v27
    have hr : S2x8x4096x4096.Reduces [3] S2x8x4096 := by decide
    refine (Host.reduce_eq_fold_single (α := EReal) max (val_main_v26 (F := Ideal) x0 x1) _ _ hr _ _).trans ?_
    show Finset.univ.fold max (Ideal.ofBits .f32 0xFF800000#32) (fun k => val_main_v26 (F := Ideal) x0 x1 (hr.lift (ix3 b h p) k)) = _
    rw [word_neginf]
    congr 1
    funext k
    refine Eq.trans ?_ (masked x0 x1 b h p k)
    exact congrArg _ (funext fun a => Fin.ext (by match a with | ⟨0, _⟩ => rfl | ⟨1, _⟩ => rfl | ⟨2, _⟩ => rfl | ⟨3, _⟩ => rfl))
  rw [val_main_v29_apply, e, val_main_v28_apply, val_main_cst_2_apply]
  show max (Ideal.ofBits .f32 0xFF800000#32) _ = _
  rw [word_neginf]
  exact max_eq_right bot_le

theorem weight (b : Fin 2) (h : Fin 8) (p k : Fin 4096) :
    val_main_v33 (F := Ideal) x0 x1 (ix4 b h p k)
      = Ideal.exp (tR x0 x1 b.val p.val h.val k - Finset.univ.fold max ⊥ (tR x0 x1 b.val p.val h.val)) := by
  rw [val_main_v33_apply, val_main_v32_apply, masked, val_main_v31_apply, val_main_v30_apply, ← rowmax]
  refine congrArg (fun i => Ideal.exp (tR x0 x1 b.val p.val h.val k - val_main_v29 (F := Ideal) x0 x1 i)) ?_
  exact funext fun a => Fin.ext (by match a with | ⟨0, _⟩ => rfl | ⟨1, _⟩ => rfl | ⟨2, _⟩ => rfl)

theorem total (b : Fin 2) (h : Fin 8) (p : Fin 4096) :
    val_main_v34 (F := Ideal) x0 x1 (ix3 b h p)
      = ∑ k, Ideal.exp (tR x0 x1 b.val p.val h.val k - Finset.univ.fold max ⊥ (tR x0 x1 b.val p.val h.val)) := by
  rw [val_main_v34_apply, val_main_cst_3_apply]
  have z : (FloatOps.ofBits (F := Ideal) .f32 0x00000000#32 : EReal) = 0 := by
    show Ideal.ofBits .f32 0x00000000#32 = 0
    simp [Ideal.ofBits, Ideal.ieee]
  rw [z, zero_add]
  refine Finset.sum_congr rfl fun k _ => ?_
  rw [← weight]
  exact congrArg _ (funext fun a => Fin.ext (by match a with | ⟨0, _⟩ => rfl | ⟨1, _⟩ => rfl | ⟨2, _⟩ => rfl | ⟨3, _⟩ => rfl))

theorem prob (b : Fin 2) (h : Fin 8) (p k : Fin 4096) :
    val_main_v37 (F := Ideal) x0 x1 (ix4 b h p k)
      = Ideal.div (Ideal.exp (tR x0 x1 b.val p.val h.val k - Finset.univ.fold max ⊥ (tR x0 x1 b.val p.val h.val)))
          (∑ i, Ideal.exp (tR x0 x1 b.val p.val h.val i - Finset.univ.fold max ⊥ (tR x0 x1 b.val p.val h.val))) := by
  rw [val_main_v37_apply, weight, val_main_v36_apply, val_main_v35_apply, ← total]
  refine congrArg (fun i => Ideal.div _ (val_main_v34 (F := Ideal) x0 x1 i)) ?_
  exact funext fun a => Fin.ext (by match a with | ⟨0, _⟩ => rfl | ⟨1, _⟩ => rfl | ⟨2, _⟩ => rfl)

/-- The attention's latent result at position `p` of head `h`. -/
def lat (b p h : ℕ) (d : Fin 128) : EReal :=
  ∑ k : Fin 4096, x2 (ix2 d (krow b k.val))
    * Ideal.div (Ideal.exp (tR x0 x1 b p h k - Finset.univ.fold max ⊥ (tR x0 x1 b p h)))
        (∑ i, Ideal.exp (tR x0 x1 b p h i - Finset.univ.fold max ⊥ (tR x0 x1 b p h)))

theorem latent (b : Fin 2) (p : Fin 4096) (h : Fin 8) (d : Fin 128) :
    val_main_v39 (F := Ideal) x0 x1 x2 (ix4 b p h d) = lat x0 x1 x2 b.val p.val h.val d := by
  rw [val_main_v39_apply, val_main_v38_apply]
  refine Finset.sum_congr rfl fun k _ => ?_
  rw [← prob, ← v_all x2]
  congr 2
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl | ⟨2, _⟩ => rfl | ⟨3, _⟩ => rfl)

/-- The result at row `r`, column `n`. -/
theorem result (r : Fin 8192) (n : Fin 512) :
    val_main_v45 (F := Ideal) x0 x1 x2 x3 (ix2 r n)
      = ∑ d : Fin 128, x3 (ix2 d ⟨n.val / 64 * 128 + 64 + n.val % 64, by omega⟩)
          * lat x0 x1 x2 (r.val / 4096) (r.val % 4096) (n.val / 64) d := by
  rw [val_main_v45_apply, val_main_v44_apply, val_main_v43_apply, val_main_v42_apply]
  refine Finset.sum_congr rfl fun d _ => ?_
  have hr : r.val < 8192 := r.isLt
  have hn : n.val < 512 := n.isLt
  have e := w_all x3 d ⟨n.val / 64, by omega⟩ ⟨n.val % 64, by omega⟩
  have e' := latent x0 x1 x2 ⟨r.val / 4096, by omega⟩ ⟨r.val % 4096, by omega⟩ ⟨n.val / 64, by omega⟩ d
  rw [← e, ← e']
  congr 2
  · refine funext fun a => Fin.ext ?_
    match a with
    | ⟨0, _⟩ => rfl
    | ⟨1, _⟩ => simp only [lidx_main_v42, idx_main_v43, idx_main_v44, ix2, ix3]; omega
    | ⟨2, _⟩ => simp only [lidx_main_v42, idx_main_v43, idx_main_v44, ix2, ix3]; omega
  · refine funext fun a => Fin.ext ?_
    match a with
    | ⟨0, _⟩ => simp only [ridx_main_v42, idx_main_v43, idx_main_v44, ix2, ix4]; omega
    | ⟨1, _⟩ => simp only [ridx_main_v42, idx_main_v43, idx_main_v44, ix2, ix4]; omega
    | ⟨2, _⟩ => simp only [ridx_main_v42, idx_main_v43, idx_main_v44, ix2, ix4]; omega
    | ⟨3, _⟩ => rfl

end Cert.ReferenceIdeal.Plain

end
-- ==== Proof.KI.Final.lean ====
module

public import proofs.«01_k».proof.Proof.KI.Value
public import proofs.«01_k».proof.Proof.KI.Soft
public import proofs.«01_k».proof.Proof.KI.Weights
public import proofs.«01_k».proof.Proof.RI.Read

/-! What the call leaves is the plain attention, for finite queries and keys. -/

@[expose] public section

set_option maxRecDepth 16384
set_option Elab.async false

noncomputable section

namespace Cert.KernelIdeal.Att

open Cert.KernelIdeal Cert.KernelIdeal.Gen
open Idealize.ShloMosaic
open Idealize.ShloMosaic.TcCoe Idealize.ShloMosaic.Tactic
open Idealize.SL.Sem
open scoped BigOperators
open Cert.ReferenceIdeal.Plain (tR lat row krow sc)

/-! ## A column's running values -/

section
variable {w : ℕ} (S : ℕ → Fin 256 → Fin w → EReal) (Vt : ℕ → S128x256.Idx → EReal)

theorem rM_eq (c : Fin w) (n : ℕ) : rM S n c = Cert.Soft.cM (fun j k => S j k c) n := by
  induction n with
  | zero => rfl
  | succ n ih => show max (rM S n c) _ = max (Cert.Soft.cM _ n) _; rw [ih]

theorem rL_eq (c : Fin w) (n : ℕ) : rL S n c = Cert.Soft.cL (fun j k => S j k c) n := by
  induction n with
  | zero => rfl
  | succ n ih =>
    show Ideal.exp2 (rM S n c - rM S (n + 1) c) * rL S n c + ∑ k, Ideal.exp2 (S n k c - rM S (n + 1) c) = _
    rw [ih, rM_eq, rM_eq]; rfl

theorem rV_eq (d : Fin 128) (c : Fin w) (n : ℕ) :
    rV S Vt n d c = Cert.Soft.cV (fun j k => S j k c) (fun j k => Vt j (ix2 d k)) n := by
  induction n with
  | zero => rfl
  | succ n ih =>
    show rV S Vt n d c * Ideal.exp2 (rM S n c - rM S (n + 1) c) + ∑ k, Vt n (ix2 d k) * Ideal.exp2 (S n k c - rM S (n + 1) c) = _
    rw [ih, rM_eq, rM_eq]; rfl
end

/-! ## The scores -/

theorem sc_eq : sc = (((3424635 / 33554432 : ℝ)) : EReal) := by
  simp [sc, Ideal.ofBits, Ideal.ieee]
  rw [← EReal.coe_mul]
  congr 1
  norm_num

/-- A sum of products of finite numbers is finite. -/
theorem sum_finite {n : ℕ} (f g : Fin n → EReal) (hf : ∀ i, ∃ r : ℝ, f i = r) (hg : ∀ i, ∃ r : ℝ, g i = r) :
    ∃ r : ℝ, ∑ i, f i * g i = r := by
  choose a ha using hf
  choose b hb using hg
  refine ⟨∑ i, a i * b i, ?_⟩
  rw [Finset.sum_congr rfl fun i _ => by rw [ha i, hb i, ← EReal.coe_mul]]
  exact (map_sum (⟨⟨((↑) : ℝ → EReal), rfl⟩, EReal.coe_add⟩ : ℝ →+ EReal) _ _).symm

section
variable (x0 : S65536x256.Idx → EReal) (x1 : S8192x256.Idx → EReal) (x2 : S128x8192.Idx → EReal) (x3 : S128x1024.Idx → EReal)

/-- The score of position `p` of head `h` against position `k` before the mask. -/
def raw (b p h k : ℕ) : EReal := ∑ j : Fin 256, x1 (ix2 (krow b k) j) * x0 (ix2 (row b p h) j)

theorem tR_eq (b p h : ℕ) (k : Fin 4096) :
    tR x0 x1 b p h k = if k.val ≤ p then raw x0 x1 b p h k.val * sc else ⊥ := by
  unfold tR raw
  refine if_congr Iff.rfl (congrArg (· * sc) ?_) rfl
  exact (Fin.sum_univ_add (a := 128) (b := 128) fun j : Fin 256 => x1 (ix2 (krow b k.val) j) * x0 (ix2 (row b p h) j)).symm

theorem kap_eq : (kap : EReal) = sc * ((Real.log 2)⁻¹ : ℝ) := by
  rw [sc_eq, ← EReal.coe_mul]

theorem scF_eq (b q n : ℕ) (hb : b < 2) (hq : q < 16) (hn : n < 16) (k : Fin 256) (c : Fin 2048) :
    SF (qT x0 b q) (kT x1 b n) k c
      = raw x0 x1 b (q * 256 + c.val % 256) (c.val / 256) (n * 256 + k.val) * sc * ((Real.log 2)⁻¹ : ℝ) := by
  rw [mul_assoc, ← kap_eq]
  show (∑ j : Fin 256, _) * kap = _
  refine congrArg (· * kap) (Finset.sum_congr rfl fun j _ => ?_)
  have hk := k.isLt
  have hc := c.isLt
  refine congrArg₂ (· * ·) (congrArg x1 (congrArg₂ (fun a b => ix2 a b) (Fin.ext ?_) rfl)) (congrArg x0 (congrArg₂ (fun a b => ix2 a b) (Fin.ext ?_) rfl))
  · show ((b * 16 + n) * 256 + k.val) % 8192 = (b * 4096 + (n * 256 + k.val)) % 8192
    congr 1; ring
  · show ((b * 16 + q) * 2048 + c.val) % 65536 = (((b * 16 + (q * 256 + c.val % 256) / 256) * 8 + c.val / 256) * 256 + (q * 256 + c.val % 256) % 256) % 65536
    congr 1; omega

variable (f0 : ∀ i, ∃ r : ℝ, x0 i = r) (f1 : ∀ i, ∃ r : ℝ, x1 i = r)
include f0 f1

theorem scores (b q : ℕ) (hb : b < 2) (hq : q < 16) (c : Fin 2048) :
    Cert.Soft.Scores (tR x0 x1 b (q * 256 + c.val % 256) (c.val / 256)) (fun j k => sT x0 x1 b q j k c) (q + 1) where
  pos := Nat.succ_pos q
  le := by omega
  top k := by
    rw [tR_eq]
    split
    · obtain ⟨r, hr⟩ := sum_finite _ _ (fun j : Fin 256 => f1 (ix2 (krow b k.val) j)) (fun j => f0 (ix2 (row b (q * 256 + c.val % 256) (c.val / 256)) j))
      rw [raw, hr, sc_eq, ← EReal.coe_mul]; exact EReal.coe_ne_top _
    · exact bot_ne_top
  first := by
    rw [tR_eq, if_pos (show ((0 : Fin 4096)).val ≤ _ from Nat.zero_le _)]
    obtain ⟨r, hr⟩ := sum_finite _ _ (fun j : Fin 256 => f1 (ix2 (krow b ((0 : Fin 4096)).val) j)) (fun j => f0 (ix2 (row b (q * 256 + c.val % 256) (c.val / 256)) j))
    rw [raw, hr, sc_eq, ← EReal.coe_mul]; exact EReal.coe_ne_bot _
  seen j hj k := by
    have hk := k.isLt
    rw [tR_eq]
    show sT x0 x1 b q j k c = (if j * 256 + k.val ≤ q * 256 + c.val % 256 then _ else ⊥) * _
    unfold sT
    by_cases h : j < q
    · rw [if_pos h, scF_eq x0 x1 b q j hb hq (by omega), if_pos (by omega)]
    · obtain rfl : j = q := by omega
      rw [if_neg h]
      show (if k.val ≤ c.val % 256 then SF (qT x0 b j) (kT x1 b j) k c else ⊥) = _
      by_cases h' : k.val ≤ c.val % 256
      · rw [if_pos h', scF_eq x0 x1 b j j hb hq hq, if_pos (by omega)]
      · rw [if_neg h', if_neg (by omega), EReal.bot_mul_coe_of_pos Cert.Soft.log_inv_pos]
  hidden k hk := by
    rw [tR_eq, if_neg]
    have := Nat.mod_lt c.val (show 0 < 256 by decide)
    omega

theorem ratio (b q : ℕ) (hb : b < 2) (hq : q < 16) (d : Fin 128) (c : Fin 2048) :
    Ideal.div (rV (sT x0 x1 b q) (vT x2 b) (q + 1) d c) (rL (sT x0 x1 b q) (q + 1) c)
      = lat x0 x1 x2 b (q * 256 + c.val % 256) (c.val / 256) d := by
  rw [rV_eq, rL_eq]
  refine Cert.Soft.soft (scores x0 x1 f0 f1 b q hb hq c) (fun k => x2 (ix2 d (krow b k.val))) _ fun j hj k => ?_
  refine congrArg x2 (congrArg₂ (fun a b => ix2 a b) rfl (Fin.ext ?_))
  show ((b * 16 + j) * 256 + k.val) % 8192 = (b * 4096 + (j * 256 + k.val)) % 8192
  congr 1; ring

omit f0 f1 in
theorem zero_tail (f g : Fin 128 → EReal) (h : ∀ d, g d = 0) : ∑ d, f d * g d = 0 :=
  Finset.sum_eq_zero fun d _ => by rw [h d, mul_zero]

/-- An output block, from the laid-out weights. -/
theorem out_eq (b q : ℕ) (hb : b < 2) (hq : q < 16) (W : S4x256x128.Idx → EReal) (hW : ∀ g e n, W (ix3 g e n) = wB x3 g e n)
    (r : Fin 256) (n : Fin 512) :
    outB (rV (sT x0 x1 b q) (vT x2 b) (q + 1)) (rL (sT x0 x1 b q) (q + 1)) W r n
      = ∑ d : Fin 128, x3 (ix2 d (⟨n.val / 64 * 128 + 64 + n.val % 64, by omega⟩ : Fin 1024)) * lat x0 x1 x2 b (q * 256 + r.val) (n.val / 64) d := by
  have hr : r.val < 256 := r.isLt
  have hn : n.val < 512 := n.isLt
  unfold outB
  by_cases h : n.val % 128 < 64
  · rw [zero_tail (fun d => Ideal.div (rV (sT x0 x1 b q) (vT x2 b) (q + 1) d ⟨512 * (n.val / 128) + 256 + r.val, by omega⟩) (rL (sT x0 x1 b q) (q + 1) ⟨512 * (n.val / 128) + 256 + r.val, by omega⟩)) _ fun d => ?_, add_zero]
    · refine Finset.sum_congr rfl fun d _ => ?_
      have hd : d.val < 128 := d.isLt
      rw [ratio x0 x1 x2 f0 f1 b q hb hq, hW, mul_comm]
      refine congrArg₂ (· * ·) (wB_top x3 _ _ _ hd h d _ rfl ?_).symm ?_
      · show n.val / 64 * 128 + 64 + n.val % 64 = n.val / 128 * 256 + 64 + n.val % 128
        omega
      · show lat x0 x1 x2 b (q * 256 + (512 * (n.val / 128) + r.val) % 256) ((512 * (n.val / 128) + r.val) / 256) d = _
        rw [show (512 * (n.val / 128) + r.val) % 256 = r.val by omega, show (512 * (n.val / 128) + r.val) / 256 = n.val / 64 by omega]
    · rw [hW]
      exact (wB_left x3 _ _ _ (by show ¬ 128 + d.val < 128; omega) h).symm
  · rw [add_comm, zero_tail (fun d => Ideal.div (rV (sT x0 x1 b q) (vT x2 b) (q + 1) d ⟨512 * (n.val / 128) + r.val, by omega⟩) (rL (sT x0 x1 b q) (q + 1) ⟨512 * (n.val / 128) + r.val, by omega⟩)) _ fun d => ?_, add_zero]
    · refine Finset.sum_congr rfl fun d _ => ?_
      have hd : d.val < 128 := d.isLt
      rw [ratio x0 x1 x2 f0 f1 b q hb hq, hW, mul_comm]
      refine congrArg₂ (· * ·) (wB_low x3 _ _ _ (by show ¬ 128 + d.val < 128; omega) h d _ (by show d.val = 128 + d.val - 128; omega) ?_).symm ?_
      · show n.val / 64 * 128 + 64 + n.val % 64 = n.val / 128 * 256 + 128 + n.val % 128
        omega
      · show lat x0 x1 x2 b (q * 256 + (512 * (n.val / 128) + 256 + r.val) % 256) ((512 * (n.val / 128) + 256 + r.val) / 256) d = _
        rw [show (512 * (n.val / 128) + 256 + r.val) % 256 = r.val by omega, show (512 * (n.val / 128) + 256 + r.val) / 256 = n.val / 64 by omega]
    · rw [hW]
      exact (wB_right x3 _ _ _ d.isLt h).symm
end

/-! ## The whole result -/

theorem outG_eq (m : (ℓ : Loc nD τ sig) → Buf (Elt Ideal) ℓ) (c : Dev nD)
    (f0 : ∀ i, ∃ r : ℝ, (show S65536x256.Idx → EReal from m ((c.tc : Thread nD τ).loc main_arg0)) i = r)
    (f1 : ∀ i, ∃ r : ℝ, (show S8192x256.Idx → EReal from m ((c.tc : Thread nD τ).loc main_arg1)) i = r) :
    outG m c = Cert.ReferenceIdeal.Read.val_main_v45 (F := Ideal) (m ((c.tc : Thread nD τ).loc main_arg0)) (m ((c.tc : Thread nD τ).loc main_arg1))
      (m ((c.tc : Thread nD τ).loc main_arg2)) (m ((c.tc : Thread nD τ).loc main_arg3)) := by
  funext j
  have hj : (j : S8192x512.Idx) = Idealize.ShloMosaic.ValueIdx.ix2 (j 0) (j 1) := Idealize.ShloMosaic.ValueIdx.eq_ix2 j
  have h0 : (j 0).val < 8192 := (j 0).isLt
  have e := Cert.ReferenceIdeal.Plain.result (m ((c.tc : Thread nD τ).loc main_arg0)) (m ((c.tc : Thread nD τ).loc main_arg1))
      (m ((c.tc : Thread nD τ).loc main_arg2)) (m ((c.tc : Thread nD τ).loc main_arg3)) (j 0) (j 1)
  refine Eq.trans ?_ ((congrArg _ hj).trans e).symm
  unfold outG oT
  rw [V_arg0, V_arg1, V_arg2]
  have key := out_eq (m ((c.tc : Thread nD τ).loc main_arg0)) (m ((c.tc : Thread nD τ).loc main_arg1)) (m ((c.tc : Thread nD τ).loc main_arg2))
    (m ((c.tc : Thread nD τ).loc main_arg3)) f0 f1 ((j 0).val / 4096) ((j 0).val % 4096 / 256) (by omega) (by omega) (V m c main_v39) (w_at m c)
    (⟨(j 0).val % 256, Nat.mod_lt _ (by decide)⟩ : Fin 256) (⟨(j 1).val, (j 1).isLt⟩ : Fin 512)
  have hp : (j 0).val % 4096 / 256 * 256 + (j 0).val % 256 = (j 0).val % 4096 := by omega
  rw [show (j 0).val % 4096 / 256 * 256 + (⟨(j 0).val % 256, Nat.mod_lt _ (by decide)⟩ : Fin 256).val = (j 0).val % 4096 from hp] at key
  exact key

end Cert.KernelIdeal.Att

end
-- ==== Proof.KI.Pre.lean ====
module

public import proofs.«01_k».proof.Proof.Gen.Pre_finite_scores
public import Idealize.ShloMosaic.Lib.KernelVsHost

/-! What the precondition says: every query and every key is a real number. -/

@[expose] public section

noncomputable section

namespace Cert.Pre_finite_scores

open Idealize.ShloMosaic

/-- An extended real whose absolute value is below the word of +∞ is a real number. -/
theorem real_of_abs_lt (x : EReal)
    (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

theorem bits_and (a b : BitVec 1) (h : a &&& b = 1#1) : a = 1#1 ∧ b = 1#1 := by
  revert a b; decide

variable [Facts]
variable (x0 : S65536x256.Idx → EReal) (x1 : S8192x256.Idx → EReal) (x2 : S128x8192.Idx → EReal) (x3 : S128x1024.Idx → EReal)

theorem at_index (h : fn (F := Ideal) x0 x1 x2 x3 = fun _ => 1#1) (j : S8x8192x256.Idx) :
    Ideal.cmp .olt (max (x0 (Shape.reshapeEquiv Facts.shapeCasts_S65536x256_S8x8192x256 j)) (-(x0 (Shape.reshapeEquiv Facts.shapeCasts_S65536x256_S8x8192x256 j))))
        (Ideal.ofBits .f32 0x7F800000#32) = 1#1
    ∧ ∀ i : S8192x256.Idx, (i 0).val = (j 1).val → (i 1).val = (j 2).val →
        Ideal.cmp .olt (max (x1 i) (-(x1 i))) (Ideal.ofBits .f32 0x7F800000#32) = 1#1 := by
  have hj := congrFun h j
  obtain ⟨ha, hb⟩ := bits_and _ _ hj
  refine ⟨ha, fun i e0 e1 => ?_⟩
  have hi : broadcastInDim S8x8192x256 ![0, 1, 2] Facts.bcast_S1x8192x256_S8x8192x256_0_1_2
      (broadcastInDim S1x8192x256 ![1, 2] Facts.bcast_S8192x256_S1x8192x256_1_2
        (fun i : S8192x256.Idx => Ideal.cmp .olt (max (x1 i) (-(x1 i))) (Ideal.ofBits .f32 0x7F800000#32))) j = 1#1 := hb
  refine Eq.trans (congrArg (fun k : S8192x256.Idx => Ideal.cmp .olt (max (x1 k) (-(x1 k))) (Ideal.ofBits .f32 0x7F800000#32)) ?_) hi
  funext a
  refine Fin.ext ?_
  match a with
  | ⟨0, _⟩ => exact e0
  | ⟨1, _⟩ => exact e1

theorem queries_real (h : fn (F := Ideal) x0 x1 x2 x3 = fun _ => 1#1) (i : S65536x256.Idx) : ∃ r : ℝ, x0 i = r := by
  have e := (at_index x0 x1 x2 x3 h ((Shape.reshapeEquiv Facts.shapeCasts_S65536x256_S8x8192x256).symm i)).1
  rw [Equiv.apply_symm_apply] at e
  exact real_of_abs_lt _ e

theorem keys_real (h : fn (F := Ideal) x0 x1 x2 x3 = fun _ => 1#1) (i : S8192x256.Idx) : ∃ r : ℝ, x1 i = r :=
  real_of_abs_lt _ ((at_index x0 x1 x2 x3 h
    (fun a => match a with
      | ⟨0, _⟩ => (⟨0, by decide⟩ : Fin 8)
      | ⟨1, _⟩ => (⟨(i 0).val, (i 0).isLt⟩ : Fin 8192)
      | ⟨2, _⟩ => (⟨(i 1).val, (i 1).isLt⟩ : Fin 256))).2 i rfl rfl)

end Cert.Pre_finite_scores

end
-- ==== Proof.Mlp.Final.lean ====
module

public import proofs.«01_k».proof.Proof.Gen.MlpIdeal.Value
public import proofs.«01_k».proof.Proof.Gen.MlpRefIdeal.Read
public import Idealize.ShloMosaic.Lib.Pipeline.ValueKit

/-!
The squared-relu layer: what the tiled call leaves in its result is the plain function of its arguments. The call walks the
hidden width in eight blocks and adds each block's product into an accumulator; the sum over the blocks is the one sum over the
whole width.
-/

@[expose] public section

set_option maxRecDepth 16384
set_option Elab.async false

noncomputable section

namespace Cert.MlpIdeal.Plain

open Idealize.ShloMosaic Idealize.ShloMosaic.TcCoe Idealize.SL.Sem
open Idealize.ShloMosaic.Pipeline (Dat)
open Cert.MlpIdeal Cert.MlpIdeal.Gen

variable (m : (ℓ : Loc nD τ sig) → Buf (Elt Ideal) ℓ)

/-- The block of each array a point works on: point `t` takes rows `512 (t / 8) …` and the hidden block `t % 8`. -/
theorem idx : ∀ t : Fin cfg0.N, win0_0.index t = ![t.val / 8, 0] ∧ win0_1.index t = ![0, t.val % 8] ∧ win0_2.index t = ![t.val % 8, 0]
    ∧ win0_3.index t = ![t.val / 8, 0] ∧ win0_4.index t = ![0, 0] ∧ win0_5.index t = ![t.val / 8, 0] ∧ t.val < 128 :=
  (by decide +kernel : ∀ t : Fin grid0.N, _)

/-- One hidden block's contribution to an entry. -/
def part (a : Vec Ideal S512x2048 .bf16) (u : Vec Ideal S2048x1024 .bf16) (d : Vec Ideal S1024x2048 .bf16) (y : S512x2048.Idx) : EReal :=
  ∑ k : Fin 1024, (max (∑ l : Fin 2048, a (ix2 (y 0) l) * u (ix2 l k)) (Ideal.ofBits .f32 0x00000000#32)
    * max (∑ l : Fin 2048, a (ix2 (y 0) l) * u (ix2 l k)) (Ideal.ofBits .f32 0x00000000#32)) * d (ix2 k (y 1))

theorem zero_apply (y) : k0_pay1 (F := Ideal) y = 0 := by
  pointwise [k0_pay1]

theorem step_apply (a u v d y) : k0_pay2 (F := Ideal) a u v d y = v y + part a u d y := by
  unfold part
  pointwise [k0_pay2]

/-- What the accumulator holds after point `t`: at the first block of a row the block's own part … -/
theorem acc_reset (c : Dev nD) (t : Fin cfg0.N) (h : t.val % 8 = 0) (y) :
    (outsAt0 m c t.val t.isLt).2 y = 0 + part (iblk m c 0 t) (iblk m c 1 t) (iblk m c 2 t) y := by
  rw [outsAt0_A m c t h (by omega)]; frame_out
  rw [step_apply, zero_apply]

/-- The last block's point writes the layer's result from the accumulator it leaves. -/
theorem out_last (c : Dev nD) (t : Fin cfg0.N) (h : t.val % 8 = 7) :
    (outsAt0 m c t.val t.isLt).1 = k0_pay3 (iblk m c 3 t) ((outsAt0 m c t.val t.isLt).2) (iblk m c 4 t) := by
  rw [outsAt0_C m c t (by omega) h]; frame_out

/-- The reference's second product, entry by entry. -/
theorem ref_sum (x0 x1 x2 i) :
    Cert.MlpRefIdeal.Read.val_main_v4 (F := Ideal) x0 x1 x2 i
      = ∑ k : Fin 8192, (max (∑ l : Fin 2048, x0 (ix2 (i 0) l) * x1 (ix2 l k)) (Ideal.ofBits .f32 0x00000000#32)
        * max (∑ l : Fin 2048, x0 (ix2 (i 0) l) * x1 (ix2 l k)) (Ideal.ofBits .f32 0x00000000#32)) * x2 (ix2 k (i 1)) := by
  open Cert.MlpRefIdeal.Read in
  unfold val_main_v4 val_main_v3 val_main_v2 val_main_v1 val_main_v0 val_main_call0_v0 val_main_call0_cst
  pointwise []

/-- The accumulator at the last block of a row: the sum of the eight parts. -/
theorem acc_sum (c : Dev nD) (t : Fin cfg0.N) (h : t.val % 8 = 7) (y) :
    (outsAt0 m c t.val t.isLt).2 y = Cert.MlpRefIdeal.Read.val_main_v4 (F := Ideal) (m ((c : Thread nD τ).loc main_arg0)) (m ((c : Thread nD τ).loc main_arg1)) (m ((c : Thread nD τ).loc main_arg2)) (((cfg0.win 5).blk t).view.emb y) := by
  rw [Pipeline.eq_sum_fin_of_reset_step_apply_of_flush (fun n h => (outsAt0 m c n h).2) 8 (fun _ => (0 : EReal))
    (fun t y => part (iblk m c 0 t) (iblk m c 1 t) (iblk m c 2 t) y)
    (fun t h y => acc_reset m c t h y)
    (fun t h y => by
      by_cases h1 : t.val % 8 = 7
      · rw [outsAt0_C m c t h h1]; frame_out; rw [step_apply]; exact congrArg (· + _) (congrFun (Memref.IsWhole.read_unread _ _) y)
      · rw [outsAt0_B m c t h h1]; frame_out; rw [step_apply]; exact congrArg (· + _) (congrFun (Memref.IsWhole.read_unread _ _) y))
    t h y, zero_add, ref_sum]
  unfold part
  refine Fin.sum_mul_add_congr fun s k hl => ?_
  have e := idx ⟨8 * (t.val / 8) + s.val, Pipeline.run_point_lt_of_flush t h s⟩
  simp only [show (8 * (t.val / 8) + s.val) / 8 = t.val / 8 by omega, show (8 * (t.val / 8) + s.val) % 8 = s.val by omega] at e
  blk_point [iblk, V, idx t, e]

/-- The layer's last step, entry by entry. -/
theorem last_apply (x v g y) :
    k0_pay3 (F := Ideal) x v g y
      = x y + v y * Ideal.rsqrt (Ideal.div (∑ k : Fin 2048, v (ix2 (y 0) k) * v (ix2 (y 0) k)) (Ideal.ofBits .f32 1157627904#32)
          + Ideal.ofBits .f32 897988541#32) * g (ix2 0 (y 1)) := by
  pointwise [k0_pay3]

/-- The reference's result, entry by entry, in terms of its second product. -/
theorem ref_apply (x0 x1 x2 x3 x4 i) :
    Cert.MlpRefIdeal.Read.val_main_v18 (F := Ideal) x0 x1 x2 x3 x4 i
      = x3 i + Cert.MlpRefIdeal.Read.val_main_v4 (F := Ideal) x0 x1 x2 i
          * Ideal.rsqrt (Ideal.div (∑ k : Fin 2048, Cert.MlpRefIdeal.Read.val_main_v4 (F := Ideal) x0 x1 x2 (ix2 (i 0) k)
              * Cert.MlpRefIdeal.Read.val_main_v4 (F := Ideal) x0 x1 x2 (ix2 (i 0) k)) (Ideal.ofBits .f32 1157627904#32)
            + Ideal.ofBits .f32 897988541#32) * x4 (ix1 (i 1)) := by
  open Cert.MlpRefIdeal.Read in
  unfold val_main_v18 val_main_v17 val_main_v16 val_main_v15 val_main_v14 val_main_v13 val_main_v12 val_main_v11 val_main_v10 val_main_v9 val_main_v8 val_main_v7 val_main_v6 val_main_v5 val_main_cst val_main_cst_0 val_main_cst_1
  generalize val_main_v4 (F := Ideal) x0 x1 x2 = f
  pointwise []

/-- The result's block at a row's last point, entry by entry. -/
theorem point (c : Dev nD) (t : Fin cfg0.N) (h : t.val % 8 = 7) (y) :
    (outsAt0 m c t.val t.isLt).1 y = Cert.MlpRefIdeal.Read.val_main_v18 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  rw [out_last m c t h, last_apply, ref_apply]
  simp only [acc_sum m c t h]
  generalize Cert.MlpRefIdeal.Read.val_main_v4 (F := Ideal) (m ((c : Thread nD τ).loc main_arg0)) (m ((c : Thread nD τ).loc main_arg1)) (m ((c : Thread nD τ).loc main_arg2)) = f
  blk_point [iblk, V, idx t]

/-- The call's result is the plain function of the arguments. -/
theorem final (c : Dev nD) :
    (dats m 0 c).arrAt 5 (cfgs 0).N = Cert.MlpRefIdeal.Read.val_main_v18 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  exact point m c t ((flush0_5 t).mp hf) y

end Cert.MlpIdeal.Plain

end
-- ==== Proof.Merge.Final.lean ====
module

public import proofs.«01_k».proof.Proof.Gen.MergeIdeal.Value
public import proofs.«01_k».proof.Proof.Gen.MergeRefIdeal.Read
public import Idealize.ShloMosaic.Lib.Pipeline.ValueKit
public import Idealize.ShloMosaic.Lib.Pipeline.ReadBack

/-!
The gated merge of the three branches: what the tiled call leaves in its result is the plain function of its arguments. The
call normalises a block of rows at the block's first column step and keeps it for the other three.
-/

@[expose] public section

set_option maxRecDepth 16384
set_option Elab.async false

noncomputable section

namespace Cert.MergeIdeal.Plain

open Idealize.ShloMosaic Idealize.ShloMosaic.TcCoe Idealize.SL.Sem
open Idealize.ShloMosaic.Pipeline (Dat)
open Cert.MergeIdeal Cert.MergeIdeal.Gen

variable (m : (ℓ : Loc nD τ sig) → Buf (Elt Ideal) ℓ)

/-- The block of each array a point works on: point `t` takes rows `512 (t / 4) …` and the columns `512 (t % 4) …`. -/
theorem idx : ∀ t : Fin cfg0.N, win0_0.index t = ![t.val / 4, 0] ∧ win0_1.index t = ![0, 0] ∧ win0_2.index t = ![t.val / 4, 0]
    ∧ win0_3.index t = ![t.val / 4, 0] ∧ win0_4.index t = ![t.val / 4, 0]
    ∧ win0_5.index t = ![0, t.val % 4] ∧ win0_6.index t = ![0, 4 + t.val % 4] ∧ win0_7.index t = ![0, 8 + t.val % 4]
    ∧ win0_8.index t = ![0, t.val % 4] ∧ win0_9.index t = ![0, 4 + t.val % 4] ∧ win0_10.index t = ![0, 8 + t.val % 4]
    ∧ win0_11.index t = ![0, t.val % 4] ∧ win0_12.index t = ![0, t.val % 4] ∧ win0_13.index t = ![0, t.val % 4]
    ∧ win0_14.index t = ![t.val / 4, t.val % 4] ∧ t.val < 64 :=
  (by decide +kernel : ∀ t : Fin grid0.N, _)

theorem logistic_eq (x : EReal) : Ideal.logistic x = Ideal.div 1 (1 + Ideal.exp (-x)) := rfl

/-- The normalised rows, as the kernel computes them. -/
theorem norm_apply (x g y) :
    k0_pay2 (F := Ideal) x g y
      = x y * Ideal.rsqrt (Ideal.div (∑ k : Fin 2048, x (ix2 (y 0) k) * x (ix2 (y 0) k)) (Ideal.ofBits .f32 1157627904#32)
          + Ideal.ofBits .f32 897988541#32) * g (ix2 0 (y 1)) := by
  pointwise [k0_pay2]

/-- The normalised rows, as the reference computes them. -/
theorem norm_ref (x0 x1 i) :
    Cert.MergeRefIdeal.Read.val_main_v12 (F := Ideal) x0 x1 i
      = x0 i * Ideal.rsqrt (Ideal.div (∑ k : Fin 2048, x0 (ix2 (i 0) k) * x0 (ix2 (i 0) k)) (Ideal.ofBits .f32 1157627904#32)
            + Ideal.ofBits .f32 897988541#32) * x1 (ix1 (i 1)) := by
  open Cert.MergeRefIdeal.Read in
  unfold val_main_v12 val_main_v11 val_main_v10 val_main_v9 val_main_v8 val_main_v7 val_main_v6 val_main_v5 val_main_v4 val_main_v3 val_main_v2 val_main_v1 val_main_v0 val_main_cst val_main_cst_0 val_main_cst_1
  pointwise []

/-- One branch's term of a merged entry: its gate times its product. -/
def term (h : S512x2048.Idx → EReal) (w : S2048x512.Idx → EReal) (b : S1x512.Idx → EReal) (o : S512x512.Idx → EReal)
    (wb : S512x512.Idx → EReal) (y : S512x512.Idx) : EReal :=
  Ideal.div 1 (1 + Ideal.exp (-((∑ l : Fin 2048, h (ix2 (y 0) l) * w (ix2 l (y 1))) + b (ix2 0 (y 1)))))
    * ∑ k : Fin 512, o (ix2 (y 0) k) * wb (ix2 k (y 1))

/-- One branch's term from what its parts are. -/
theorem term_eq {h w b o wb y} {H W : Fin 2048 → EReal} {B S : EReal} (h1 : ∀ l : Fin 2048, h (ix2 (y 0) l) = H l)
    (h2 : ∀ l : Fin 2048, w (ix2 l (y 1)) = W l) (h3 : b (ix2 0 (y 1)) = B) (h4 : ∑ k : Fin 512, o (ix2 (y 0) k) * wb (ix2 k (y 1)) = S) :
    term h w b o wb y = Ideal.div 1 (1 + Ideal.exp (-((∑ l : Fin 2048, H l * W l) + B))) * S := by
  unfold term
  simp only [h1, h2, h3, h4]

theorem two_apply (h w0 b0 o0 wb0 w1 b1 o1 wb1 y) :
    k0_pay3 (F := Ideal) h w0 b0 o0 wb0 w1 b1 o1 wb1 y = term h w0 b0 o0 wb0 y + term h w1 b1 o1 wb1 y := by
  unfold term
  pointwise [k0_pay3]
  simp only [logistic_eq]

theorem merge_apply (h v w b o wb y) :
    k0_pay1 (F := Ideal) h v w b o wb y = v y + term h w b o wb y := by
  unfold term
  pointwise [k0_pay1]
  simp only [logistic_eq]

/-- At a block's first column step the rows are normalised … -/
theorem rows_first (c : Dev nD) (t : Fin cfg0.N) (h : t.val % 4 = 0) :
    (outsAt0 m c t.val t.isLt).2 = k0_pay2 (iblk m c 0 t) (iblk m c 1 t) := by
  rw [outsAt0_A m c t h]; frame_out

/-- … and at the others kept. -/
theorem rows_kept (c : Dev nD) (t : Fin cfg0.N) (h : ¬t.val % 4 = 0) :
    (outsAt0 m c t.val t.isLt).2 = (outsAt0 m c (t.val - 1) (Nat.lt_of_le_of_lt (Nat.sub_le _ _) t.isLt)).2 := by
  rw [outsAt0_B m c t h]
  try frame_out
  try rfl

/-- What a point writes back. -/
theorem out_eq (c : Dev nD) (t : Fin cfg0.N) :
    (outsAt0 m c t.val t.isLt).1 = k0_pay1 (outsAt0 m c t.val t.isLt).2
      (k0_pay3 (outsAt0 m c t.val t.isLt).2 (iblk m c 5 t) (iblk m c 8 t) (iblk m c 2 t) (iblk m c 11 t)
        (iblk m c 6 t) (iblk m c 9 t) (iblk m c 3 t) (iblk m c 12 t))
      (iblk m c 7 t) (iblk m c 10 t) (iblk m c 4 t) (iblk m c 13 t) := by
  by_cases h : t.val % 4 = 0
  · rw [outsAt0_A m c t h]; frame_out
  · rw [rows_kept m c t h, outsAt0_B m c t h]; frame_out
    rw [read_unread_whole]

/-- The head order: lane `k` of the interleaved heads and the lane of the plain order it stands for. -/
def src (k : Fin 512) : Fin 512 := ⟨k.val / 64 % 2 * 256 + k.val / 128 * 64 + k.val % 64, by omega⟩

def src_inv (k : Fin 512) : Fin 512 := ⟨k.val / 64 % 4 * 128 + k.val / 256 * 64 + k.val % 64, by omega⟩

def srcEquiv : Fin 512 ≃ Fin 512 where
  toFun := src
  invFun := src_inv
  left_inv := by decide +kernel
  right_inv := by decide +kernel

/-- The gates' weights as the call takes them. -/
theorem gate_w (c : Dev nD) : (V m c main_v11 : S2048x6144.Idx → EReal) = m ((c : Thread nD τ).loc main_arg5) := rfl

/-- A row of offsets read as an array of one row. -/
theorem offsets_apply (w : S6144.Idx → EReal) (i : S1x6144.Idx) : shapeCast S1x6144 w shapeCasts_S6144_S1x6144 i = w (ix1 (i 1)) := by
  pointwise []

/-- The gates' offsets as the call takes them. -/
theorem gate_b (c : Dev nD) (i) : (V m c main_v12 : S1x6144.Idx → EReal) i = m ((c : Thread nD τ).loc main_arg6) (ix1 (i 1)) := by
  rw [show (V m c main_v12 : S1x6144.Idx → EReal) = shapeCast S1x6144 (m ((c : Thread nD τ).loc main_arg6) : S6144.Idx → EReal) shapeCasts_S6144_S1x6144 from rfl]
  exact offsets_apply _ i

/-- The rearranged weights of the third branch: the rows of the eight heads, head `j + 4` after head `j`. -/
theorem weights_eq (c : Dev nD) :
    (V m c main_v9 : S512x2048.Idx → EReal)
      = truncf (F := Ideal) .bf16 (concatenate S512x2048 0
          [⟨S64x2048, extractStridedSlice S64x2048 ![0, 0] (m ((c : Thread nD τ).loc main_arg9)) slices_S512x2048_S64x2048_0_0⟩,
           ⟨S64x2048, extractStridedSlice S64x2048 ![256, 0] (m ((c : Thread nD τ).loc main_arg9)) slices_S512x2048_S64x2048_256_0⟩,
           ⟨S64x2048, extractStridedSlice S64x2048 ![64, 0] (m ((c : Thread nD τ).loc main_arg9)) slices_S512x2048_S64x2048_64_0⟩,
           ⟨S64x2048, extractStridedSlice S64x2048 ![320, 0] (m ((c : Thread nD τ).loc main_arg9)) slices_S512x2048_S64x2048_320_0⟩,
           ⟨S64x2048, extractStridedSlice S64x2048 ![128, 0] (m ((c : Thread nD τ).loc main_arg9)) slices_S512x2048_S64x2048_128_0⟩,
           ⟨S64x2048, extractStridedSlice S64x2048 ![384, 0] (m ((c : Thread nD τ).loc main_arg9)) slices_S512x2048_S64x2048_384_0⟩,
           ⟨S64x2048, extractStridedSlice S64x2048 ![192, 0] (m ((c : Thread nD τ).loc main_arg9)) slices_S512x2048_S64x2048_192_0⟩,
           ⟨S64x2048, extractStridedSlice S64x2048 ![448, 0] (m ((c : Thread nD τ).loc main_arg9)) slices_S512x2048_S64x2048_448_0⟩]
          concatenates_S64x2048_S64x2048_S64x2048_S64x2048_S64x2048_S64x2048_S64x2048_S64x2048_S512x2048_d0) bitsLt_bf16_f32 := rfl

/-- Both arms of a choice agreeing with a value, so does the choice. -/
theorem ladder {p : Prop} [Decidable p] {α : Type} {x : p → α} {y : ¬p → α} {z : α} (hx : ∀ h, x h = z) (hy : ∀ h, y h = z) :
    dite p x y = z := by
  by_cases h : p
  · rw [dif_pos h, hx]
  · rw [dif_neg h, hy]

/-- The rearranged weights of the third branch, row by row. -/
theorem weights (c : Dev nD) (k : Fin 512) (j : Fin 2048) :
    (V m c main_v9 : S512x2048.Idx → EReal) (ix2 k j) = m ((c : Thread nD τ).loc main_arg9) (ix2 (src k) j) := by
  rw [weights_eq]
  have hk := k.isLt
  pointwise []
  generalize (m ((c : Thread nD τ).loc main_arg9) : S512x2048.Idx → EReal) = w
  have hs : (src k).val = k.val / 64 % 2 * 256 + k.val / 128 * 64 + k.val % 64 := rfl
  have row : ∀ r : Fin 512, r.val = (src k).val → w (ix2 r j) = w (ix2 (src k) j) := fun r hr =>
    congrArg (fun r : Fin 512 => w (ix2 r j)) (Fin.ext hr)
  refine ladder (fun h0 => row _ (by rw [hs]; show k.val = _; omega)) fun h0 => ?_
  refine ladder (fun h1 => row _ (by rw [hs]; show 256 + (k.val - 64) = _; omega)) fun h1 => ?_
  refine ladder (fun h2 => row _ (by rw [hs]; show 64 + (k.val - 64 - 64) = _; omega)) fun h2 => ?_
  refine ladder (fun h3 => row _ (by rw [hs]; show 320 + (k.val - 64 - 64 - 64) = _; omega)) fun h3 => ?_
  refine ladder (fun h4 => row _ (by rw [hs]; show 128 + (k.val - 64 - 64 - 64 - 64) = _; omega)) fun h4 => ?_
  refine ladder (fun h5 => row _ (by rw [hs]; show 384 + (k.val - 64 - 64 - 64 - 64 - 64) = _; omega)) fun h5 => ?_
  refine ladder (fun h6 => row _ (by rw [hs]; show 192 + (k.val - 64 - 64 - 64 - 64 - 64 - 64) = _; omega)) fun h6 => ?_
  exact row _ (by rw [hs]; show 448 + (k.val - 64 - 64 - 64 - 64 - 64 - 64 - 64) = _; omega)

/-- The reference's merged entry, in terms of the normalised rows. -/
theorem ref_apply (x0 x1 x2 x3 x4 x5 x6 x7 x8 x9 i) :
    Cert.MergeRefIdeal.Read.val_main_v44 (F := Ideal) x0 x1 x2 x3 x4 x5 x6 x7 x8 x9 i
      = Ideal.div 1 (1 + Ideal.exp (-((∑ l : Fin 2048, Cert.MergeRefIdeal.Read.val_main_v12 (F := Ideal) x0 x1 (ix2 (i 0) l) * x5 (ix2 l ⟨(i 1).val, Nat.lt_of_lt_of_le (i 1).isLt (by decide)⟩)) + x6 (ix1 ⟨(i 1).val, Nat.lt_of_lt_of_le (i 1).isLt (by decide)⟩))))
          * ∑ k : Fin 512, x2 (ix2 (i 0) k) * x7 (ix2 k (i 1))
        + Ideal.div 1 (1 + Ideal.exp (-((∑ l : Fin 2048, Cert.MergeRefIdeal.Read.val_main_v12 (F := Ideal) x0 x1 (ix2 (i 0) l) * x5 (ix2 l ⟨2048 + (i 1).val, by have h : (i 1).val < 2048 := (i 1).isLt; omega⟩)) + x6 (ix1 ⟨2048 + (i 1).val, by have h : (i 1).val < 2048 := (i 1).isLt; omega⟩))))
          * ∑ k : Fin 512, x3 (ix2 (i 0) k) * x8 (ix2 k (i 1))
        + Ideal.div 1 (1 + Ideal.exp (-((∑ l : Fin 2048, Cert.MergeRefIdeal.Read.val_main_v12 (F := Ideal) x0 x1 (ix2 (i 0) l) * x5 (ix2 l ⟨4096 + (i 1).val, by have h : (i 1).val < 2048 := (i 1).isLt; omega⟩)) + x6 (ix1 ⟨4096 + (i 1).val, by have h : (i 1).val < 2048 := (i 1).isLt; omega⟩))))
          * ∑ k : Fin 512, x4 (ix2 (i 0) (src_inv k)) * x9 (ix2 k (i 1)) := by
  open Cert.MergeRefIdeal.Read in
  unfold val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_cst_2 val_main_cst_3
  generalize Cert.MergeRefIdeal.Read.val_main_v12 (F := Ideal) x0 x1 = f
  pointwise []
  rfl

/-- What the rows hold at a block's first column step: the reference's normalised rows, read at the point's block. -/
theorem rows_start (c : Dev nD) (t : Fin cfg0.N) (h : t.val % 4 = 0) (a : Fin 512) (l : Fin 2048) :
    ((outsAt0 m c t.val t.isLt).2 : S512x2048.Idx → EReal) (ix2 a l)
      = Cert.MergeRefIdeal.Read.val_main_v12 (F := Ideal) (m ((c : Thread nD τ).loc main_arg0)) (m ((c : Thread nD τ).loc main_arg1)) (ix2 (⟨512 * (t.val / 4) + a.val, by have h' : t.val < 64 := (idx t).2.2.2.2.2.2.2.2.2.2.2.2.2.2.2; omega⟩ : Fin 8192) l) := by
  rw [rows_first m c t h, norm_apply, norm_ref]
  blk_point [iblk, V, idx t]

/-- What the kept rows hold: the reference's normalised rows, read at the point's block. -/
theorem rows (c : Dev nD) (t : Fin cfg0.N) (a : Fin 512) (l : Fin 2048) :
    ((outsAt0 m c t.val t.isLt).2 : S512x2048.Idx → EReal) (ix2 a l)
      = Cert.MergeRefIdeal.Read.val_main_v12 (F := Ideal) (m ((c : Thread nD τ).loc main_arg0)) (m ((c : Thread nD τ).loc main_arg1)) (ix2 (⟨512 * (t.val / 4) + a.val, by have h : t.val < 64 := (idx t).2.2.2.2.2.2.2.2.2.2.2.2.2.2.2; omega⟩ : Fin 8192) l) := by
  obtain ⟨n, hn⟩ := t
  induction n with
  | zero =>
    exact rows_start m c ⟨0, hn⟩ rfl a l
  | succ n ih =>
    by_cases h : (n + 1) % 4 = 0
    · exact rows_start m c ⟨n + 1, hn⟩ h a l
    · rw [rows_kept m c ⟨n + 1, hn⟩ h]
      refine (ih (Nat.lt_of_succ_lt hn)).trans ?_
      refine congrArg (fun r : Fin 8192 => Cert.MergeRefIdeal.Read.val_main_v12 (F := Ideal) (m ((c : Thread nD τ).loc main_arg0)) (m ((c : Thread nD τ).loc main_arg1)) (ix2 r l)) (Fin.ext ?_)
      show 512 * (n / 4) + a.val = 512 * ((n + 1) / 4) + a.val
      omega

/-- The third branch's product: the rearranged weights against the interleaved heads are the plain weights against the plain heads. -/
theorem reorder (o : Fin 512 → EReal) (w : Fin 512 → EReal) :
    ∑ k : Fin 512, o k * w (src k) = ∑ k : Fin 512, o (src_inv k) * w k := by
  rw [← Equiv.sum_comp srcEquiv (fun k => o (src_inv k) * w k)]
  refine Finset.sum_congr rfl fun k _ => ?_
  rw [show src_inv (srcEquiv k) = k from srcEquiv.left_inv k]
  rfl

/-- The weights a point takes of the third branch. -/
theorem weights_blk (c : Dev nD) (t : Fin cfg0.N) (k q : Fin 512) :
    (iblk m c 13 t : S512x512.Idx → EReal) (ix2 k q)
      = m ((c : Thread nD τ).loc main_arg9) (ix2 (src k) (⟨512 * (t.val % 4) + q.val, by omega⟩ : Fin 2048)) := by
  refine Eq.trans ?_ (weights m c k _)
  blk_point [iblk, idx t]

/-- The result's block, entry by entry. -/
theorem point (c : Dev nD) (t : Fin cfg0.N) (y) :
    (outsAt0 m c t.val t.isLt).1 y = Cert.MergeRefIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (((cfg0.win 14).blk t).view.emb y) := by
  rw [out_eq, merge_apply, two_apply, ref_apply]
  refine congrArg₂ (· + ·) (congrArg₂ (· + ·) (term_eq (fun l => (rows m c t (y 0) l).trans ?_) (fun l => ?_) ?_ ?_)
    (term_eq (fun l => (rows m c t (y 0) l).trans ?_) (fun l => ?_) ?_ ?_)) (term_eq (fun l => (rows m c t (y 0) l).trans ?_) (fun l => ?_) ?_ ?_)
  case refine_4 => blk_point [iblk, V, idx t]
  case refine_8 => blk_point [iblk, V, idx t]
  case refine_12 =>
    refine Eq.trans (Finset.sum_congr rfl fun k _ => Ideal.mul_congr rfl (weights_blk m c t k (y 1))) ?_
    refine (reorder (fun k => (iblk m c 4 t : S512x512.Idx → EReal) (ix2 (y 0) k))
      (fun k => m ((c : Thread nD τ).loc main_arg9) (ix2 k (⟨512 * (t.val % 4) + (y 1).val, by have h : (y 1).val < 512 := (y 1).isLt; omega⟩ : Fin 2048)))).trans ?_
    refine Finset.sum_congr rfl fun k _ => Ideal.mul_congr ?_ ?_
    · dsimp only
      blk_point [iblk, V, idx t]
    · refine congrArg (m ((c : Thread nD τ).loc main_arg9)) ?_
      blk_ext [idx t]
  case refine_1 | refine_5 | refine_9 => blk_point [idx t]
  case refine_2 | refine_6 | refine_10 => blk_point [iblk, gate_w m c, idx t]
  case refine_3 | refine_7 | refine_11 => blk_point [iblk, gate_b m c, idx t]

/-- The call's result is the plain function of the arguments. -/
theorem final (c : Dev nD) :
    (dats m 0 c).arrAt 14 (cfgs 0).N = Cert.MergeRefIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 14 _ (by decide +kernel) fun t hf y => ?_
  blk_simp
  rw [after0_14]
  exact point m c t y

end Cert.MergeIdeal.Plain

end
-- ==== Proof.Ple.Final.lean ====
module

public import proofs.«01_k».proof.Proof.Gen.PleIdeal.Value
public import proofs.«01_k».proof.Proof.Gen.PleRefIdeal.Read
public import Idealize.ShloMosaic.Lib.Pipeline.ValueKit

/-! The gated embedding call leaves the plain formula. -/

@[expose] public section

set_option maxRecDepth 16384
set_option Elab.async false

noncomputable section

namespace Cert.PleIdeal.Plain

open Idealize.ShloMosaic Idealize.ShloMosaic.TcCoe Idealize.SL.Sem
open Idealize.ShloMosaic.Pipeline (Dat)
open Cert.PleIdeal Cert.PleIdeal.Gen

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ t.val < 32 :=
  (by decide +kernel : ∀ t : Fin grid0.N, _)

theorem logistic_eq (x : EReal) : Ideal.logistic x = Ideal.div 1 (1 + Ideal.exp (-x)) := rfl

theorem point (c : Dev nD) (t : Fin cfg0.N) (y) :
    k0_pay1 (iblk m c 0 t) (iblk m c 2 t) (iblk m c 3 t) (iblk m c 1 t) (iblk m c 4 t) y
      = Cert.PleRefIdeal.Read.val_main_v22 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (((cfg0.win 5).blk t).view.emb y) := by
  rw [← Cert.PleRefIdeal.Read.val_main_v22_eq]
  pointwise [k0_pay1]
  simp only [logistic_eq]
  blk_point [iblk, V, idx t]

theorem final (c : Dev nD) : (dats m 0 c).arrAt 5 (cfgs 0).N
    = Cert.PleRefIdeal.Read.val_main_v22 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; frame_out
  exact point m c t y

end Cert.PleIdeal.Plain

end
-- ==== Proof.OutProj.Final.lean ====
module

public import proofs.«01_k».proof.Proof.Gen.OutProjIdeal.Value
public import proofs.«01_k».proof.Proof.Gen.OutProjRefIdeal.Read
public import Idealize.ShloMosaic.Lib.Pipeline.ValueKit

/-!
The output projection: what the tiled call leaves in its two results is the two plain functions of its arguments.
-/

@[expose] public section

set_option maxRecDepth 16384
set_option Elab.async false

noncomputable section

namespace Cert.OutProjIdeal.Plain

open Idealize.ShloMosaic Idealize.ShloMosaic.TcCoe Idealize.SL.Sem
open Idealize.ShloMosaic.Pipeline (Dat)
open Cert.OutProjIdeal Cert.OutProjIdeal.Gen

variable (m : (ℓ : Loc nD τ sig) → Buf (Elt Ideal) ℓ)

/-- The block of each array a point works on: point `t` takes the rows `256 t …` and the whole of the other arrays. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![t.val, 0] ∧ t.val < 32 :=
  (by decide +kernel : ∀ t : Fin grid0.N, _)

/-- The stream after the mix, entry by entry. -/
theorem point (c : Dev nD) (t : Fin cfg0.N) (y) :
    k0_pay1 (iblk m c 0 t) (iblk m c 1 t) (iblk m c 2 t) (iblk m c 3 t) y
      = Cert.OutProjRefIdeal.Read.val_main_v15 (F := Ideal) (m ((c : Thread nD τ).loc main_arg0)) (m ((c : Thread nD τ).loc main_arg1)) (m ((c : Thread nD τ).loc main_arg2)) (m ((c : Thread nD τ).loc main_arg3)) (((cfg0.win 5).blk t).view.emb y) := by
  rw [← Cert.OutProjRefIdeal.Read.val_main_v15_eq]
  pointwise [k0_pay1]
  blk_point [iblk, V, idx t]

/-- The kernel's second payload, entry by entry, in terms of its first. -/
theorem norm_apply (f : FVec Ideal S256x2048 .f32) (v0 v1 v2 v5 v21 y) (hf : k0_pay1 (F := Ideal) v0 v1 v2 v5 = f) :
    k0_pay2 (F := Ideal) v0 v1 v2 v5 v21 y
      = f y * Ideal.rsqrt (Ideal.div (∑ k : Fin 2048, f (ix2 (y 0) k) * f (ix2 (y 0) k)) (Ideal.ofBits .f32 1157627904#32)
          + Ideal.ofBits .f32 897988541#32) * v21 (ix2 0 (y 1)) := by
  unfold k0_pay2
  rw [hf]
  pointwise []

/-- The reference's second result, entry by entry, in terms of its first. -/
theorem norm_ref (x0 x1 x2 x3 x4 i) :
    Cert.OutProjRefIdeal.Read.val_main_v29 (F := Ideal) x0 x1 x2 x3 x4 i
      = Cert.OutProjRefIdeal.Read.val_main_v15 (F := Ideal) x0 x1 x2 x3 i
          * Ideal.rsqrt (Ideal.div (∑ k : Fin 2048, Cert.OutProjRefIdeal.Read.val_main_v15 (F := Ideal) x0 x1 x2 x3 (ix2 (i 0) k)
              * Cert.OutProjRefIdeal.Read.val_main_v15 (F := Ideal) x0 x1 x2 x3 (ix2 (i 0) k)) (Ideal.ofBits .f32 1157627904#32)
            + Ideal.ofBits .f32 897988541#32) * x4 (ix1 (i 1)) := by
  open Cert.OutProjRefIdeal.Read in
  unfold val_main_v29 val_main_v28 val_main_v25 val_main_v24 val_main_v23 val_main_v22 val_main_v20 val_main_v18 val_main_v17 val_main_v16 val_main_v27 val_main_v26 val_main_v21 val_main_v19 val_main_cst_2 val_main_cst_3 val_main_cst_4
  generalize val_main_v15 (F := Ideal) x0 x1 x2 x3 = f
  pointwise []

/-- The normalised stream, entry by entry. -/
theorem point_norm (c : Dev nD) (t : Fin cfg0.N) (y) :
    k0_pay2 (iblk m c 0 t) (iblk m c 1 t) (iblk m c 2 t) (iblk m c 3 t) (iblk m c 4 t) y
      = Cert.OutProjRefIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  rw [norm_apply _ _ _ _ _ _ y rfl, norm_ref]
  simp only [point m c t]
  generalize Cert.OutProjRefIdeal.Read.val_main_v15 (F := Ideal) (m ((c : Thread nD τ).loc main_arg0)) (m ((c : Thread nD τ).loc main_arg1)) (m ((c : Thread nD τ).loc main_arg2)) (m ((c : Thread nD τ).loc main_arg3)) = f
  blk_point [iblk, V, idx t]

/-- The first result is the plain function of the arguments. -/
theorem final (c : Dev nD) :
    (dats m 0 c).arrAt 5 (cfgs 0).N = Cert.OutProjRefIdeal.Read.val_main_v15 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point m c t y

/-- The second result is the plain function of the arguments. -/
theorem final_norm (c : Dev nD) :
    (dats m 0 c).arrAt 6 (cfgs 0).N = Cert.OutProjRefIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]; frame_out
  exact point_norm m c t y

end Cert.OutProjIdeal.Plain

end
-- ==== Proof.PreMix.Base.lean ====
module

public import proofs.«01_k».proof.Proof.Gen.PreMixIdeal.Value
public import proofs.«01_k».proof.Proof.Gen.PreMixRefIdeal.Read
public import Idealize.ShloMosaic.Lib.Pipeline.ValueKit

/-!
The projections before the attention: the values that the results are cut from, block by block.
-/

@[expose] public section

set_option maxRecDepth 16384
set_option Elab.async false

noncomputable section

namespace Cert.PreMixIdeal.Plain

open Idealize.ShloMosaic Idealize.ShloMosaic.TcCoe Idealize.SL.Sem
open Idealize.ShloMosaic.Pipeline (Dat)
open Cert.PreMixIdeal Cert.PreMixIdeal.Gen
open Cert.PreMixRefIdeal.Read

variable (m : (ℓ : Loc nD τ sig) → Buf (Elt Ideal) ℓ)

/-- The block of each argument a point works on: point `t` takes the rows `256 t …` of the stream and of the rotary
tables, and the whole of the other arrays. -/
theorem idx_in : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0, 0]
    ∧ win0_7.index t = ![t.val, 0] ∧ win0_8.index t = ![t.val, 0] ∧ t.val < 32 :=
  (by decide +kernel : ∀ t : Fin grid0.N, _)

/-- The token that row `k` of point `t`'s blocks holds. -/
def row (t : Fin cfg0.N) (k : Fin 256) : Fin 8192 :=
  ⟨t.val * 256 + k.val, by have := (idx_in t).2.2.2.2.2.2.2.2.2; have := k.isLt; omega⟩

/-- The combined projection. -/
theorem proj (c : Dev nD) (t : Fin cfg0.N) :
    k0_pay1 (iblk m c 0 t) (iblk m c 1 t) (iblk m c 2 t)
      = fun y => val_main_v13 (F := Ideal) (m ((c : Thread nD τ).loc main_arg0)) (m ((c : Thread nD τ).loc main_arg1)) (m ((c : Thread nD τ).loc main_arg2)) (ix2 (row t (y 0)) (y 1)) := by
  funext y
  unfold val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise [k0_pay1]
  blk_point [iblk, V, idx_in t, row]

/-- The normalised key latent. -/
theorem latent (c : Dev nD) (t : Fin cfg0.N) :
    k0_pay2 (iblk m c 0 t) (iblk m c 1 t) (iblk m c 2 t) (iblk m c 4 t)
      = fun y => val_main_v36 (F := Ideal) (m ((c : Thread nD τ).loc main_arg0)) (m ((c : Thread nD τ).loc main_arg1)) (m ((c : Thread nD τ).loc main_arg2)) (m ((c : Thread nD τ).loc main_arg4)) (ix2 (row t (y 0)) (y 1)) := by
  funext y
  unfold k0_pay2
  rw [proj]
  unfold val_main_v36 val_main_v35 val_main_v34 val_main_v33 val_main_v32 val_main_v31 val_main_v30 val_main_v29 val_main_v28 val_main_v27 val_main_v26 val_main_v25 val_main_v24 val_main_v15 val_main_cst_2 val_main_cst_3 val_main_cst_4
  generalize val_main_v13 (F := Ideal) (m ((c : Thread nD τ).loc main_arg0)) (m ((c : Thread nD τ).loc main_arg1)) (m ((c : Thread nD τ).loc main_arg2)) = P
  pointwise []
  blk_point [iblk, V, idx_in t, row]

/-- The rotated key. -/
theorem rotary (c : Dev nD) (t : Fin cfg0.N) :
    k0_pay5 (k0_pay3 (iblk m c 0 t) (iblk m c 1 t) (iblk m c 2 t) (iblk m c 7 t)) (k0_pay4 (iblk m c 0 t) (iblk m c 1 t) (iblk m c 2 t) (iblk m c 8 t))
      = fun y => val_main_v39 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (ix2 (row t (y 0)) (y 1)) := by
  funext y
  unfold k0_pay5 k0_pay3 k0_pay4
  rw [proj]
  unfold val_main_v39 val_main_v38 val_main_v37 val_main_v16 val_main_v17
  generalize val_main_v13 (F := Ideal) (m ((c : Thread nD τ).loc main_arg0)) (m ((c : Thread nD τ).loc main_arg1)) (m ((c : Thread nD τ).loc main_arg2)) = P
  pointwise []
  blk_point [iblk, V, idx_in t, row]

/-- The queries of the latent attention before the key latent's weights. -/
theorem queries (c : Dev nD) (t : Fin cfg0.N) :
    k0_pay48 (k0_pay1 (iblk m c 0 t) (iblk m c 1 t) (iblk m c 2 t)) (iblk m c 3 t) (iblk m c 5 t)
      = fun y => val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (ix2 (row t (y 0)) (y 1)) := by
  funext y
  rw [proj]
  unfold val_main_v53 val_main_v52 val_main_v51 val_main_v50 val_main_v49 val_main_v48 val_main_v47 val_main_v46 val_main_v45 val_main_v44 val_main_v43 val_main_v42 val_main_v41 val_main_v40 val_main_v14 val_main_cst_5 val_main_cst_6 val_main_cst_7
  generalize val_main_v13 (F := Ideal) (m ((c : Thread nD τ).loc main_arg0)) (m ((c : Thread nD τ).loc main_arg1)) (m ((c : Thread nD τ).loc main_arg2)) = P
  pointwise [k0_pay48]
  blk_point [iblk, V, idx_in t, row]

/-- The combined projection, as the body names it. -/
theorem pay72 (c : Dev nD) (t : Fin cfg0.N) :
    k0_pay72 (iblk m c 0 t) (iblk m c 1 t) (iblk m c 2 t) (iblk m c 3 t) (iblk m c 4 t) (iblk m c 5 t) (iblk m c 6 t) (iblk m c 7 t) (iblk m c 8 t) = fun y => val_main_v13 (F := Ideal) (m ((c : Thread nD τ).loc main_arg0)) (m ((c : Thread nD τ).loc main_arg1)) (m ((c : Thread nD τ).loc main_arg2)) (ix2 (row t (y 0)) (y 1)) := by
  unfold k0_pay72
  simp (disch := decide) only [View.ld_unit_lit']
  exact proj m c t

/-- The normalised key latent, as the body names it. -/
theorem pay73 (c : Dev nD) (t : Fin cfg0.N) :
    k0_pay73 (iblk m c 0 t) (iblk m c 1 t) (iblk m c 2 t) (iblk m c 3 t) (iblk m c 4 t) (iblk m c 5 t) (iblk m c 6 t) (iblk m c 7 t) (iblk m c 8 t) = fun y => val_main_v36 (F := Ideal) (m ((c : Thread nD τ).loc main_arg0)) (m ((c : Thread nD τ).loc main_arg1)) (m ((c : Thread nD τ).loc main_arg2)) (m ((c : Thread nD τ).loc main_arg4)) (ix2 (row t (y 0)) (y 1)) := by
  unfold k0_pay73
  simp (disch := decide) only [View.ld_unit_lit']
  exact latent m c t

/-- The queries, as the body names it. -/
theorem pay77 (c : Dev nD) (t : Fin cfg0.N) :
    k0_pay77 (iblk m c 0 t) (iblk m c 1 t) (iblk m c 2 t) (iblk m c 3 t) (iblk m c 4 t) (iblk m c 5 t) (iblk m c 6 t) (iblk m c 7 t) (iblk m c 8 t) = fun y => val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (ix2 (row t (y 0)) (y 1)) := by
  unfold k0_pay77 k0_pay72
  simp (disch := decide) only [View.ld_unit_lit']
  exact queries m c t

/-- The rotated key, as the body names it. -/
theorem pay5 (c : Dev nD) (t : Fin cfg0.N) :
    k0_pay5 (k0_pay74 (iblk m c 0 t) (iblk m c 1 t) (iblk m c 2 t) (iblk m c 3 t) (iblk m c 4 t) (iblk m c 5 t) (iblk m c 6 t) (iblk m c 7 t) (iblk m c 8 t)) (k0_pay75 (iblk m c 0 t) (iblk m c 1 t) (iblk m c 2 t) (iblk m c 3 t) (iblk m c 4 t) (iblk m c 5 t) (iblk m c 6 t) (iblk m c 7 t) (iblk m c 8 t))
      = fun y => val_main_v39 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (ix2 (row t (y 0)) (y 1)) := by
  unfold k0_pay74 k0_pay75
  simp (disch := decide) only [View.ld_unit_lit']
  exact rotary m c t

end Cert.PreMixIdeal.Plain

end
-- ==== Proof.PreMix.Simple.lean ====
module

public import proofs.«01_k».proof.Proof.PreMix.Base

/-!
The projections before the attention: the results that are columns of the projection, and their transposes.
-/

@[expose] public section

set_option maxRecDepth 16384
set_option Elab.async false

noncomputable section

namespace Cert.PreMixIdeal.Plain

open Idealize.ShloMosaic Idealize.ShloMosaic.TcCoe Idealize.SL.Sem
open Idealize.ShloMosaic.Pipeline (Dat)
open Cert.PreMixIdeal Cert.PreMixIdeal.Gen
open Cert.PreMixRefIdeal.Read

variable (m : (ℓ : Loc nD τ sig) → Buf (Elt Ideal) ℓ)

/-- The block of each result a point writes: the rows, or the columns, `256 t …`. -/
theorem idx_out : ∀ t : Fin cfg0.N, win0_9.index t = ![t.val, 0] ∧ win0_10.index t = ![t.val, 0] ∧ win0_11.index t = ![t.val, 0]
    ∧ win0_12.index t = ![t.val, 0] ∧ win0_13.index t = ![t.val, 0] ∧ win0_14.index t = ![t.val, 0] ∧ win0_15.index t = ![t.val, 0]
    ∧ win0_16.index t = ![0, t.val] ∧ win0_17.index t = ![t.val, 0] ∧ win0_18.index t = ![0, t.val] ∧ win0_19.index t = ![t.val, 0]
    ∧ win0_20.index t = ![0, t.val] ∧ t.val < 32 :=
  (by decide +kernel : ∀ t : Fin grid0.N, _)

/-- Result 0: the normalised key latent. -/
theorem final9 (c : Dev nD) : (dats m 0 c).arrAt 9 (cfgs 0).N = val_main_v36 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 9 _ (by decide +kernel) fun t _ y => ?_
  blk_simp
  rw [after0_9]; frame_out
  rw [pay73]
  generalize val_main_v36 (F := Ideal) (m ((c : Thread nD τ).loc main_arg0)) (m ((c : Thread nD τ).loc main_arg1)) (m ((c : Thread nD τ).loc main_arg2)) (m ((c : Thread nD τ).loc main_arg4)) = P
  pointwise []
  blk_point [idx_out t, row]

/-- Result 1: the rotated key. -/
theorem final10 (c : Dev nD) : (dats m 0 c).arrAt 10 (cfgs 0).N = val_main_v90 (F := Ideal) (m ((c : Thread nD τ).loc main_arg0)) (m ((c : Thread nD τ).loc main_arg1)) (m ((c : Thread nD τ).loc main_arg2)) (m ((c : Thread nD τ).loc main_arg7)) (m ((c : Thread nD τ).loc main_arg8)) := by
  refine (dats m 0 c).arrAt_eq_of_covers 10 _ (by decide +kernel) fun t _ y => ?_
  blk_simp
  rw [after0_10]; frame_out
  unfold k0_pay10 val_main_v90
  rw [pay5]
  generalize val_main_v39 (F := Ideal) (m ((c : Thread nD τ).loc main_arg0)) (m ((c : Thread nD τ).loc main_arg1)) (m ((c : Thread nD τ).loc main_arg2)) (m ((c : Thread nD τ).loc main_arg7)) (m ((c : Thread nD τ).loc main_arg8)) = P
  pointwise []
  blk_point [idx_out t, row]

/-- Result 2: the differential attention's keys. -/
theorem final11 (c : Dev nD) : (dats m 0 c).arrAt 11 (cfgs 0).N = val_main_v19 (F := Ideal) (m ((c : Thread nD τ).loc main_arg0)) (m ((c : Thread nD τ).loc main_arg1)) (m ((c : Thread nD τ).loc main_arg2)) := by
  refine (dats m 0 c).arrAt_eq_of_covers 11 _ (by decide +kernel) fun t _ y => ?_
  blk_simp
  rw [after0_11]; frame_out
  unfold k0_pay6 val_main_v19
  rw [pay72]
  generalize val_main_v13 (F := Ideal) (m ((c : Thread nD τ).loc main_arg0)) (m ((c : Thread nD τ).loc main_arg1)) (m ((c : Thread nD τ).loc main_arg2)) = P
  pointwise []
  blk_point [idx_out t, row]

/-- Result 3: the differential attention's values. -/
theorem final12 (c : Dev nD) : (dats m 0 c).arrAt 12 (cfgs 0).N = val_main_v20 (F := Ideal) (m ((c : Thread nD τ).loc main_arg0)) (m ((c : Thread nD τ).loc main_arg1)) (m ((c : Thread nD τ).loc main_arg2)) := by
  refine (dats m 0 c).arrAt_eq_of_covers 12 _ (by decide +kernel) fun t _ y => ?_
  blk_simp
  rw [after0_12]; frame_out
  unfold k0_pay7 val_main_v20
  rw [pay72]
  generalize val_main_v13 (F := Ideal) (m ((c : Thread nD τ).loc main_arg0)) (m ((c : Thread nD τ).loc main_arg1)) (m ((c : Thread nD τ).loc main_arg2)) = P
  pointwise []
  blk_point [idx_out t, row]

/-- Result 4: the block-sparse attention's keys. -/
theorem final13 (c : Dev nD) : (dats m 0 c).arrAt 13 (cfgs 0).N = val_main_v22 (F := Ideal) (m ((c : Thread nD τ).loc main_arg0)) (m ((c : Thread nD τ).loc main_arg1)) (m ((c : Thread nD τ).loc main_arg2)) := by
  refine (dats m 0 c).arrAt_eq_of_covers 13 _ (by decide +kernel) fun t _ y => ?_
  blk_simp
  rw [after0_13]; frame_out
  unfold k0_pay8 val_main_v22
  rw [pay72]
  generalize val_main_v13 (F := Ideal) (m ((c : Thread nD τ).loc main_arg0)) (m ((c : Thread nD τ).loc main_arg1)) (m ((c : Thread nD τ).loc main_arg2)) = P
  pointwise []
  blk_point [idx_out t, row]

/-- Result 5: the block-sparse attention's values. -/
theorem final14 (c : Dev nD) : (dats m 0 c).arrAt 14 (cfgs 0).N = val_main_v23 (F := Ideal) (m ((c : Thread nD τ).loc main_arg0)) (m ((c : Thread nD τ).loc main_arg1)) (m ((c : Thread nD τ).loc main_arg2)) := by
  refine (dats m 0 c).arrAt_eq_of_covers 14 _ (by decide +kernel) fun t _ y => ?_
  blk_simp
  rw [after0_14]; frame_out
  unfold k0_pay9 val_main_v23
  rw [pay72]
  generalize val_main_v13 (F := Ideal) (m ((c : Thread nD τ).loc main_arg0)) (m ((c : Thread nD τ).loc main_arg1)) (m ((c : Thread nD τ).loc main_arg2)) = P
  pointwise []
  blk_point [idx_out t, row]

/-- Result 7: the normalised key latent, transposed. -/
theorem final16 (c : Dev nD) : (dats m 0 c).arrAt 16 (cfgs 0).N = val_main_v94 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 16 _ (by decide +kernel) fun t _ y => ?_
  blk_simp
  rw [after0_16]; frame_out
  unfold k0_pay13 val_main_v94 val_main_v93
  rw [pay73]
  generalize val_main_v36 (F := Ideal) (m ((c : Thread nD τ).loc main_arg0)) (m ((c : Thread nD τ).loc main_arg1)) (m ((c : Thread nD τ).loc main_arg2)) (m ((c : Thread nD τ).loc main_arg4)) = P
  pointwise []
  blk_point [idx_out t, row]

/-- Result 8: the differential attention's keys, in the format of the attention. -/
theorem final17 (c : Dev nD) : (dats m 0 c).arrAt 17 (cfgs 0).N = val_main_v95 (F := Ideal) (m ((c : Thread nD τ).loc main_arg0)) (m ((c : Thread nD τ).loc main_arg1)) (m ((c : Thread nD τ).loc main_arg2)) := by
  refine (dats m 0 c).arrAt_eq_of_covers 17 _ (by decide +kernel) fun t _ y => ?_
  blk_simp
  rw [after0_17]; frame_out
  unfold k0_pay14 k0_pay6 val_main_v95 val_main_v19
  rw [pay72]
  generalize val_main_v13 (F := Ideal) (m ((c : Thread nD τ).loc main_arg0)) (m ((c : Thread nD τ).loc main_arg1)) (m ((c : Thread nD τ).loc main_arg2)) = P
  pointwise []
  blk_point [idx_out t, row]

/-- Result 9: the differential attention's values, transposed. -/
theorem final18 (c : Dev nD) : (dats m 0 c).arrAt 18 (cfgs 0).N = val_main_v97 (F := Ideal) (m ((c : Thread nD τ).loc main_arg0)) (m ((c : Thread nD τ).loc main_arg1)) (m ((c : Thread nD τ).loc main_arg2)) := by
  refine (dats m 0 c).arrAt_eq_of_covers 18 _ (by decide +kernel) fun t _ y => ?_
  blk_simp
  rw [after0_18]; frame_out
  unfold k0_pay15 k0_pay7 val_main_v97 val_main_v96 val_main_v20
  rw [pay72]
  generalize val_main_v13 (F := Ideal) (m ((c : Thread nD τ).loc main_arg0)) (m ((c : Thread nD τ).loc main_arg1)) (m ((c : Thread nD τ).loc main_arg2)) = P
  pointwise []
  blk_point [idx_out t, row]

/-- Result 10: the block-sparse attention's keys, in the format of the attention. -/
theorem final19 (c : Dev nD) : (dats m 0 c).arrAt 19 (cfgs 0).N = val_main_v98 (F := Ideal) (m ((c : Thread nD τ).loc main_arg0)) (m ((c : Thread nD τ).loc main_arg1)) (m ((c : Thread nD τ).loc main_arg2)) := by
  refine (dats m 0 c).arrAt_eq_of_covers 19 _ (by decide +kernel) fun t _ y => ?_
  blk_simp
  rw [after0_19]; frame_out
  unfold k0_pay16 k0_pay8 val_main_v98 val_main_v22
  rw [pay72]
  generalize val_main_v13 (F := Ideal) (m ((c : Thread nD τ).loc main_arg0)) (m ((c : Thread nD τ).loc main_arg1)) (m ((c : Thread nD τ).loc main_arg2)) = P
  pointwise []
  blk_point [idx_out t, row]

/-- Result 11: the block-sparse attention's values, transposed. -/
theorem final20 (c : Dev nD) : (dats m 0 c).arrAt 20 (cfgs 0).N = val_main_v100 (F := Ideal) (m ((c : Thread nD τ).loc main_arg0)) (m ((c : Thread nD τ).loc main_arg1)) (m ((c : Thread nD τ).loc main_arg2)) := by
  refine (dats m 0 c).arrAt_eq_of_covers 20 _ (by decide +kernel) fun t _ y => ?_
  blk_simp
  rw [after0_20]; frame_out
  unfold k0_pay17 k0_pay9 val_main_v100 val_main_v99 val_main_v23
  rw [pay72]
  generalize val_main_v13 (F := Ideal) (m ((c : Thread nD τ).loc main_arg0)) (m ((c : Thread nD τ).loc main_arg1)) (m ((c : Thread nD τ).loc main_arg2)) = P
  pointwise []
  blk_point [idx_out t, row]

end Cert.PreMixIdeal.Plain

end
-- ==== Proof.PreMix.Joined.lean ====
module

public import proofs.«01_k».proof.Proof.PreMix.Simple

/-!
The projections before the attention: the joined keys and the means of the key blocks.
-/

@[expose] public section

set_option maxRecDepth 16384
set_option Elab.async false

noncomputable section

namespace Cert.PreMixIdeal.Plain

open Idealize.ShloMosaic Idealize.ShloMosaic.TcCoe Idealize.SL.Sem
open Idealize.ShloMosaic.Pipeline (Dat)
open Cert.PreMixIdeal Cert.PreMixIdeal.Gen
open Cert.PreMixRefIdeal.Read

variable (m : (ℓ : Loc nD τ sig) → Buf (Elt Ideal) ℓ)

/-- Result 6: the latent and the rotated key side by side. -/
theorem final15 (c : Dev nD) : (dats m 0 c).arrAt 15 (cfgs 0).N = val_main_v92 (F := Ideal) (m ((c : Thread nD τ).loc main_arg0)) (m ((c : Thread nD τ).loc main_arg1)) (m ((c : Thread nD τ).loc main_arg2)) (m ((c : Thread nD τ).loc main_arg4)) (m ((c : Thread nD τ).loc main_arg7)) (m ((c : Thread nD τ).loc main_arg8)) := by
  refine (dats m 0 c).arrAt_eq_of_covers 15 _ (by decide +kernel) fun t _ y => ?_
  blk_simp
  rw [after0_15]
  canon_tiles x h using cover0_15 ..
  · unfold k0_pay12 val_main_v92 val_main_v91
    rw [pay5]
    generalize val_main_v39 (F := Ideal) (m ((c : Thread nD τ).loc main_arg0)) (m ((c : Thread nD τ).loc main_arg1)) (m ((c : Thread nD τ).loc main_arg2)) (m ((c : Thread nD τ).loc main_arg7)) (m ((c : Thread nD τ).loc main_arg8)) = P
    generalize val_main_v36 (F := Ideal) (m ((c : Thread nD τ).loc main_arg0)) (m ((c : Thread nD τ).loc main_arg1)) (m ((c : Thread nD τ).loc main_arg2)) (m ((c : Thread nD τ).loc main_arg4)) = Q
    pointwise []
    blk_simp [idx_out t]
    split_ifs <;> first | (exfalso; omega) | blk_point [idx_out t, row]
  · unfold k0_pay11 val_main_v92 val_main_v91
    rw [pay73]
    generalize val_main_v39 (F := Ideal) (m ((c : Thread nD τ).loc main_arg0)) (m ((c : Thread nD τ).loc main_arg1)) (m ((c : Thread nD τ).loc main_arg2)) (m ((c : Thread nD τ).loc main_arg7)) (m ((c : Thread nD τ).loc main_arg8)) = P
    generalize val_main_v36 (F := Ideal) (m ((c : Thread nD τ).loc main_arg0)) (m ((c : Thread nD τ).loc main_arg1)) (m ((c : Thread nD τ).loc main_arg2)) (m ((c : Thread nD τ).loc main_arg4)) = Q
    pointwise []
    blk_simp [idx_out t]
    split_ifs <;> first | (exfalso; omega) | blk_point [idx_out t, row]

/-- Multiplying by 2⁻⁸ is dividing by 2⁸. -/
theorem mean_word (x : EReal) : x * Ideal.ofBits FTy.f32 998244352#32 = Ideal.div x (Ideal.ofBits FTy.f32 1132462080#32) := by
  have h1 : Ideal.ofBits FTy.f32 998244352#32 = (((1 : ℝ) / 256 : ℝ) : EReal) := by
    simp [Ideal.ofBits, Ideal.ieee, -EReal.coe_mul]; norm_num
  have h2 : Ideal.ofBits FTy.f32 1132462080#32 = ((256 : ℝ) : EReal) := by
    simp [Ideal.ofBits, Ideal.ieee, -EReal.coe_mul]; norm_num
  have h0 : ((256 : ℝ) : EReal) ≠ 0 := by
    rw [← EReal.coe_zero]; exact fun h => absurd (EReal.coe_injective h) (by norm_num)
  rw [h1, h2]; unfold Ideal.div
  rw [if_neg h0, ← EReal.coe_inv, one_div]

/-- The block of the means a point writes. -/
theorem idx_mean : ∀ t : Fin cfg0.N, win0_24.index t = ![t.val, 0, 0] ∧ t.val < 32 := (by decide +kernel : ∀ t : Fin grid0.N, _)

/-- Result 15: the mean of every block's keys. -/
theorem final24 (c : Dev nD) : (dats m 0 c).arrAt 24 (cfgs 0).N = val_main_v112 (F := Ideal) (m ((c : Thread nD τ).loc main_arg0)) (m ((c : Thread nD τ).loc main_arg1)) (m ((c : Thread nD τ).loc main_arg2)) := by
  refine (dats m 0 c).arrAt_eq_of_covers 24 _ (by decide +kernel) fun t _ y => ?_
  blk_simp
  rw [after0_24]; frame_out
  unfold k0_pay47 k0_pay8 val_main_v112 val_main_v111 val_main_v89 val_main_v88 val_main_cst_12 val_main_v87 val_main_cst_11 val_main_v86 val_main_v22
  rw [pay72]
  generalize val_main_v13 (F := Ideal) (m ((c : Thread nD τ).loc main_arg0)) (m ((c : Thread nD τ).loc main_arg1)) (m ((c : Thread nD τ).loc main_arg2)) = P
  pointwise []
  rw [mean_word]
  blk_point [idx_mean t, row]

end Cert.PreMixIdeal.Plain

end
-- ==== Proof.PreMix.Lanes.lean ====
module

public import proofs.«01_k».proof.Proof.PreMix.Base

/-!
The projections before the attention: the lanes of the padded queries.
-/

@[expose] public section

set_option maxRecDepth 16384
set_option Elab.async false

noncomputable section

namespace Cert.PreMixIdeal.Plain

open Idealize.ShloMosaic Idealize.ShloMosaic.TcCoe Idealize.SL.Sem
open Idealize.ShloMosaic.Pipeline (Dat)
open Cert.PreMixIdeal Cert.PreMixIdeal.Gen
open Cert.PreMixRefIdeal.Read

variable (m : (ℓ : Loc nD τ sig) → Buf (Elt Ideal) ℓ)

/-- The block of the padded queries a point writes. -/
theorem idx_heads : ∀ t : Fin cfg0.N, win0_22.index t = ![t.val, 0, 0, 0] ∧ win0_23.index t = ![t.val, 0, 0, 0] ∧ win0_21.index t = ![t.val, 0, 0, 0] ∧ t.val < 32 :=
  (by decide +kernel : ∀ t : Fin grid0.N, _)

/-- A selection by the mask of the first sixty-four lanes. -/
theorem lanes {α : Type} (y : S256x128.Idx) (a b : α) : Scalar.select (k0_pay18 y) a b = if (y 1).val < 64 then a else b := by
  have h : k0_pay18 y = if (y 1).val < 64 then 1#1 else 0#1 := by
    unfold k0_pay18
    pointwise []
    generalize y 1 = k
    revert k
    decide +kernel
  rw [h]
  by_cases h : (y 1).val < 64
  · rw [if_pos h, if_pos h]; rfl
  · rw [if_neg h, if_neg h]; rfl

/-- A value in the first lanes of a first head, zero in the others. -/
theorem first_lanes {α : Type} {p c₁ c₂ c₃ : Prop} [Decidable p] [Decidable c₁] [Decidable c₂] [Decidable c₃] {A Z : α}
    {B : c₁ → c₂ → α} {C : ¬c₁ → ¬c₃ → α} (h₁ : c₁) (h₂ : c₂ ↔ p) (hB : ∀ u v, A = B u v) :
    (if p then A else Z) = dite c₁ (fun h => dite c₂ (fun h' => B h h') fun _ => Z) fun h => dite c₃ (fun _ => Z) fun h' => C h h' := by
  rw [dif_pos h₁]
  by_cases hp : p
  · rw [if_pos hp, dif_pos (h₂.mpr hp)]; exact hB _ _
  · rw [if_neg hp, dif_neg fun h => hp (h₂.mp h)]

/-- A value in the last lanes of a last head, zero in the others. -/
theorem last_lanes {α : Type} {p c₁ c₂ c₃ : Prop} [Decidable p] [Decidable c₁] [Decidable c₂] [Decidable c₃] {A Z : α}
    {B : c₁ → c₂ → α} {C : ¬c₁ → ¬c₃ → α} (h₁ : ¬c₁) (h₂ : c₃ ↔ p) (hC : ∀ u v, A = C u v) :
    (if p then Z else A) = dite c₁ (fun h => dite c₂ (fun h' => B h h') fun _ => Z) fun h => dite c₃ (fun _ => Z) fun h' => C h h' := by
  rw [dif_neg h₁]
  by_cases hp : p
  · rw [if_pos hp, dif_pos (h₂.mpr hp)]
  · rw [if_neg hp, dif_neg fun h => hp (h₂.mp h)]; exact hC _ _

end Cert.PreMixIdeal.Plain

end
-- ==== Proof.PreMix.Heads.lean ====
module

public import proofs.«01_k».proof.Proof.PreMix.Lanes

/-!
The projections before the attention: the padded queries of the differential attention.
-/

@[expose] public section

set_option maxRecDepth 16384
set_option Elab.async false

noncomputable section

namespace Cert.PreMixIdeal.Plain

open Idealize.ShloMosaic Idealize.ShloMosaic.TcCoe Idealize.SL.Sem
open Idealize.ShloMosaic.Pipeline (Dat)
open Cert.PreMixIdeal Cert.PreMixIdeal.Gen
open Cert.PreMixRefIdeal.Read

variable (m : (ℓ : Loc nD τ sig) → Buf (Elt Ideal) ℓ)

set_option maxHeartbeats 2000000 in
/-- Result 13: the scaled queries of the differential attention, each half in its lanes. -/
theorem final22 (c : Dev nD) : (dats m 0 c).arrAt 22 (cfgs 0).N = val_main_v107 (F := Ideal) (m ((c : Thread nD τ).loc main_arg0)) (m ((c : Thread nD τ).loc main_arg1)) (m ((c : Thread nD τ).loc main_arg2)) := by
  refine (dats m 0 c).arrAt_eq_of_covers 22 _ (by decide +kernel) fun t _ y => ?_
  blk_simp
  rw [after0_22]
  unfold val_main_v107 val_main_v106 val_main_v105 val_main_v77 val_main_v74 val_main_v76 val_main_v73 val_main_v75 val_main_v72 val_main_v71 val_main_v70 val_main_v69 val_main_v18 val_main_cst_8 val_main_cst_9
  canon_tiles x h using cover0_22 ..
  · unfold k0_pay32 k0_pay31 k0_pay29
    rw [pay72]
    generalize val_main_v13 (F := Ideal) (m ((c : Thread nD τ).loc main_arg0)) (m ((c : Thread nD τ).loc main_arg1)) (m ((c : Thread nD τ).loc main_arg2)) = P
    pointwise [k0_pay76, lanes]
    blk_simp [idx_heads t]
    refine last_lanes (by omega) (by omega) fun u v => ?_
    blk_point [idx_heads t, row]
  · unfold k0_pay30 k0_pay29
    rw [pay72]
    generalize val_main_v13 (F := Ideal) (m ((c : Thread nD τ).loc main_arg0)) (m ((c : Thread nD τ).loc main_arg1)) (m ((c : Thread nD τ).loc main_arg2)) = P
    pointwise [k0_pay76, lanes]
    blk_simp [idx_heads t]
    refine first_lanes (by omega) (by omega) fun u v => ?_
    blk_point [idx_heads t, row]
  · unfold k0_pay28 k0_pay26
    rw [pay72]
    generalize val_main_v13 (F := Ideal) (m ((c : Thread nD τ).loc main_arg0)) (m ((c : Thread nD τ).loc main_arg1)) (m ((c : Thread nD τ).loc main_arg2)) = P
    pointwise [k0_pay76, lanes]
    blk_simp [idx_heads t]
    refine last_lanes (by omega) (by omega) fun u v => ?_
    blk_point [idx_heads t, row]
  · unfold k0_pay27 k0_pay26
    rw [pay72]
    generalize val_main_v13 (F := Ideal) (m ((c : Thread nD τ).loc main_arg0)) (m ((c : Thread nD τ).loc main_arg1)) (m ((c : Thread nD τ).loc main_arg2)) = P
    pointwise [k0_pay76, lanes]
    blk_simp [idx_heads t]
    refine first_lanes (by omega) (by omega) fun u v => ?_
    blk_point [idx_heads t, row]
  · unfold k0_pay25 k0_pay24 k0_pay22
    rw [pay72]
    generalize val_main_v13 (F := Ideal) (m ((c : Thread nD τ).loc main_arg0)) (m ((c : Thread nD τ).loc main_arg1)) (m ((c : Thread nD τ).loc main_arg2)) = P
    pointwise [k0_pay76, lanes]
    blk_simp [idx_heads t]
    refine last_lanes (by omega) (by omega) fun u v => ?_
    blk_point [idx_heads t, row]
  · unfold k0_pay23 k0_pay22
    rw [pay72]
    generalize val_main_v13 (F := Ideal) (m ((c : Thread nD τ).loc main_arg0)) (m ((c : Thread nD τ).loc main_arg1)) (m ((c : Thread nD τ).loc main_arg2)) = P
    pointwise [k0_pay76, lanes]
    blk_simp [idx_heads t]
    refine first_lanes (by omega) (by omega) fun u v => ?_
    blk_point [idx_heads t, row]
  · unfold k0_pay21 k0_pay19
    rw [pay72]
    generalize val_main_v13 (F := Ideal) (m ((c : Thread nD τ).loc main_arg0)) (m ((c : Thread nD τ).loc main_arg1)) (m ((c : Thread nD τ).loc main_arg2)) = P
    pointwise [k0_pay76, lanes]
    blk_simp [idx_heads t]
    refine last_lanes (by omega) (by omega) fun u v => ?_
    blk_point [idx_heads t, row]
  · unfold k0_pay20 k0_pay19
    rw [pay72]
    generalize val_main_v13 (F := Ideal) (m ((c : Thread nD τ).loc main_arg0)) (m ((c : Thread nD τ).loc main_arg1)) (m ((c : Thread nD τ).loc main_arg2)) = P
    pointwise [k0_pay76, lanes]
    blk_simp [idx_heads t]
    refine first_lanes (by omega) (by omega) fun u v => ?_
    blk_point [idx_heads t, row]

end Cert.PreMixIdeal.Plain

end
-- ==== Proof.PreMix.Groups.lean ====
module

public import proofs.«01_k».proof.Proof.PreMix.Lanes

/-!
The projections before the attention: the padded queries of the block-sparse attention.
-/

@[expose] public section

set_option maxRecDepth 16384
set_option Elab.async false

noncomputable section

namespace Cert.PreMixIdeal.Plain

open Idealize.ShloMosaic Idealize.ShloMosaic.TcCoe Idealize.SL.Sem
open Idealize.ShloMosaic.Pipeline (Dat)
open Cert.PreMixIdeal Cert.PreMixIdeal.Gen
open Cert.PreMixRefIdeal.Read

variable (m : (ℓ : Loc nD τ sig) → Buf (Elt Ideal) ℓ)

set_option maxHeartbeats 2000000 in
/-- Result 14: the scaled queries of the block-sparse attention, each group in its lanes. -/
theorem final23 (c : Dev nD) : (dats m 0 c).arrAt 23 (cfgs 0).N = val_main_v110 (F := Ideal) (m ((c : Thread nD τ).loc main_arg0)) (m ((c : Thread nD τ).loc main_arg1)) (m ((c : Thread nD τ).loc main_arg2)) := by
  refine (dats m 0 c).arrAt_eq_of_covers 23 _ (by decide +kernel) fun t _ y => ?_
  blk_simp
  rw [after0_23]
  unfold val_main_v110 val_main_v109 val_main_v108 val_main_v85 val_main_v82 val_main_v84 val_main_v81 val_main_v83 val_main_v72 val_main_v80 val_main_v79 val_main_v78 val_main_v21 val_main_cst_10 val_main_cst_9
  canon_tiles x h using cover0_23 ..
  · unfold k0_pay46 k0_pay45 k0_pay43
    rw [pay72]
    generalize val_main_v13 (F := Ideal) (m ((c : Thread nD τ).loc main_arg0)) (m ((c : Thread nD τ).loc main_arg1)) (m ((c : Thread nD τ).loc main_arg2)) = P
    pointwise [k0_pay76, lanes]
    blk_simp [idx_heads t]
    refine last_lanes (by omega) (by omega) fun u v => ?_
    blk_point [idx_heads t, row]
  · unfold k0_pay44 k0_pay43
    rw [pay72]
    generalize val_main_v13 (F := Ideal) (m ((c : Thread nD τ).loc main_arg0)) (m ((c : Thread nD τ).loc main_arg1)) (m ((c : Thread nD τ).loc main_arg2)) = P
    pointwise [k0_pay76, lanes]
    blk_simp [idx_heads t]
    refine last_lanes (by omega) (by omega) fun u v => ?_
    blk_point [idx_heads t, row]
  · unfold k0_pay42 k0_pay40
    rw [pay72]
    generalize val_main_v13 (F := Ideal) (m ((c : Thread nD τ).loc main_arg0)) (m ((c : Thread nD τ).loc main_arg1)) (m ((c : Thread nD τ).loc main_arg2)) = P
    pointwise [k0_pay76, lanes]
    blk_simp [idx_heads t]
    refine last_lanes (by omega) (by omega) fun u v => ?_
    blk_point [idx_heads t, row]
  · unfold k0_pay41 k0_pay40
    rw [pay72]
    generalize val_main_v13 (F := Ideal) (m ((c : Thread nD τ).loc main_arg0)) (m ((c : Thread nD τ).loc main_arg1)) (m ((c : Thread nD τ).loc main_arg2)) = P
    pointwise [k0_pay76, lanes]
    blk_simp [idx_heads t]
    refine last_lanes (by omega) (by omega) fun u v => ?_
    blk_point [idx_heads t, row]
  · unfold k0_pay39 k0_pay38 k0_pay36
    rw [pay72]
    generalize val_main_v13 (F := Ideal) (m ((c : Thread nD τ).loc main_arg0)) (m ((c : Thread nD τ).loc main_arg1)) (m ((c : Thread nD τ).loc main_arg2)) = P
    pointwise [k0_pay76, lanes]
    blk_simp [idx_heads t]
    refine first_lanes (by omega) (by omega) fun u v => ?_
    blk_point [idx_heads t, row]
  · unfold k0_pay37 k0_pay36
    rw [pay72]
    generalize val_main_v13 (F := Ideal) (m ((c : Thread nD τ).loc main_arg0)) (m ((c : Thread nD τ).loc main_arg1)) (m ((c : Thread nD τ).loc main_arg2)) = P
    pointwise [k0_pay76, lanes]
    blk_simp [idx_heads t]
    refine first_lanes (by omega) (by omega) fun u v => ?_
    blk_point [idx_heads t, row]
  · unfold k0_pay35 k0_pay33
    rw [pay72]
    generalize val_main_v13 (F := Ideal) (m ((c : Thread nD τ).loc main_arg0)) (m ((c : Thread nD τ).loc main_arg1)) (m ((c : Thread nD τ).loc main_arg2)) = P
    pointwise [k0_pay76, lanes]
    blk_simp [idx_heads t]
    refine first_lanes (by omega) (by omega) fun u v => ?_
    blk_point [idx_heads t, row]
  · unfold k0_pay34 k0_pay33
    rw [pay72]
    generalize val_main_v13 (F := Ideal) (m ((c : Thread nD τ).loc main_arg0)) (m ((c : Thread nD τ).loc main_arg1)) (m ((c : Thread nD τ).loc main_arg2)) = P
    pointwise [k0_pay76, lanes]
    blk_simp [idx_heads t]
    refine first_lanes (by omega) (by omega) fun u v => ?_
    blk_point [idx_heads t, row]

end Cert.PreMixIdeal.Plain

end
-- ==== Proof.PreMix.Entry.lean ====
module

public import proofs.«01_k».proof.Proof.PreMix.Lanes

/-!
The projections before the attention: an entry of the reference's queries of the latent attention.
-/

@[expose] public section

set_option maxRecDepth 16384
set_option Elab.async false

noncomputable section

namespace Cert.PreMixIdeal.Plain

open Idealize.ShloMosaic Idealize.ShloMosaic.TcCoe Idealize.SL.Sem
open Idealize.ShloMosaic.Pipeline (Dat)
open Cert.PreMixIdeal Cert.PreMixIdeal.Gen
open Cert.PreMixRefIdeal.Read

/-- The first of two joined halves. -/
theorem left_half {α : Type} {p : Prop} [Decidable p] {A : α} {B : p → α} {C : ¬p → α} (h : p) (hA : ∀ u, A = B u) : A = dite p B C := by
  rw [dif_pos h]; exact hA h

/-- The second of two joined halves. -/
theorem right_half {α : Type} {p : Prop} [Decidable p] {A : α} {B : p → α} {C : ¬p → α} (h : ¬p) (hA : ∀ u, A = C u) : A = dite p B C := by
  rw [dif_neg h]; exact hA h

/-- Two joined halves that agree. -/
theorem both_halves {α : Type} {p : Prop} [Decidable p] {B B' : p → α} {C C' : ¬p → α} (hB : ∀ u, B u = B' u) (hC : ∀ u, C u = C' u) :
    dite p B C = dite p B' C' := by
  rw [funext hB, funext hC]

/-- The token of row `k` of block `t`. -/
def token (t : Fin 32) (k : Fin 256) : Fin 8192 := ⟨t.val * 256 + k.val, by omega⟩

/-- An entry of the reference's queries: a query taken to the latent, or its rotated part. -/
theorem entry (x0 : (⟨Cert.PreMixRefIdeal.S8192x2048, .f32⟩ : BufTy).Contents (Elt Ideal)) (x1 : (⟨Cert.PreMixRefIdeal.S2048, .f32⟩ : BufTy).Contents (Elt Ideal)) (x2 : (⟨Cert.PreMixRefIdeal.S2048x2304, .f32⟩ : BufTy).Contents (Elt Ideal)) (x3 : (⟨Cert.PreMixRefIdeal.S384, .f32⟩ : BufTy).Contents (Elt Ideal)) (x5 : (⟨Cert.PreMixRefIdeal.S384x3072, .f32⟩ : BufTy).Contents (Elt Ideal)) (x6 : (⟨Cert.PreMixRefIdeal.S8x128x128, .f32⟩ : BufTy).Contents (Elt Ideal)) (x7 : (⟨Cert.PreMixRefIdeal.S8192x128, .f32⟩ : BufTy).Contents (Elt Ideal)) (x8 : (⟨Cert.PreMixRefIdeal.S8192x128, .f32⟩ : BufTy).Contents (Elt Ideal))
    (i : Cert.PreMixRefIdeal.S32x8x256x256.Idx) :
    val_main_v104 (F := Ideal) x0 x1 x2 x3 x5 x6 x7 x8 i
      = if h : (i 3).val < 128 then
          ∑ k : Fin 128, val_main_v53 (F := Ideal) x0 x1 x2 x3 x5 (ix2 (token (i 0) (i 2)) (⟨(i 1).val * 128 + k.val, by have h1 : (i 1).val < 8 := (i 1).isLt; omega⟩ : Fin 3072))
            * x6 (ix3 (i 1) k (⟨(i 3).val, h⟩ : Fin 128))
        else
          val_main_v53 (F := Ideal) x0 x1 x2 x3 x5 (ix2 (token (i 0) (i 2)) (⟨1024 + ((i 1).val * 128 + ((i 3).val - 128)), by have h1 : (i 1).val < 8 := (i 1).isLt; have h3 : (i 3).val < 256 := (i 3).isLt; omega⟩ : Fin 3072))
              * x7 (ix2 (token (i 0) (i 2)) (⟨(i 3).val - 128, by have h3 : (i 3).val < 256 := (i 3).isLt; omega⟩ : Fin 128))
            + val_main_v53 (F := Ideal) x0 x1 x2 x3 x5 (ix2 (token (i 0) (i 2)) (⟨2048 + ((i 1).val * 128 + ((i 3).val - 128)), by have h1 : (i 1).val < 8 := (i 1).isLt; have h3 : (i 3).val < 256 := (i 3).isLt; omega⟩ : Fin 3072))
              * x8 (ix2 (token (i 0) (i 2)) (⟨(i 3).val - 128, by have h3 : (i 3).val < 256 := (i 3).isLt; omega⟩ : Fin 128)) := by
  unfold val_main_v104 val_main_v103 val_main_v102 val_main_v101 val_main_v68 val_main_v67 val_main_v66 val_main_v65 val_main_v64 val_main_v63 val_main_v62 val_main_v61 val_main_v60 val_main_v59 val_main_v58 val_main_v57 val_main_v56 val_main_v55 val_main_v54
  generalize val_main_v53 (F := Ideal) x0 x1 x2 x3 x5 = P
  pointwise []
  refine both_halves (fun h => Finset.sum_congr rfl fun k _ => ?_) fun h => ?_
  · exact ValueKit.ereal_mul_comm _ _
  · rfl

end Cert.PreMixIdeal.Plain

end
-- ==== Proof.PreMix.Queries.lean ====
module

public import proofs.«01_k».proof.Proof.PreMix.Entry

/-!
The projections before the attention: the queries of the latent attention, taken to the latent and rotated.
-/

@[expose] public section

set_option maxRecDepth 16384
set_option Elab.async false

noncomputable section

namespace Cert.PreMixIdeal.Plain

open Idealize.ShloMosaic Idealize.ShloMosaic.TcCoe Idealize.SL.Sem
open Idealize.ShloMosaic.Pipeline (Dat)
open Cert.PreMixIdeal Cert.PreMixIdeal.Gen
open Cert.PreMixRefIdeal.Read

variable (m : (ℓ : Loc nD τ sig) → Buf (Elt Ideal) ℓ)

set_option maxHeartbeats 4000000 in
/-- Result 12: every head's query, taken to the latent, beside its rotated part. -/
theorem final21 (c : Dev nD) : (dats m 0 c).arrAt 21 (cfgs 0).N = val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) := by
  refine (dats m 0 c).arrAt_eq_of_covers 21 _ (by decide +kernel) fun t _ y => ?_
  blk_simp
  rw [after0_21]
  canon_tiles x h using cover0_21 ..
  · unfold k0_pay71
    have h := pay77 m c t
    rw [h, entry]
    generalize val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg5)) = Q
    simp (disch := decide) only [View.ld_unit_lit']
    pointwise []
    blk_simp [idx_heads t]
    refine right_half (by omega) fun u => ?_
    blk_point [iblk, V, idx_heads t, idx_in t, row, token]
  · unfold k0_pay70
    have h := pay77 m c t
    rw [h, entry]
    generalize val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg5)) = Q
    simp (disch := decide) only [View.ld_unit_lit']
    pointwise []
    blk_simp [idx_heads t]
    refine left_half (by omega) fun u => ?_
    blk_point [iblk, V, idx_heads t, idx_in t, row, token]
  · unfold k0_pay69
    have h := pay77 m c t
    rw [h, entry]
    generalize val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg5)) = Q
    simp (disch := decide) only [View.ld_unit_lit']
    pointwise []
    blk_simp [idx_heads t]
    refine right_half (by omega) fun u => ?_
    blk_point [iblk, V, idx_heads t, idx_in t, row, token]
  · unfold k0_pay68 k0_pay67
    have h := pay77 m c t
    rw [h, entry]
    generalize val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg5)) = Q
    simp (disch := decide) only [View.ld_unit_lit']
    pointwise []
    blk_simp [idx_heads t]
    refine left_half (by omega) fun u => ?_
    blk_point [iblk, V, idx_heads t, idx_in t, row, token]
  · unfold k0_pay66
    have h := pay77 m c t
    rw [h, entry]
    generalize val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg5)) = Q
    simp (disch := decide) only [View.ld_unit_lit']
    pointwise []
    blk_simp [idx_heads t]
    refine right_half (by omega) fun u => ?_
    blk_point [iblk, V, idx_heads t, idx_in t, row, token]
  · unfold k0_pay65
    have h := pay77 m c t
    rw [h, entry]
    generalize val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg5)) = Q
    simp (disch := decide) only [View.ld_unit_lit']
    pointwise []
    blk_simp [idx_heads t]
    refine left_half (by omega) fun u => ?_
    blk_point [iblk, V, idx_heads t, idx_in t, row, token]
  · unfold k0_pay64
    have h := pay77 m c t
    rw [h, entry]
    generalize val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg5)) = Q
    simp (disch := decide) only [View.ld_unit_lit']
    pointwise []
    blk_simp [idx_heads t]
    refine right_half (by omega) fun u => ?_
    blk_point [iblk, V, idx_heads t, idx_in t, row, token]
  · unfold k0_pay63 k0_pay62 k0_pay61
    have h := pay77 m c t
    rw [h, entry]
    generalize val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg5)) = Q
    simp (disch := decide) only [View.ld_unit_lit']
    pointwise []
    blk_simp [idx_heads t]
    refine left_half (by omega) fun u => ?_
    blk_point [iblk, V, idx_heads t, idx_in t, row, token]
  · unfold k0_pay60
    have h := pay77 m c t
    rw [h, entry]
    generalize val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg5)) = Q
    simp (disch := decide) only [View.ld_unit_lit']
    pointwise []
    blk_simp [idx_heads t]
    refine right_half (by omega) fun u => ?_
    blk_point [iblk, V, idx_heads t, idx_in t, row, token]
  · unfold k0_pay59
    have h := pay77 m c t
    rw [h, entry]
    generalize val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg5)) = Q
    simp (disch := decide) only [View.ld_unit_lit']
    pointwise []
    blk_simp [idx_heads t]
    refine left_half (by omega) fun u => ?_
    blk_point [iblk, V, idx_heads t, idx_in t, row, token]
  · unfold k0_pay58 k0_pay56
    have h := pay77 m c t
    rw [h, entry]
    generalize val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg5)) = Q
    simp (disch := decide) only [View.ld_unit_lit']
    pointwise []
    blk_simp [idx_heads t]
    refine right_half (by omega) fun u => ?_
    blk_point [iblk, V, idx_heads t, idx_in t, row, token]
  · unfold k0_pay57 k0_pay55
    have h := pay77 m c t
    rw [h, entry]
    generalize val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg5)) = Q
    simp (disch := decide) only [View.ld_unit_lit']
    pointwise []
    blk_simp [idx_heads t]
    refine left_half (by omega) fun u => ?_
    blk_point [iblk, V, idx_heads t, idx_in t, row, token]
  · unfold k0_pay54
    have h := pay77 m c t
    rw [h, entry]
    generalize val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg5)) = Q
    simp (disch := decide) only [View.ld_unit_lit']
    pointwise []
    blk_simp [idx_heads t]
    refine right_half (by omega) fun u => ?_
    blk_point [iblk, V, idx_heads t, idx_in t, row, token]
  · unfold k0_pay53
    have h := pay77 m c t
    rw [h, entry]
    generalize val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg5)) = Q
    simp (disch := decide) only [View.ld_unit_lit']
    pointwise []
    blk_simp [idx_heads t]
    refine left_half (by omega) fun u => ?_
    blk_point [iblk, V, idx_heads t, idx_in t, row, token]
  · unfold k0_pay52 k0_pay49
    have h := pay77 m c t
    unfold k0_pay77 at h
    rw [h, entry]
    generalize val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg5)) = Q
    simp (disch := decide) only [View.ld_unit_lit']
    pointwise []
    blk_simp [idx_heads t]
    refine right_half (by omega) fun u => ?_
    blk_point [iblk, V, idx_heads t, idx_in t, row, token]
  · unfold k0_pay51 k0_pay50
    have h := pay77 m c t
    unfold k0_pay77 at h
    rw [h, entry]
    generalize val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg5)) = Q
    simp (disch := decide) only [View.ld_unit_lit']
    pointwise []
    blk_simp [idx_heads t]
    refine left_half (by omega) fun u => ?_
    blk_point [iblk, V, idx_heads t, idx_in t, row, token]

end Cert.PreMixIdeal.Plain

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.Pre_finite_scores
public import proofs.«01_k».proof.Proof.Gen.ReferenceIdeal
public import proofs.«01_k».proof.Proof.Gen.ReferenceIdeal.Run
public import proofs.«01_k».proof.Proof.Gen.ReferenceIdeal.Read
public import proofs.«01_k».proof.Proof.K.Quiet
public import proofs.«01_k».proof.Proof.KI.Final
public import proofs.«01_k».proof.Proof.KI.Pre
public import proofs.«01_k».proof.Proof.Gen.Mlp.Frame
public import proofs.«01_k».proof.Proof.Gen.Merge.Frame
public import proofs.«01_k».proof.Proof.Gen.Ple.Frame
public import proofs.«01_k».proof.Proof.Gen.OutProj.Frame
public import proofs.«01_k».proof.Proof.Gen.MlpIdeal.Value
public import proofs.«01_k».proof.Proof.Gen.MlpRefIdeal.Run
public import proofs.«01_k».proof.Proof.Gen.MlpRefIdeal.Read
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.PleIdeal.Value
public import proofs.«01_k».proof.Proof.Gen.PleRefIdeal.Run
public import proofs.«01_k».proof.Proof.Gen.PleRefIdeal.Read
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Gen.PreMix.Frame
public import proofs.«01_k».proof.Proof.Gen.PreMixIdeal.Value
public import proofs.«01_k».proof.Proof.Gen.PreMixRefIdeal.Run
public import proofs.«01_k».proof.Proof.Gen.PreMixRefIdeal.Read
public import proofs.«01_k».proof.Proof.Mlp.Final
public import proofs.«01_k».proof.Proof.Merge.Final
public import proofs.«01_k».proof.Proof.Ple.Final
public import proofs.«01_k».proof.Proof.OutProj.Final
public import proofs.«01_k».proof.Proof.PreMix.Simple
public import proofs.«01_k».proof.Proof.PreMix.Joined
public import proofs.«01_k».proof.Proof.PreMix.Heads
public import proofs.«01_k».proof.Proof.PreMix.Groups
public import proofs.«01_k».proof.Proof.PreMix.Queries
public import Idealize.ShloMosaic.Adequacy
public import Idealize.ShloMosaic.Init

@[expose] public section

noncomputable section

namespace Cert.Proof

open Idealize.ShloMosaic Idealize.SL.Sem Cert.Kernel

theorem frame_kernelIdeal : Cert.quiescent_KernelIdeal := fun m g _ =>
  (θ_run (Cert.KernelIdeal.defs (F := Ideal)) _ _).mono (fun _ h => ⟨fun c => (h.1 c).2, h.2⟩) (Cert.KernelIdeal.Att.run m g)

theorem frame_referenceIdeal : Cert.quiescent_ReferenceIdeal := fun m g _ =>
  (θ_run (Cert.ReferenceIdeal.defs (F := Ideal)) _ _).mono
    (fun r h => ⟨fun c => (h c).2, sem_eq_zero_of_no_sems (by decide) r.2⟩) (Cert.ReferenceIdeal.Value.run (F := Ideal) m g)

/-- The call and the plain attention end with the same array: the plain attention of the call's arguments. -/
theorem equal_attention : Cert.algebraic_KernelIdeal_ReferenceIdeal_pre_finite_scores := by
  intro m g m' g' hpre hargs
  refine ⟨fun c => Cert.KernelIdeal.Att.outG m c, ?_, ?_⟩
  · exact (θ_run (Cert.KernelIdeal.defs (F := Ideal)) _ _).mono (fun _ h c => h.1 c) (Cert.KernelIdeal.Att.run m g)
  · refine (θ_run (Cert.ReferenceIdeal.defs (F := Ideal)) _ _).mono (fun _ h c => ⟨(h c).1.trans ?_, (h c).2⟩)
      (Cert.ReferenceIdeal.Value.run (F := Ideal) m' g')
    have f := hpre c
    obtain ⟨a0, a1, a2, a3⟩ := hargs c
    refine (Cert.ReferenceIdeal.Read.val_main_v45_eq m' c).trans ?_
    refine Eq.trans ?_ (Cert.KernelIdeal.Att.outG_eq m c
      (fun i => Cert.Pre_finite_scores.queries_real _ _ _ _ f i) (fun i => Cert.Pre_finite_scores.keys_real _ _ _ _ f i)).symm
    rw [a0, a1, a2, a3]

theorem frame_mlpRef : Cert.quiescent_MlpRefIdeal := fun m g _ =>
  (θ_run (Cert.MlpRefIdeal.defs (F := Ideal)) _ _).mono
    (fun r h => ⟨fun c => (h c).2, sem_eq_zero_of_no_sems (by decide) r.2⟩) (Cert.MlpRefIdeal.Value.run (F := Ideal) m g)

/-- The squared-relu layer: call and plain function end with the same array. -/
theorem equal_mlp : Cert.algebraic_MlpIdeal_MlpRefIdeal := by
  intro m g m' g' hpre hargs
  refine ⟨fun c => Cert.MlpRefIdeal.Read.val_main_v18 (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)), ?_, ?_⟩
  · exact (θ_run (Cert.MlpIdeal.defs (F := Ideal)) _ _).mono (fun _ h c => ⟨(h c).1.trans (Cert.MlpIdeal.Plain.final m c), (h c).2⟩)
      (Cert.MlpIdeal.Value.run_blocks (F := Ideal) m g)
  · refine (θ_run (Cert.MlpRefIdeal.defs (F := Ideal)) _ _).mono (fun _ h c => ⟨(h c).1.trans ?_, (h c).2⟩) (Cert.MlpRefIdeal.Value.run (F := Ideal) m' g')
    obtain ⟨a0, a1, a2, a3, a4⟩ := hargs c
    refine (Cert.MlpRefIdeal.Read.val_main_v18_eq _ _ _ _ _).trans ?_
    rw [a0, a1, a2, a3, a4]

theorem frame_mergeRef : Cert.quiescent_MergeRefIdeal := fun m g _ =>
  (θ_run (Cert.MergeRefIdeal.defs (F := Ideal)) _ _).mono
    (fun r h => ⟨fun c => (h c).2, sem_eq_zero_of_no_sems (by decide) r.2⟩) (Cert.MergeRefIdeal.Value.run (F := Ideal) m g)

/-- The gated merge: call and plain function end with the same array. -/
theorem equal_merge : Cert.algebraic_MergeIdeal_MergeRefIdeal := by
  intro m g m' g' hpre hargs
  refine ⟨fun c => Cert.MergeRefIdeal.Read.val_main_v44 (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)), ?_, ?_⟩
  · exact (θ_run (Cert.MergeIdeal.defs (F := Ideal)) _ _).mono (fun _ h c => ⟨(h c).1.trans (Cert.MergeIdeal.Plain.final m c), (h c).2⟩)
      (Cert.MergeIdeal.Value.run_blocks (F := Ideal) m g)
  · refine (θ_run (Cert.MergeRefIdeal.defs (F := Ideal)) _ _).mono (fun _ h c => ⟨(h c).1.trans ?_, (h c).2⟩) (Cert.MergeRefIdeal.Value.run (F := Ideal) m' g')
    obtain ⟨a0, a1, a2, a3, a4, a5, a6, a7, a8, a9⟩ := hargs c
    refine (Cert.MergeRefIdeal.Read.val_main_v44_eq m' c).trans ?_
    rw [a0, a1, a2, a3, a4, a5, a6, a7, a8, a9]

theorem frame_pleRef : Cert.quiescent_PleRefIdeal := fun m g _ =>
  (θ_run (Cert.PleRefIdeal.defs (F := Ideal)) _ _).mono
    (fun r h => ⟨fun c => (h c).2, sem_eq_zero_of_no_sems (by decide) r.2⟩) (Cert.PleRefIdeal.Value.run (F := Ideal) m g)

/-- The per-layer embedding: call and plain function end with the same array. -/
theorem equal_ple : Cert.algebraic_PleIdeal_PleRefIdeal := by
  intro m g m' g' hpre hargs
  refine ⟨fun c => Cert.PleRefIdeal.Read.val_main_v22 (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)), ?_, ?_⟩
  · exact (θ_run (Cert.PleIdeal.defs (F := Ideal)) _ _).mono (fun _ h c => ⟨(h c).1.trans (Cert.PleIdeal.Plain.final m c), (h c).2⟩)
      (Cert.PleIdeal.Value.run_blocks (F := Ideal) m g)
  · refine (θ_run (Cert.PleRefIdeal.defs (F := Ideal)) _ _).mono (fun _ h c => ⟨(h c).1.trans ?_, (h c).2⟩) (Cert.PleRefIdeal.Value.run (F := Ideal) m' g')
    obtain ⟨a0, a1, a2, a3, a4⟩ := hargs c
    refine (Cert.PleRefIdeal.Read.val_main_v22_eq _ _ _ _ _).trans ?_
    rw [a0, a1, a2, a3, a4]

theorem frame_outprojRef : Cert.quiescent_OutProjRefIdeal := fun m g _ =>
  (θ_run (Cert.OutProjRefIdeal.defs (F := Ideal)) _ _).mono
    (fun r h => ⟨fun c => (h c).2.2, sem_eq_zero_of_no_sems (by decide) r.2⟩) (Cert.OutProjRefIdeal.Value.run (F := Ideal) m g)

/-- The output projection: call and plain functions end with the same two arrays. -/
theorem equal_outproj : Cert.algebraic_OutProjIdeal_OutProjRefIdeal := by
  intro m g m' g' hpre hargs
  refine ⟨fun c => Cert.OutProjRefIdeal.Read.val_main_v15 (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)),
    fun c => Cert.OutProjRefIdeal.Read.val_main_v29 (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)), ?_, ?_⟩
  · exact (θ_run (Cert.OutProjIdeal.defs (F := Ideal)) _ _).mono
      (fun _ h c => ⟨(h c).1.trans (Cert.OutProjIdeal.Plain.final m c), (h c).2.1.trans (Cert.OutProjIdeal.Plain.final_norm m c), (h c).2.2⟩)
      (Cert.OutProjIdeal.Value.run_blocks (F := Ideal) m g)
  · refine (θ_run (Cert.OutProjRefIdeal.defs (F := Ideal)) _ _).mono (fun _ h c => ⟨(h c).1.trans ?_, (h c).2.1.trans ?_, (h c).2.2⟩)
      (Cert.OutProjRefIdeal.Value.run (F := Ideal) m' g')
    · obtain ⟨a0, a1, a2, a3, a4⟩ := hargs c
      refine (Cert.OutProjRefIdeal.Read.val_main_v15_eq _ _ _ _).trans ?_
      rw [a0, a1, a2, a3]
    · obtain ⟨a0, a1, a2, a3, a4⟩ := hargs c
      refine (Cert.OutProjRefIdeal.Read.val_main_v29_eq m' c).trans ?_
      rw [a0, a1, a2, a3, a4]

theorem frame_premixRef : Cert.quiescent_PreMixRefIdeal := fun m g _ =>
  (θ_run (Cert.PreMixRefIdeal.defs (F := Ideal)) _ _).mono
    (fun r h => ⟨fun c => (h c).2.2.2.2.2.2.2.2.2.2.2.2.2.2.2.2, sem_eq_zero_of_no_sems (by decide) r.2⟩) (Cert.PreMixRefIdeal.Value.run (F := Ideal) m g)

set_option maxHeartbeats 4000000 in
/-- The projections before the attentions: call and plain functions end with the same sixteen arrays. -/
theorem equal_premix : Cert.algebraic_PreMixIdeal_PreMixRefIdeal := by
  intro m g m' g' hpre hargs
  refine ⟨fun c => Cert.PreMixRefIdeal.Read.val_main_v36 (F := Ideal) (m ((c.tc : Thread Cert.PreMixIdeal.nD Cert.PreMixIdeal.τ).loc Cert.PreMixIdeal.main_arg0)) (m ((c.tc : Thread Cert.PreMixIdeal.nD Cert.PreMixIdeal.τ).loc Cert.PreMixIdeal.main_arg1)) (m ((c.tc : Thread Cert.PreMixIdeal.nD Cert.PreMixIdeal.τ).loc Cert.PreMixIdeal.main_arg2)) (m ((c.tc : Thread Cert.PreMixIdeal.nD Cert.PreMixIdeal.τ).loc Cert.PreMixIdeal.main_arg4)),
    fun c => Cert.PreMixRefIdeal.Read.val_main_v90 (F := Ideal) (m ((c.tc : Thread Cert.PreMixIdeal.nD Cert.PreMixIdeal.τ).loc Cert.PreMixIdeal.main_arg0)) (m ((c.tc : Thread Cert.PreMixIdeal.nD Cert.PreMixIdeal.τ).loc Cert.PreMixIdeal.main_arg1)) (m ((c.tc : Thread Cert.PreMixIdeal.nD Cert.PreMixIdeal.τ).loc Cert.PreMixIdeal.main_arg2)) (m ((c.tc : Thread Cert.PreMixIdeal.nD Cert.PreMixIdeal.τ).loc Cert.PreMixIdeal.main_arg7)) (m ((c.tc : Thread Cert.PreMixIdeal.nD Cert.PreMixIdeal.τ).loc Cert.PreMixIdeal.main_arg8)),
    fun c => Cert.PreMixRefIdeal.Read.val_main_v19 (F := Ideal) (m ((c.tc : Thread Cert.PreMixIdeal.nD Cert.PreMixIdeal.τ).loc Cert.PreMixIdeal.main_arg0)) (m ((c.tc : Thread Cert.PreMixIdeal.nD Cert.PreMixIdeal.τ).loc Cert.PreMixIdeal.main_arg1)) (m ((c.tc : Thread Cert.PreMixIdeal.nD Cert.PreMixIdeal.τ).loc Cert.PreMixIdeal.main_arg2)),
    fun c => Cert.PreMixRefIdeal.Read.val_main_v20 (F := Ideal) (m ((c.tc : Thread Cert.PreMixIdeal.nD Cert.PreMixIdeal.τ).loc Cert.PreMixIdeal.main_arg0)) (m ((c.tc : Thread Cert.PreMixIdeal.nD Cert.PreMixIdeal.τ).loc Cert.PreMixIdeal.main_arg1)) (m ((c.tc : Thread Cert.PreMixIdeal.nD Cert.PreMixIdeal.τ).loc Cert.PreMixIdeal.main_arg2)),
    fun c => Cert.PreMixRefIdeal.Read.val_main_v22 (F := Ideal) (m ((c.tc : Thread Cert.PreMixIdeal.nD Cert.PreMixIdeal.τ).loc Cert.PreMixIdeal.main_arg0)) (m ((c.tc : Thread Cert.PreMixIdeal.nD Cert.PreMixIdeal.τ).loc Cert.PreMixIdeal.main_arg1)) (m ((c.tc : Thread Cert.PreMixIdeal.nD Cert.PreMixIdeal.τ).loc Cert.PreMixIdeal.main_arg2)),
    fun c => Cert.PreMixRefIdeal.Read.val_main_v23 (F := Ideal) (m ((c.tc : Thread Cert.PreMixIdeal.nD Cert.PreMixIdeal.τ).loc Cert.PreMixIdeal.main_arg0)) (m ((c.tc : Thread Cert.PreMixIdeal.nD Cert.PreMixIdeal.τ).loc Cert.PreMixIdeal.main_arg1)) (m ((c.tc : Thread Cert.PreMixIdeal.nD Cert.PreMixIdeal.τ).loc Cert.PreMixIdeal.main_arg2)),
    fun c => Cert.PreMixRefIdeal.Read.val_main_v92 (F := Ideal) (m ((c.tc : Thread Cert.PreMixIdeal.nD Cert.PreMixIdeal.τ).loc Cert.PreMixIdeal.main_arg0)) (m ((c.tc : Thread Cert.PreMixIdeal.nD Cert.PreMixIdeal.τ).loc Cert.PreMixIdeal.main_arg1)) (m ((c.tc : Thread Cert.PreMixIdeal.nD Cert.PreMixIdeal.τ).loc Cert.PreMixIdeal.main_arg2)) (m ((c.tc : Thread Cert.PreMixIdeal.nD Cert.PreMixIdeal.τ).loc Cert.PreMixIdeal.main_arg4)) (m ((c.tc : Thread Cert.PreMixIdeal.nD Cert.PreMixIdeal.τ).loc Cert.PreMixIdeal.main_arg7)) (m ((c.tc : Thread Cert.PreMixIdeal.nD Cert.PreMixIdeal.τ).loc Cert.PreMixIdeal.main_arg8)),
    fun c => Cert.PreMixRefIdeal.Read.val_main_v94 (F := Ideal) (m ((c.tc : Thread Cert.PreMixIdeal.nD Cert.PreMixIdeal.τ).loc Cert.PreMixIdeal.main_arg0)) (m ((c.tc : Thread Cert.PreMixIdeal.nD Cert.PreMixIdeal.τ).loc Cert.PreMixIdeal.main_arg1)) (m ((c.tc : Thread Cert.PreMixIdeal.nD Cert.PreMixIdeal.τ).loc Cert.PreMixIdeal.main_arg2)) (m ((c.tc : Thread Cert.PreMixIdeal.nD Cert.PreMixIdeal.τ).loc Cert.PreMixIdeal.main_arg4)),
    fun c => Cert.PreMixRefIdeal.Read.val_main_v95 (F := Ideal) (m ((c.tc : Thread Cert.PreMixIdeal.nD Cert.PreMixIdeal.τ).loc Cert.PreMixIdeal.main_arg0)) (m ((c.tc : Thread Cert.PreMixIdeal.nD Cert.PreMixIdeal.τ).loc Cert.PreMixIdeal.main_arg1)) (m ((c.tc : Thread Cert.PreMixIdeal.nD Cert.PreMixIdeal.τ).loc Cert.PreMixIdeal.main_arg2)),
    fun c => Cert.PreMixRefIdeal.Read.val_main_v97 (F := Ideal) (m ((c.tc : Thread Cert.PreMixIdeal.nD Cert.PreMixIdeal.τ).loc Cert.PreMixIdeal.main_arg0)) (m ((c.tc : Thread Cert.PreMixIdeal.nD Cert.PreMixIdeal.τ).loc Cert.PreMixIdeal.main_arg1)) (m ((c.tc : Thread Cert.PreMixIdeal.nD Cert.PreMixIdeal.τ).loc Cert.PreMixIdeal.main_arg2)),
    fun c => Cert.PreMixRefIdeal.Read.val_main_v98 (F := Ideal) (m ((c.tc : Thread Cert.PreMixIdeal.nD Cert.PreMixIdeal.τ).loc Cert.PreMixIdeal.main_arg0)) (m ((c.tc : Thread Cert.PreMixIdeal.nD Cert.PreMixIdeal.τ).loc Cert.PreMixIdeal.main_arg1)) (m ((c.tc : Thread Cert.PreMixIdeal.nD Cert.PreMixIdeal.τ).loc Cert.PreMixIdeal.main_arg2)),
    fun c => Cert.PreMixRefIdeal.Read.val_main_v100 (F := Ideal) (m ((c.tc : Thread Cert.PreMixIdeal.nD Cert.PreMixIdeal.τ).loc Cert.PreMixIdeal.main_arg0)) (m ((c.tc : Thread Cert.PreMixIdeal.nD Cert.PreMixIdeal.τ).loc Cert.PreMixIdeal.main_arg1)) (m ((c.tc : Thread Cert.PreMixIdeal.nD Cert.PreMixIdeal.τ).loc Cert.PreMixIdeal.main_arg2)),
    fun c => Cert.PreMixRefIdeal.Read.val_main_v104 (F := Ideal) (m ((c.tc : Thread Cert.PreMixIdeal.nD Cert.PreMixIdeal.τ).loc Cert.PreMixIdeal.main_arg0)) (m ((c.tc : Thread Cert.PreMixIdeal.nD Cert.PreMixIdeal.τ).loc Cert.PreMixIdeal.main_arg1)) (m ((c.tc : Thread Cert.PreMixIdeal.nD Cert.PreMixIdeal.τ).loc Cert.PreMixIdeal.main_arg2)) (m ((c.tc : Thread Cert.PreMixIdeal.nD Cert.PreMixIdeal.τ).loc Cert.PreMixIdeal.main_arg3)) (m ((c.tc : Thread Cert.PreMixIdeal.nD Cert.PreMixIdeal.τ).loc Cert.PreMixIdeal.main_arg5)) (m ((c.tc : Thread Cert.PreMixIdeal.nD Cert.PreMixIdeal.τ).loc Cert.PreMixIdeal.main_arg6)) (m ((c.tc : Thread Cert.PreMixIdeal.nD Cert.PreMixIdeal.τ).loc Cert.PreMixIdeal.main_arg7)) (m ((c.tc : Thread Cert.PreMixIdeal.nD Cert.PreMixIdeal.τ).loc Cert.PreMixIdeal.main_arg8)),
    fun c => Cert.PreMixRefIdeal.Read.val_main_v107 (F := Ideal) (m ((c.tc : Thread Cert.PreMixIdeal.nD Cert.PreMixIdeal.τ).loc Cert.PreMixIdeal.main_arg0)) (m ((c.tc : Thread Cert.PreMixIdeal.nD Cert.PreMixIdeal.τ).loc Cert.PreMixIdeal.main_arg1)) (m ((c.tc : Thread Cert.PreMixIdeal.nD Cert.PreMixIdeal.τ).loc Cert.PreMixIdeal.main_arg2)),
    fun c => Cert.PreMixRefIdeal.Read.val_main_v110 (F := Ideal) (m ((c.tc : Thread Cert.PreMixIdeal.nD Cert.PreMixIdeal.τ).loc Cert.PreMixIdeal.main_arg0)) (m ((c.tc : Thread Cert.PreMixIdeal.nD Cert.PreMixIdeal.τ).loc Cert.PreMixIdeal.main_arg1)) (m ((c.tc : Thread Cert.PreMixIdeal.nD Cert.PreMixIdeal.τ).loc Cert.PreMixIdeal.main_arg2)),
    fun c => Cert.PreMixRefIdeal.Read.val_main_v112 (F := Ideal) (m ((c.tc : Thread Cert.PreMixIdeal.nD Cert.PreMixIdeal.τ).loc Cert.PreMixIdeal.main_arg0)) (m ((c.tc : Thread Cert.PreMixIdeal.nD Cert.PreMixIdeal.τ).loc Cert.PreMixIdeal.main_arg1)) (m ((c.tc : Thread Cert.PreMixIdeal.nD Cert.PreMixIdeal.τ).loc Cert.PreMixIdeal.main_arg2)), ?_, ?_⟩
  · exact (θ_run (Cert.PreMixIdeal.defs (F := Ideal)) _ _).mono
      (fun _ h c => ⟨(h c).1.trans (Cert.PreMixIdeal.Plain.final9 m c),
        (h c).2.1.trans (Cert.PreMixIdeal.Plain.final10 m c),
        (h c).2.2.1.trans (Cert.PreMixIdeal.Plain.final11 m c),
        (h c).2.2.2.1.trans (Cert.PreMixIdeal.Plain.final12 m c),
        (h c).2.2.2.2.1.trans (Cert.PreMixIdeal.Plain.final13 m c),
        (h c).2.2.2.2.2.1.trans (Cert.PreMixIdeal.Plain.final14 m c),
        (h c).2.2.2.2.2.2.1.trans (Cert.PreMixIdeal.Plain.final15 m c),
        (h c).2.2.2.2.2.2.2.1.trans (Cert.PreMixIdeal.Plain.final16 m c),
        (h c).2.2.2.2.2.2.2.2.1.trans (Cert.PreMixIdeal.Plain.final17 m c),
        (h c).2.2.2.2.2.2.2.2.2.1.trans (Cert.PreMixIdeal.Plain.final18 m c),
        (h c).2.2.2.2.2.2.2.2.2.2.1.trans (Cert.PreMixIdeal.Plain.final19 m c),
        (h c).2.2.2.2.2.2.2.2.2.2.2.1.trans (Cert.PreMixIdeal.Plain.final20 m c),
        (h c).2.2.2.2.2.2.2.2.2.2.2.2.1.trans (Cert.PreMixIdeal.Plain.final21 m c),
        (h c).2.2.2.2.2.2.2.2.2.2.2.2.2.1.trans (Cert.PreMixIdeal.Plain.final22 m c),
        (h c).2.2.2.2.2.2.2.2.2.2.2.2.2.2.1.trans (Cert.PreMixIdeal.Plain.final23 m c),
        (h c).2.2.2.2.2.2.2.2.2.2.2.2.2.2.2.1.trans (Cert.PreMixIdeal.Plain.final24 m c), (h c).2.2.2.2.2.2.2.2.2.2.2.2.2.2.2.2⟩)
      (Cert.PreMixIdeal.Value.run_blocks (F := Ideal) m g)
  · refine (θ_run (Cert.PreMixRefIdeal.defs (F := Ideal)) _ _).mono
      (fun _ h c => ⟨(h c).1.trans ?_,
        (h c).2.1.trans ?_,
        (h c).2.2.1.trans ?_,
        (h c).2.2.2.1.trans ?_,
        (h c).2.2.2.2.1.trans ?_,
        (h c).2.2.2.2.2.1.trans ?_,
        (h c).2.2.2.2.2.2.1.trans ?_,
        (h c).2.2.2.2.2.2.2.1.trans ?_,
        (h c).2.2.2.2.2.2.2.2.1.trans ?_,
        (h c).2.2.2.2.2.2.2.2.2.1.trans ?_,
        (h c).2.2.2.2.2.2.2.2.2.2.1.trans ?_,
        (h c).2.2.2.2.2.2.2.2.2.2.2.1.trans ?_,
        (h c).2.2.2.2.2.2.2.2.2.2.2.2.1.trans ?_,
        (h c).2.2.2.2.2.2.2.2.2.2.2.2.2.1.trans ?_,
        (h c).2.2.2.2.2.2.2.2.2.2.2.2.2.2.1.trans ?_,
        (h c).2.2.2.2.2.2.2.2.2.2.2.2.2.2.2.1.trans ?_, (h c).2.2.2.2.2.2.2.2.2.2.2.2.2.2.2.2⟩)
      (Cert.PreMixRefIdeal.Value.run (F := Ideal) m' g')
    · obtain ⟨a0, a1, a2, a3, a4, a5, a6, a7, a8⟩ := hargs c
      refine (Cert.PreMixRefIdeal.Read.val_main_v36_eq _ _ _ _).trans ?_
      rw [a0, a1, a2, a4]
    · obtain ⟨a0, a1, a2, a3, a4, a5, a6, a7, a8⟩ := hargs c
      refine (Cert.PreMixRefIdeal.Read.val_main_v90_eq _ _ _ _ _).trans ?_
      rw [a0, a1, a2, a7, a8]
    · obtain ⟨a0, a1, a2, a3, a4, a5, a6, a7, a8⟩ := hargs c
      refine (Cert.PreMixRefIdeal.Read.val_main_v19_eq _ _ _).trans ?_
      rw [a0, a1, a2]
    · obtain ⟨a0, a1, a2, a3, a4, a5, a6, a7, a8⟩ := hargs c
      refine (Cert.PreMixRefIdeal.Read.val_main_v20_eq _ _ _).trans ?_
      rw [a0, a1, a2]
    · obtain ⟨a0, a1, a2, a3, a4, a5, a6, a7, a8⟩ := hargs c
      refine (Cert.PreMixRefIdeal.Read.val_main_v22_eq _ _ _).trans ?_
      rw [a0, a1, a2]
    · obtain ⟨a0, a1, a2, a3, a4, a5, a6, a7, a8⟩ := hargs c
      refine (Cert.PreMixRefIdeal.Read.val_main_v23_eq _ _ _).trans ?_
      rw [a0, a1, a2]
    · obtain ⟨a0, a1, a2, a3, a4, a5, a6, a7, a8⟩ := hargs c
      refine (Cert.PreMixRefIdeal.Read.val_main_v92_eq m' c).trans ?_
      rw [a0, a1, a2, a4, a7, a8]
    · obtain ⟨a0, a1, a2, a3, a4, a5, a6, a7, a8⟩ := hargs c
      refine (Cert.PreMixRefIdeal.Read.val_main_v94_eq _ _ _ _).trans ?_
      rw [a0, a1, a2, a4]
    · obtain ⟨a0, a1, a2, a3, a4, a5, a6, a7, a8⟩ := hargs c
      refine (Cert.PreMixRefIdeal.Read.val_main_v95_eq _ _ _).trans ?_
      rw [a0, a1, a2]
    · obtain ⟨a0, a1, a2, a3, a4, a5, a6, a7, a8⟩ := hargs c
      refine (Cert.PreMixRefIdeal.Read.val_main_v97_eq _ _ _).trans ?_
      rw [a0, a1, a2]
    · obtain ⟨a0, a1, a2, a3, a4, a5, a6, a7, a8⟩ := hargs c
      refine (Cert.PreMixRefIdeal.Read.val_main_v98_eq _ _ _).trans ?_
      rw [a0, a1, a2]
    · obtain ⟨a0, a1, a2, a3, a4, a5, a6, a7, a8⟩ := hargs c
      refine (Cert.PreMixRefIdeal.Read.val_main_v100_eq _ _ _).trans ?_
      rw [a0, a1, a2]
    · obtain ⟨a0, a1, a2, a3, a4, a5, a6, a7, a8⟩ := hargs c
      refine (Cert.PreMixRefIdeal.Read.val_main_v104_eq m' c).trans ?_
      rw [a0, a1, a2, a3, a5, a6, a7, a8]
    · obtain ⟨a0, a1, a2, a3, a4, a5, a6, a7, a8⟩ := hargs c
      refine (Cert.PreMixRefIdeal.Read.val_main_v107_eq _ _ _).trans ?_
      rw [a0, a1, a2]
    · obtain ⟨a0, a1, a2, a3, a4, a5, a6, a7, a8⟩ := hargs c
      refine (Cert.PreMixRefIdeal.Read.val_main_v110_eq _ _ _).trans ?_
      rw [a0, a1, a2]
    · obtain ⟨a0, a1, a2, a3, a4, a5, a6, a7, a8⟩ := hargs c
      refine (Cert.PreMixRefIdeal.Read.val_main_v112_eq _ _ _).trans ?_
      rw [a0, a1, a2]

theorem claim : Cert.Claim :=
  ⟨Cert.Kernel.Gen.facts, Cert.KernelIdeal.Gen.facts, Cert.ReferenceIdeal.Gen.facts,
    Cert.Mlp.Gen.facts, Cert.MlpIdeal.Gen.facts, Cert.MlpRefIdeal.Gen.facts,
    Cert.Merge.Gen.facts, Cert.MergeIdeal.Gen.facts, Cert.MergeRefIdeal.Gen.facts,
    Cert.Ple.Gen.facts, Cert.PleIdeal.Gen.facts, Cert.PleRefIdeal.Gen.facts,
    Cert.OutProj.Gen.facts, Cert.OutProjIdeal.Gen.facts, Cert.OutProjRefIdeal.Gen.facts,
    Cert.PreMix.Gen.facts, Cert.PreMixIdeal.Gen.facts, Cert.PreMixRefIdeal.Gen.facts,
    Cert.Pre_finite_scores.Gen.facts,
    fun m g _ => Cert.Kernel.Att.quiet m g,
    frame_kernelIdeal,
    fun m g _ => frame_kernelIdeal m g trivial,
    frame_referenceIdeal,
    fun m g _ => frame_referenceIdeal m g trivial,
    fun m g _ => Cert.Mlp.Gen.frame m g, fun m g _ => Cert.MlpIdeal.Gen.frame m g, frame_mlpRef,
    fun m g _ => Cert.Merge.Gen.frame m g, fun m g _ => Cert.MergeIdeal.Gen.frame m g, frame_mergeRef,
    fun m g _ => Cert.Ple.Gen.frame m g, fun m g _ => Cert.PleIdeal.Gen.frame m g, frame_pleRef,
    fun m g _ => Cert.OutProj.Gen.frame m g, fun m g _ => Cert.OutProjIdeal.Gen.frame m g, frame_outprojRef,
    fun m g _ => Cert.PreMix.Gen.frame m g, fun m g _ => Cert.PreMixIdeal.Gen.frame m g, frame_premixRef,
    ⟨IdealRules.named_const.statement Cert.KernelIdeal.κ "mask" .f32 0xF149F2CA#32 ⊥ rfl,
      IdealRules.named_const.statement Cert.KernelIdeal.κ "scale_log2e" .f32 0x3E16C740#32 _ rfl⟩,
    equal_attention,
    trivial, equal_mlp,
    trivial, equal_merge,
    trivial, equal_ple,
    trivial, equal_outproj,
    trivial, equal_premix⟩

end Cert.Proof

end
